-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6_1)) (v1 : (c : Dev Cert.KernelIdeal.nD) → Buf (Elt Ideal) ((c.tc : Thread Cert.KernelIdeal.nD Cert.KernelIdeal.τ).loc Cert.KernelIdeal.main_v6_2)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_1) = v0 c
          ∧ r.2.mem ((c.tc : Thread Cert.KernelIdeal.nD Cert.KernelIdeal.τ).loc Cert.KernelIdeal.main_v6_2) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_v106) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x2048x4096 : Shape := ⟨3, ![1, 2048, 4096]⟩
abbrev S4096x4096 : Shape := ⟨2, ![4096, 4096]⟩
abbrev S4096 : Shape := ⟨1, ![4096]⟩
abbrev S4096x8 : Shape := ⟨2, ![4096, 8]⟩
abbrev S8 : Shape := ⟨1, ![8]⟩
abbrev S_ : Shape := ⟨0, ![]⟩

class Facts : Prop where
  bcast_S_S1x2048x4096 : S_.BroadcastsInDim S1x2048x4096 (![] : Fin 0 → Fin S1x2048x4096.rank)
  bcast_S_S4096x4096 : S_.BroadcastsInDim S4096x4096 (![] : Fin 0 → Fin S4096x4096.rank)
  bcast_S_S4096 : S_.BroadcastsInDim S4096 (![] : Fin 0 → Fin S4096.rank)
  bcast_S_S4096x8 : S_.BroadcastsInDim S4096x8 (![] : Fin 0 → Fin S4096x8.rank)
  bcast_S_S8 : S_.BroadcastsInDim S8 (![] : Fin 0 → Fin S8.rank)

variable [Facts]

def fn {F : FTy → Type} [FloatOps F] (main_arg0 : FVec F S1x2048x4096 .f32) (main_arg1 : FVec F S4096x4096 .f32) (main_arg2 : FVec F S4096 .f32) (main_arg3 : FVec F S4096x8 .f32) (main_arg4 : FVec F S8 .f32) : IVec S1x2048x4096 1 × IVec S4096x4096 1 × IVec S4096 1 × IVec S4096x8 1 × IVec S8 1 :=
  let main_v0 : FVec F S1x2048x4096 .f32 := Host.absf main_arg0
  let main_cst : FVec F S_ .f32 := constant S_ .f32 0x7F800000#32
  let main_v1 : FVec F S1x2048x4096 .f32 := broadcastInDim S1x2048x4096 ![] bcast_S_S1x2048x4096 main_cst
  let main_v2 : IVec S1x2048x4096 1 := cmpf .olt main_v0 main_v1
  let main_v3 : FVec F S4096x4096 .f32 := Host.absf main_arg1
  let main_cst_0 : FVec F S_ .f32 := constant S_ .f32 0x7F800000#32
  let main_v4 : FVec F S4096x4096 .f32 := broadcastInDim S4096x4096 ![] bcast_S_S4096x4096 main_cst_0
  let main_v5 : IVec S4096x4096 1 := cmpf .olt main_v3 main_v4
  let main_v6 : FVec F S4096 .f32 := Host.absf main_arg2
  let main_cst_1 : FVec F S_ .f32 := constant S_ .f32 0x7F800000#32
  let main_v7 : FVec F S4096 .f32 := broadcastInDim S4096 ![] bcast_S_S4096 main_cst_1
  let main_v8 : IVec S4096 1 := cmpf .olt main_v6 main_v7
  let main_v9 : FVec F S4096x8 .f32 := Host.absf main_arg3
  let main_cst_2 : FVec F S_ .f32 := constant S_ .f32 0x7F800000#32
  let main_v10 : FVec F S4096x8 .f32 := broadcastInDim S4096x8 ![] bcast_S_S4096x8 main_cst_2
  let main_v11 : IVec S4096x8 1 := cmpf .olt main_v9 main_v10
  let main_v12 : FVec F S8 .f32 := Host.absf main_arg4
  let main_cst_3 : FVec F S_ .f32 := constant S_ .f32 0x7F800000#32
  let main_v13 : FVec F S8 .f32 := broadcastInDim S8 ![] bcast_S_S8 main_cst_3
  let main_v14 : IVec S8 1 := cmpf .olt main_v12 main_v13
  (main_v2, main_v5, main_v8, main_v11, main_v14)
-- ==== Kernel.lean ====
abbrev S1x2048x4096 : Shape := ⟨3, ![1, 2048, 4096]⟩
abbrev S4096x4096 : Shape := ⟨2, ![4096, 4096]⟩
abbrev S4096 : Shape := ⟨1, ![4096]⟩
abbrev S4096x8 : Shape := ⟨2, ![4096, 8]⟩
abbrev S8 : Shape := ⟨1, ![8]⟩
abbrev S2048x4096 : Shape := ⟨2, ![2048, 4096]⟩
abbrev S_ : Shape := ⟨0, ![]⟩
abbrev S4096x128 : Shape := ⟨2, ![4096, 128]⟩
abbrev S128 : Shape := ⟨1, ![128]⟩
abbrev S1x128 : Shape := ⟨2, ![1, 128]⟩
abbrev S1x4096 : Shape := ⟨2, ![1, 4096]⟩
abbrev S2048x128 : Shape := ⟨2, ![2048, 128]⟩
abbrev S1024x4096 : Shape := ⟨2, ![1024, 4096]⟩
abbrev S4096x512 : Shape := ⟨2, ![4096, 512]⟩
abbrev S1x512 : Shape := ⟨2, ![1, 512]⟩
abbrev S512x128 : Shape := ⟨2, ![512, 128]⟩
abbrev S1024x128 : Shape := ⟨2, ![1024, 128]⟩
abbrev S1024x512 : Shape := ⟨2, ![1024, 512]⟩
abbrev S1x2048x8x768 : Shape := ⟨4, ![1, 2048, 8, 768]⟩
abbrev S1x1 : Shape := ⟨2, ![1, 1]⟩
abbrev S256x128 : Shape := ⟨2, ![256, 128]⟩
abbrev S1x256x8x768 : Shape := ⟨4, ![1, 256, 8, 768]⟩
abbrev S256 : Shape := ⟨1, ![256]⟩
abbrev S256x1 : Shape := ⟨2, ![256, 1]⟩
abbrev S256x256 : Shape := ⟨2, ![256, 256]⟩
abbrev S256x8x1 : Shape := ⟨3, ![256, 8, 1]⟩
abbrev S256x1x1 : Shape := ⟨3, ![256, 1, 1]⟩
abbrev S256x8x768 : Shape := ⟨3, ![256, 8, 768]⟩
abbrev S1x1x128 : Shape := ⟨3, ![1, 1, 128]⟩
abbrev S1 : Shape := ⟨1, ![1]⟩
abbrev S1x1x1 : Shape := ⟨3, ![1, 1, 1]⟩
abbrev S2048x8 : Shape := ⟨2, ![2048, 8]⟩
abbrev S1x2048x8 : Shape := ⟨3, ![1, 2048, 8]⟩

abbrev nBuf : Space → Nat
  | .hbm => 22
  | .vmem => 22
  | .smem => 0
  | _ => 0

abbrev bufTy : (tb : Table) → Fin (tcTables nBuf tb) → BufTy
  | .hbm, ⟨0, _⟩ => ⟨S1x2048x4096, .f32⟩
  | .hbm, ⟨1, _⟩ => ⟨S4096x4096, .f32⟩
  | .hbm, ⟨2, _⟩ => ⟨S4096, .f32⟩
  | .hbm, ⟨3, _⟩ => ⟨S4096x8, .f32⟩
  | .hbm, ⟨4, _⟩ => ⟨S8, .f32⟩
  | .hbm, ⟨5, _⟩ => ⟨S2048x4096, .f32⟩
  | .hbm, ⟨6, _⟩ => ⟨S_, .i32⟩
  | .hbm, ⟨7, _⟩ => ⟨S_, .f32⟩
  | .hbm, ⟨8, _⟩ => ⟨S4096x128, .f32⟩
  | .hbm, ⟨9, _⟩ => ⟨S_, .i32⟩
  | .hbm, ⟨10, _⟩ => ⟨S_, .f32⟩
  | .hbm, ⟨11, _⟩ => ⟨S128, .f32⟩
  | .hbm, ⟨12, _⟩ => ⟨S1x128, .f32⟩
  | .hbm, ⟨13, _⟩ => ⟨S1x4096, .f32⟩
  | .hbm, ⟨14, _⟩ => ⟨S2048x128, .f32⟩
  | .hbm, ⟨15, _⟩ => ⟨S2048x128, .f32⟩
  | .hbm, ⟨16, _⟩ => ⟨S1x2048x8x768, .f32⟩
  | .hbm, ⟨17, _⟩ => ⟨S1x2048x8x768, .f32⟩
  | .hbm, ⟨18, _⟩ => ⟨S1x1, .f32⟩
  | .hbm, ⟨19, _⟩ => ⟨S2048x8, .f32⟩
  | .hbm, ⟨20, _⟩ => ⟨S1x2048x8, .f32⟩
  | .hbm, ⟨21, _⟩ => ⟨S_, .f32⟩
  | .local _ .vmem, ⟨0, _⟩ => ⟨S1024x4096, .f32⟩
  | .local _ .vmem, ⟨1, _⟩ => ⟨S1024x4096, .f32⟩
  | .local _ .vmem, ⟨2, _⟩ => ⟨S4096x512, .f32⟩
  | .local _ .vmem, ⟨3, _⟩ => ⟨S4096x512, .f32⟩
  | .local _ .vmem, ⟨4, _⟩ => ⟨S1x512, .f32⟩
  | .local _ .vmem, ⟨5, _⟩ => ⟨S1x512, .f32⟩
  | .local _ .vmem, ⟨6, _⟩ => ⟨S512x128, .f32⟩
  | .local _ .vmem, ⟨7, _⟩ => ⟨S512x128, .f32⟩
  | .local _ .vmem, ⟨8, _⟩ => ⟨S1024x128, .f32⟩
  | .local _ .vmem, ⟨9, _⟩ => ⟨S1024x128, .f32⟩
  | .local _ .vmem, ⟨10, _⟩ => ⟨S256x128, .f32⟩
  | .local _ .vmem, ⟨11, _⟩ => ⟨S256x128, .f32⟩
  | .local _ .vmem, ⟨12, _⟩ => ⟨S1x128, .f32⟩
  | .local _ .vmem, ⟨13, _⟩ => ⟨S256x128, .f32⟩
  | .local _ .vmem, ⟨14, _⟩ => ⟨S256x128, .f32⟩
  | .local _ .vmem, ⟨15, _⟩ => ⟨S1x256x8x768, .f32⟩
  | .local _ .vmem, ⟨16, _⟩ => ⟨S1x256x8x768, .f32⟩
  | .local _ .vmem, ⟨17, _⟩ => ⟨S1x256x8x768, .f32⟩
  | .local _ .vmem, ⟨18, _⟩ => ⟨S1x256x8x768, .f32⟩
  | .local _ .vmem, ⟨19, _⟩ => ⟨S1x1, .f32⟩
  | .local _ .vmem, ⟨20, _⟩ => ⟨S1x128, .f32⟩
  | .local _ .vmem, ⟨21, _⟩ => ⟨S1x128, .f32⟩
  | _, _ => ⟨S1x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_scratch0 : Ref sig .tc := ⟨.vmem, 20, rfl⟩
abbrev cc1_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v13 : BitVec 1 := Scalar.cmpi .eq arg1 c0_i32
  let v14 : BitVec 32 := Scalar.extui v13
  let c0_i32_9 : BitVec 32 := 0#32
  let v15 : BitVec 1 := Scalar.cmpi .ne v14 c0_i32_9
  v15

def k0_cond2 (i : grid0.Coords) : BitVec 1 :=
  let arg1 : BitVec 32 := BitVec.ofNat 32 (i 1).val
  let c0_i32_10 : BitVec 32 := 0#32
  let v16 : BitVec 1 := Scalar.cmpi .sgt arg1 c0_i32_10
  let v17 : BitVec 32 := Scalar.extui v16
  let c0_i32_11 : BitVec 32 := 0#32
  let v18 : BitVec 1 := Scalar.cmpi .ne v17 c0_i32_11
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![8], ![false]⟩

def k1_cond2 (i : grid1.Coords) : BitVec 1 :=
  let arg0 : BitVec 32 := BitVec.ofNat 32 (i 0).val
  let c7_i32 : BitVec 32 := 7#32
  let v137 : BitVec 1 := Scalar.cmpi .eq arg0 c7_i32
  let v138 : BitVec 32 := Scalar.extui v137
  let c0_i32_44 : BitVec 32 := 0#32
  let v139 : BitVec 1 := Scalar.cmpi .ne v138 c0_i32_44
  v139

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x8x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x8x768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]
-- ==== ReferenceIdeal.lean ====
abbrev S1x2048x4096 : Shape := ⟨3, ![1, 2048, 4096]⟩
abbrev S4096x4096 : Shape := ⟨2, ![4096, 4096]⟩
abbrev S4096 : Shape := ⟨1, ![4096]⟩
abbrev S4096x8 : Shape := ⟨2, ![4096, 8]⟩
abbrev S8 : Shape := ⟨1, ![8]⟩
abbrev S1x1x4096 : Shape := ⟨3, ![1, 1, 4096]⟩
abbrev S_ : Shape := ⟨0, ![]⟩
abbrev S1x2048x8 : Shape := ⟨3, ![1, 2048, 8]⟩
abbrev S1x1x8 : Shape := ⟨3, ![1, 1, 8]⟩
abbrev S1x2048 : Shape := ⟨2, ![1, 2048]⟩
abbrev S1x2048x1 : Shape := ⟨3, ![1, 2048, 1]⟩
abbrev S1x2048x2 : Shape := ⟨3, ![1, 2048, 2]⟩
abbrev S4096x1 : Shape := ⟨2, ![4096, 1]⟩
abbrev S1x8 : Shape := ⟨2, ![1, 8]⟩
abbrev S1x2048x8x768 : Shape := ⟨4, ![1, 2048, 8, 768]⟩
abbrev S4096x4 : Shape := ⟨2, ![4096, 4]⟩
abbrev S1x2048x2x1 : Shape := ⟨4, ![1, 2048, 2, 1]⟩
abbrev S1x1x1x8 : Shape := ⟨4, ![1, 1, 1, 8]⟩
abbrev S1x2048x2x8 : Shape := ⟨4, ![1, 2048, 2, 8]⟩

abbrev nBuf : Space → Nat
  | .hbm => 218
  | .vmem => 0
  | .smem => 0
  | _ => 0

abbrev hbmTy0_0 (i : Nat) : BufTy := match i % 128 with
  | 0 => ⟨S1x2048x4096, .f32⟩
  | 1 => ⟨S4096x4096, .f32⟩
  | 2 => ⟨S4096, .f32⟩
  | 3 => ⟨S4096x8, .f32⟩
  | 4 => ⟨S8, .f32⟩
  | 5 => ⟨S1x2048x4096, .f32⟩
  | 6 => ⟨S1x1x4096, .f32⟩
  | 7 => ⟨S1x2048x4096, .f32⟩
  | 8 => ⟨S1x2048x4096, .f32⟩
  | 9 => ⟨S_, .f32⟩
  | 10 => ⟨S1x2048x4096, .f32⟩
  | 11 => ⟨S1x2048x4096, .f32⟩
  | 12 => ⟨S1x2048x8, .f32⟩
  | 13 => ⟨S1x1x8, .f32⟩
  | 14 => ⟨S1x2048x8, .f32⟩
  | 15 => ⟨S1x2048x8, .f32⟩
  | 16 => ⟨S_, .f32⟩
  | 17 => ⟨S1x2048, .f32⟩
  | 18 => ⟨S_, .f32⟩
  | 19 => ⟨S1x2048, .f32⟩
  | 20 => ⟨S1x2048, .f32⟩
  | 21 => ⟨S1x2048x1, .f32⟩
  | 22 => ⟨S1x2048x8, .f32⟩
  | 23 => ⟨S1x2048x8, .f32⟩
  | 24 => ⟨S1x2048x8, .f32⟩
  | 25 => ⟨S_, .f32⟩
  | 26 => ⟨S1x2048, .f32⟩
  | 27 => ⟨S1x2048x1, .f32⟩
  | 28 => ⟨S1x2048x8, .f32⟩
  | 29 => ⟨S1x2048x8, .f32⟩
  | 30 => ⟨S1x2048x2, .f32⟩
  | 31 => ⟨S1x2048x2, .i32⟩
  | 32 => ⟨S_, .f32⟩
  | 33 => ⟨S1x2048, .f32⟩
  | 34 => ⟨S1x2048x1, .f32⟩
  | 35 => ⟨S_, .f32⟩
  | 36 => ⟨S1x2048x1, .f32⟩
  | 37 => ⟨S1x2048x1, .f32⟩
  | 38 => ⟨S1x2048x2, .f32⟩
  | 39 => ⟨S1x2048x2, .f32⟩
  | 40 => ⟨S4096, .i32⟩
  | 41 => ⟨S4096, .f32⟩
  | 42 => ⟨S4096x1, .i32⟩
  | 43 => ⟨S1x8, .i32⟩
  | 44 => ⟨S4096x8, .i32⟩
  | 45 => ⟨S4096x8, .i32⟩
  | 46 => ⟨S4096x8, .i1⟩
  | 47 => ⟨S4096x8, .i32⟩
  | 48 => ⟨S_, .i32⟩
  | 49 => ⟨S_, .i32⟩
  | 50 => ⟨S4096x8, .i32⟩
  | 51 => ⟨S4096x8, .i32⟩
  | 52 => ⟨S_, .i32⟩
  | 53 => ⟨S4096, .i32⟩
  | 54 => ⟨S_, .i32⟩
  | 55 => ⟨S4096, .i32⟩
  | 56 => ⟨S4096, .i32⟩
  | 57 => ⟨S_, .i32⟩
  | 58 => ⟨S4096, .i32⟩
  | 59 => ⟨S4096, .i1⟩
  | 60 => ⟨S_, .i32⟩
  | 61 => ⟨S_, .i32⟩
  | 62 => ⟨S4096, .i32⟩
  | 63 => ⟨S4096, .i32⟩
  | 64 => ⟨S4096, .i32⟩
  | 65 => ⟨S_, .i32⟩
  | 66 => ⟨S_, .i32⟩
  | 67 => ⟨S4096, .i32⟩
  | 68 => ⟨S4096, .i32⟩
  | 69 => ⟨S4096, .i32⟩
  | 70 => ⟨S_, .i32⟩
  | 71 => ⟨S4096, .i32⟩
  | 72 => ⟨S4096, .i1⟩
  | 73 => ⟨S4096, .i32⟩
  | 74 => ⟨S4096, .i32⟩
  | 75 => ⟨S_, .i32⟩
  | 76 => ⟨S4096, .i32⟩
  | 77 => ⟨S4096, .i1⟩
  | 78 => ⟨S4096, .i1⟩
  | 79 => ⟨S_, .i32⟩
  | 80 => ⟨S4096, .i32⟩
  | 81 => ⟨S4096, .i32⟩
  | 82 => ⟨S4096, .i32⟩
  | 83 => ⟨S_, .i32⟩
  | 84 => ⟨S_, .i32⟩
  | 85 => ⟨S4096, .i32⟩
  | 86 => ⟨S4096, .i32⟩
  | 87 => ⟨S4096, .i32⟩
  | 88 => ⟨S_, .i32⟩
  | 89 => ⟨S4096, .i32⟩
  | 90 => ⟨S4096, .i1⟩
  | 91 => ⟨S4096, .i32⟩
  | 92 => ⟨S4096, .i32⟩
  | 93 => ⟨S_, .i32⟩
  | 94 => ⟨S4096, .i32⟩
  | 95 => ⟨S4096, .i1⟩
  | 96 => ⟨S4096, .i1⟩
  | 97 => ⟨S_, .i32⟩
  | 98 => ⟨S4096, .i32⟩
  | 99 => ⟨S4096, .i32⟩
  | 100 => ⟨S4096, .i32⟩
  | 101 => ⟨S_, .i32⟩
  | 102 => ⟨S_, .i32⟩
  | 103 => ⟨S_, .i32⟩
  | 104 => ⟨S_, .i1⟩
  | 105 => ⟨S_, .i32⟩
  | 106 => ⟨S_, .i32⟩
  | 107 => ⟨S4096, .i32⟩
  | 108 => ⟨S4096, .i32⟩
  | 109 => ⟨S_, .i32⟩
  | 110 => ⟨S4096, .i32⟩
  | 111 => ⟨S4096, .i1⟩
  | 112 => ⟨S_, .i32⟩
  | 113 => ⟨S4096, .i32⟩
  | 114 => ⟨S4096, .i1⟩
  | 115 => ⟨S_, .i32⟩
  | 116 => ⟨S_, .i1⟩
  | 117 => ⟨S4096, .i1⟩
  | 118 => ⟨S4096, .i1⟩
  | 119 => ⟨S4096, .i1⟩
  | 120 => ⟨S4096, .i32⟩
  | 121 => ⟨S4096, .i32⟩
  | 122 => ⟨S4096, .i32⟩
  | 123 => ⟨S_, .f32⟩
  | 124 => ⟨S1x2048x8x768, .f32⟩
  | 125 => ⟨S_, .i32⟩
  | 126 => ⟨S4096, .i32⟩
  | 127 => ⟨S4096, .i1⟩
  | _ => ⟨S1x2048x4096, .f32⟩

abbrev hbmTy0_1 (i : Nat) : BufTy := match i % 128 with
  | 0 => ⟨S_, .i32⟩
  | 1 => ⟨S4096, .i32⟩
  | 2 => ⟨S4096, .i32⟩
  | 3 => ⟨S4096, .i32⟩
  | 4 => ⟨S_, .i32⟩
  | 5 => ⟨S4096, .i32⟩
  | 6 => ⟨S4096, .i1⟩
  | 7 => ⟨S_, .i32⟩
  | 8 => ⟨S4096, .i32⟩
  | 9 => ⟨S4096, .i32⟩
  | 10 => ⟨S4096, .i32⟩
  | 11 => ⟨S_, .i32⟩
  | 12 => ⟨S4096, .i32⟩
  | 13 => ⟨S4096, .i1⟩
  | 14 => ⟨S_, .i32⟩
  | 15 => ⟨S4096, .i32⟩
  | 16 => ⟨S4096, .i32⟩
  | 17 => ⟨S4096, .i32⟩
  | 18 => ⟨S_, .i32⟩
  | 19 => ⟨S4096, .i32⟩
  | 20 => ⟨S4096, .i1⟩
  | 21 => ⟨S_, .i32⟩
  | 22 => ⟨S4096, .i32⟩
  | 23 => ⟨S4096, .i32⟩
  | 24 => ⟨S4096, .i32⟩
  | 25 => ⟨S4096x1, .i32⟩
  | 26 => ⟨S4096x1, .i32⟩
  | 27 => ⟨S4096x1, .i32⟩
  | 28 => ⟨S4096x1, .i32⟩
  | 29 => ⟨S4096x4, .i32⟩
  | 30 => ⟨S_, .f32⟩
  | 31 => ⟨S4096, .f32⟩
  | 32 => ⟨S1x2048x8x768, .f32⟩
  | 33 => ⟨S_, .f32⟩
  | 34 => ⟨S1x2048x8x768, .f32⟩
  | 35 => ⟨S_, .i32⟩
  | 36 => ⟨S4096, .i32⟩
  | 37 => ⟨S4096, .i1⟩
  | 38 => ⟨S_, .i32⟩
  | 39 => ⟨S4096, .i32⟩
  | 40 => ⟨S4096, .i32⟩
  | 41 => ⟨S4096, .i32⟩
  | 42 => ⟨S_, .i32⟩
  | 43 => ⟨S4096, .i32⟩
  | 44 => ⟨S4096, .i1⟩
  | 45 => ⟨S_, .i32⟩
  | 46 => ⟨S4096, .i32⟩
  | 47 => ⟨S4096, .i32⟩
  | 48 => ⟨S4096, .i32⟩
  | 49 => ⟨S_, .i32⟩
  | 50 => ⟨S4096, .i32⟩
  | 51 => ⟨S4096, .i1⟩
  | 52 => ⟨S_, .i32⟩
  | 53 => ⟨S4096, .i32⟩
  | 54 => ⟨S4096, .i32⟩
  | 55 => ⟨S4096, .i32⟩
  | 56 => ⟨S_, .i32⟩
  | 57 => ⟨S4096, .i32⟩
  | 58 => ⟨S4096, .i1⟩
  | 59 => ⟨S_, .i32⟩
  | 60 => ⟨S4096, .i32⟩
  | 61 => ⟨S4096, .i32⟩
  | 62 => ⟨S4096, .i32⟩
  | 63 => ⟨S4096x1, .i32⟩
  | 64 => ⟨S4096x1, .i32⟩
  | 65 => ⟨S4096x1, .i32⟩
  | 66 => ⟨S4096x1, .i32⟩
  | 67 => ⟨S4096x4, .i32⟩
  | 68 => ⟨S1x2048x8x768, .f32⟩
  | 69 => ⟨S_, .f32⟩
  | 70 => ⟨S8, .f32⟩
  | 71 => ⟨S_, .f32⟩
  | 72 => ⟨S8, .f32⟩
  | 73 => ⟨S8, .f32⟩
  | 74 => ⟨S1x2048x2x1, .i32⟩
  | 75 => ⟨S1x1x1x8, .i32⟩
  | 76 => ⟨S1x2048x2x8, .i32⟩
  | 77 => ⟨S1x2048x2x8, .i32⟩
  | 78 => ⟨S1x2048x2x8, .i1⟩
  | 79 => ⟨S1x2048x2x8, .f32⟩
  | 80 => ⟨S_, .f32⟩
  | 81 => ⟨S8, .f32⟩
  | 82 => ⟨S_, .f32⟩
  | 83 => ⟨S8, .f32⟩
  | 84 => ⟨S8, .f32⟩
  | 85 => ⟨S8, .f32⟩
  | 86 => ⟨S_, .f32⟩
  | 87 => ⟨S_, .f32⟩
  | 88 => ⟨S_, .f32⟩
  | 89 => ⟨S_, .f32⟩
  | _ => ⟨S1x2048x4096, .f32⟩

abbrev hbmTy (i : Nat) : BufTy := match i / 128 with
  | 0 => hbmTy0_0 i
  | 1 => hbmTy0_1 i
  | _ => ⟨S1x2048x4096, .f32⟩

abbrev bufTy : (tb : Table) → Fin (tcTables nBuf tb) → BufTy
  | .hbm, ⟨i, _⟩ => hbmTy i
  | _, _ => ⟨S1x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_values : Ref sig .tc := ⟨.hbm, 30, rfl⟩
abbrev main_indices : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_v29 : Ref sig .tc := ⟨.hbm, 47, rfl⟩
abbrev main_call1_call0_c : Ref sig .tc := ⟨.hbm, 48, rfl⟩
abbrev main_call1_call0_v0 : Ref sig .tc := ⟨.hbm, 49, rfl⟩
abbrev main_v30 : Ref sig .tc := ⟨.hbm, 50, rfl⟩
abbrev main_v31 : Ref sig .tc := ⟨.hbm, 51, rfl⟩
abbrev main_c : Ref sig .tc := ⟨.hbm, 52, rfl⟩
abbrev main_v32 : Ref sig .tc := ⟨.hbm, 53, rfl⟩
abbrev main_c_5 : Ref sig .tc := ⟨.hbm, 54, rfl⟩
abbrev main_v33 : Ref sig .tc := ⟨.hbm, 55, rfl⟩
abbrev main_v34 : Ref sig .tc := ⟨.hbm, 56, rfl⟩
abbrev main_c_6 : Ref sig .tc := ⟨.hbm, 57, rfl⟩
abbrev main_v35 : Ref sig .tc := ⟨.hbm, 58, rfl⟩
abbrev main_v36 : Ref sig .tc := ⟨.hbm, 59, rfl⟩
abbrev main_c_7 : Ref sig .tc := ⟨.hbm, 60, rfl⟩
abbrev main_call2_v0 : Ref sig .tc := ⟨.hbm, 61, rfl⟩
abbrev main_call2_v1 : Ref sig .tc := ⟨.hbm, 62, rfl⟩
abbrev main_v37 : Ref sig .tc := ⟨.hbm, 63, rfl⟩
abbrev main_v38 : Ref sig .tc := ⟨.hbm, 64, rfl⟩
abbrev main_c_8 : Ref sig .tc := ⟨.hbm, 65, rfl⟩
abbrev main_call3_v0 : Ref sig .tc := ⟨.hbm, 66, rfl⟩
abbrev main_call3_v1 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_call3_v5 : Ref sig .tc := ⟨.hbm, 71, rfl⟩
abbrev main_call3_v6 : Ref sig .tc := ⟨.hbm, 72, rfl⟩
abbrev main_call3_v7 : Ref sig .tc := ⟨.hbm, 73, rfl⟩
abbrev main_call3_v8 : Ref sig .tc := ⟨.hbm, 74, rfl⟩
abbrev main_call3_c : Ref sig .tc := ⟨.hbm, 75, rfl⟩
abbrev main_call3_v9 : Ref sig .tc := ⟨.hbm, 76, rfl⟩
abbrev main_call3_v10 : Ref sig .tc := ⟨.hbm, 77, rfl⟩
abbrev main_call3_v11 : Ref sig .tc := ⟨.hbm, 78, rfl⟩
abbrev main_call3_c_0 : Ref sig .tc := ⟨.hbm, 79, rfl⟩
abbrev main_call3_v12 : Ref sig .tc := ⟨.hbm, 80, rfl⟩
abbrev main_call3_v13 : Ref sig .tc := ⟨.hbm, 81, rfl⟩
abbrev main_v39 : Ref sig .tc := ⟨.hbm, 82, rfl⟩
abbrev main_c_9 : Ref sig .tc := ⟨.hbm, 83, rfl⟩
abbrev main_call4_v0 : Ref sig .tc := ⟨.hbm, 84, rfl⟩
abbrev main_call4_v1 : Ref sig .tc := ⟨.hbm, 85, rfl⟩
abbrev main_call4_v2 : Ref sig .tc := ⟨.hbm, 86, rfl⟩
abbrev main_call4_v3 : Ref sig .tc := ⟨.hbm, 87, rfl⟩
abbrev main_call4_v4 : Ref sig .tc := ⟨.hbm, 88, rfl⟩
abbrev main_call4_v5 : Ref sig .tc := ⟨.hbm, 89, rfl⟩
abbrev main_call4_v6 : Ref sig .tc := ⟨.hbm, 90, rfl⟩
abbrev main_call4_v7 : Ref sig .tc := ⟨.hbm, 91, rfl⟩
abbrev main_call4_v8 : Ref sig .tc := ⟨.hbm, 92, rfl⟩
abbrev main_call4_c : Ref sig .tc := ⟨.hbm, 93, rfl⟩
abbrev main_call4_v9 : Ref sig .tc := ⟨.hbm, 94, rfl⟩
abbrev main_call4_v10 : Ref sig .tc := ⟨.hbm, 95, rfl⟩
abbrev main_call4_v11 : Ref sig .tc := ⟨.hbm, 96, rfl⟩
abbrev main_call4_c_0 : Ref sig .tc := ⟨.hbm, 97, rfl⟩
abbrev main_call4_v12 : Ref sig .tc := ⟨.hbm, 98, rfl⟩
abbrev main_call4_v13 : Ref sig .tc := ⟨.hbm, 99, rfl⟩
abbrev main_v40 : Ref sig .tc := ⟨.hbm, 100, rfl⟩
abbrev main_c_10 : Ref sig .tc := ⟨.hbm, 101, rfl⟩
abbrev main_call5_v0 : Ref sig .tc := ⟨.hbm, 102, rfl⟩
abbrev main_call5_c : Ref sig .tc := ⟨.hbm, 103, rfl⟩
abbrev main_call5_v1 : Ref sig .tc := ⟨.hbm, 104, rfl⟩
abbrev main_call5_c_0 : Ref sig .tc := ⟨.hbm, 105, rfl⟩
abbrev main_call5_v2 : Ref sig .tc := ⟨.hbm, 106, rfl⟩
abbrev main_call5_v3 : Ref sig .tc := ⟨.hbm, 107, rfl⟩
abbrev main_call5_v4 : Ref sig .tc := ⟨.hbm, 108, rfl⟩
abbrev main_call5_c_1 : Ref sig .tc := ⟨.hbm, 109, rfl⟩
abbrev main_call5_v5 : Ref sig .tc := ⟨.hbm, 110, rfl⟩
abbrev main_call5_v6 : Ref sig .tc := ⟨.hbm, 111, rfl⟩
abbrev main_call5_c_2 : Ref sig .tc := ⟨.hbm, 112, rfl⟩
abbrev main_call5_v7 : Ref sig .tc := ⟨.hbm, 113, rfl⟩
abbrev main_call5_v8 : Ref sig .tc := ⟨.hbm, 114, rfl⟩
abbrev main_call5_c_3 : Ref sig .tc := ⟨.hbm, 115, rfl⟩
abbrev main_call5_v9 : Ref sig .tc := ⟨.hbm, 116, rfl⟩
abbrev main_call5_v10 : Ref sig .tc := ⟨.hbm, 117, rfl⟩
abbrev main_call5_v11 : Ref sig .tc := ⟨.hbm, 118, rfl⟩
abbrev main_call5_v12 : Ref sig .tc := ⟨.hbm, 119, rfl⟩
abbrev main_call5_v13 : Ref sig .tc := ⟨.hbm, 120, rfl⟩
abbrev main_call5_v14 : Ref sig .tc := ⟨.hbm, 121, rfl⟩
abbrev main_v41 : Ref sig .tc := ⟨.hbm, 122, rfl⟩
abbrev main_cst_11 : Ref sig .tc := ⟨.hbm, 123, rfl⟩
abbrev main_v42 : Ref sig .tc := ⟨.hbm, 124, rfl⟩
abbrev main_c_12 : Ref sig .tc := ⟨.hbm, 125, rfl⟩
abbrev main_v43 : Ref sig .tc := ⟨.hbm, 126, rfl⟩
abbrev main_v44 : Ref sig .tc := ⟨.hbm, 127, rfl⟩
abbrev main_c_13 : Ref sig .tc := ⟨.hbm, 128, rfl⟩
abbrev main_v45 : Ref sig .tc := ⟨.hbm, 129, rfl⟩
abbrev main_v46 : Ref sig .tc := ⟨.hbm, 130, rfl⟩
abbrev main_v47 : Ref sig .tc := ⟨.hbm, 131, rfl⟩
abbrev main_c_14 : Ref sig .tc := ⟨.hbm, 132, rfl⟩
abbrev main_v48 : Ref sig .tc := ⟨.hbm, 133, rfl⟩
abbrev main_v49 : Ref sig .tc := ⟨.hbm, 134, rfl⟩
abbrev main_c_15 : Ref sig .tc := ⟨.hbm, 135, rfl⟩
abbrev main_v50 : Ref sig .tc := ⟨.hbm, 136, rfl⟩
abbrev main_v51 : Ref sig .tc := ⟨.hbm, 137, rfl⟩
abbrev main_v52 : Ref sig .tc := ⟨.hbm, 138, rfl⟩
abbrev main_c_16 : Ref sig .tc := ⟨.hbm, 139, rfl⟩
abbrev main_v53 : Ref sig .tc := ⟨.hbm, 140, rfl⟩
abbrev main_v54 : Ref sig .tc := ⟨.hbm, 141, rfl⟩
abbrev main_c_17 : Ref sig .tc := ⟨.hbm, 142, rfl⟩
abbrev main_v55 : Ref sig .tc := ⟨.hbm, 143, rfl⟩
abbrev main_v56 : Ref sig .tc := ⟨.hbm, 144, rfl⟩
abbrev main_v57 : Ref sig .tc := ⟨.hbm, 145, rfl⟩
abbrev main_c_18 : Ref sig .tc := ⟨.hbm, 146, rfl⟩
abbrev main_v58 : Ref sig .tc := ⟨.hbm, 147, rfl⟩
abbrev main_v59 : Ref sig .tc := ⟨.hbm, 148, rfl⟩
abbrev main_c_19 : Ref sig .tc := ⟨.hbm, 149, rfl⟩
abbrev main_v60 : Ref sig .tc := ⟨.hbm, 150, rfl⟩
abbrev main_v61 : Ref sig .tc := ⟨.hbm, 151, rfl⟩
abbrev main_v62 : Ref sig .tc := ⟨.hbm, 152, rfl⟩
abbrev main_v63 : Ref sig .tc := ⟨.hbm, 153, rfl⟩
abbrev main_v64 : Ref sig .tc := ⟨.hbm, 154, rfl⟩
abbrev main_v65 : Ref sig .tc := ⟨.hbm, 155, rfl⟩
abbrev main_v66 : Ref sig .tc := ⟨.hbm, 156, rfl⟩
abbrev main_v67 : Ref sig .tc := ⟨.hbm, 157, rfl⟩
abbrev main_cst_20 : Ref sig .tc := ⟨.hbm, 158, rfl⟩
abbrev main_v68 : Ref sig .tc := ⟨.hbm, 159, rfl⟩
abbrev main_v69 : Ref sig .tc := ⟨.hbm, 160, rfl⟩
abbrev main_cst_21 : Ref sig .tc := ⟨.hbm, 161, rfl⟩
abbrev main_v70 : Ref sig .tc := ⟨.hbm, 162, rfl⟩
abbrev main_c_22 : Ref sig .tc := ⟨.hbm, 163, rfl⟩
abbrev main_v71 : Ref sig .tc := ⟨.hbm, 164, rfl⟩
abbrev main_v72 : Ref sig .tc := ⟨.hbm, 165, rfl⟩
abbrev main_c_23 : Ref sig .tc := ⟨.hbm, 166, rfl⟩
abbrev main_v73 : Ref sig .tc := ⟨.hbm, 167, rfl⟩
abbrev main_v74 : Ref sig .tc := ⟨.hbm, 168, rfl⟩
abbrev main_v75 : Ref sig .tc := ⟨.hbm, 169, rfl⟩
abbrev main_c_24 : Ref sig .tc := ⟨.hbm, 170, rfl⟩
abbrev main_v76 : Ref sig .tc := ⟨.hbm, 171, rfl⟩
abbrev main_v77 : Ref sig .tc := ⟨.hbm, 172, rfl⟩
abbrev main_c_25 : Ref sig .tc := ⟨.hbm, 173, rfl⟩
abbrev main_v78 : Ref sig .tc := ⟨.hbm, 174, rfl⟩
abbrev main_v79 : Ref sig .tc := ⟨.hbm, 175, rfl⟩
abbrev main_v80 : Ref sig .tc := ⟨.hbm, 176, rfl⟩
abbrev main_c_26 : Ref sig .tc := ⟨.hbm, 177, rfl⟩
abbrev main_v81 : Ref sig .tc := ⟨.hbm, 178, rfl⟩
abbrev main_v82 : Ref sig .tc := ⟨.hbm, 179, rfl⟩
abbrev main_c_27 : Ref sig .tc := ⟨.hbm, 180, rfl⟩
abbrev main_v83 : Ref sig .tc := ⟨.hbm, 181, rfl⟩
abbrev main_v84 : Ref sig .tc := ⟨.hbm, 182, rfl⟩
abbrev main_v85 : Ref sig .tc := ⟨.hbm, 183, rfl⟩
abbrev main_c_28 : Ref sig .tc := ⟨.hbm, 184, rfl⟩
abbrev main_v86 : Ref sig .tc := ⟨.hbm, 185, rfl⟩
abbrev main_v87 : Ref sig .tc := ⟨.hbm, 186, rfl⟩
abbrev main_c_29 : Ref sig .tc := ⟨.hbm, 187, rfl⟩
abbrev main_v88 : Ref sig .tc := ⟨.hbm, 188, rfl⟩
abbrev main_v89 : Ref sig .tc := ⟨.hbm, 189, rfl⟩
abbrev main_v90 : Ref sig .tc := ⟨.hbm, 190, rfl⟩
abbrev main_v91 : Ref sig .tc := ⟨.hbm, 191, rfl⟩
abbrev main_v92 : Ref sig .tc := ⟨.hbm, 192, rfl⟩
abbrev main_v93 : Ref sig .tc := ⟨.hbm, 193, rfl⟩
abbrev main_v94 : Ref sig .tc := ⟨.hbm, 194, rfl⟩
abbrev main_v95 : Ref sig .tc := ⟨.hbm, 195, rfl⟩
abbrev main_v96 : Ref sig .tc := ⟨.hbm, 196, rfl⟩
abbrev main_cst_30 : Ref sig .tc := ⟨.hbm, 197, rfl⟩
abbrev main_v97 : Ref sig .tc := ⟨.hbm, 198, rfl⟩
abbrev main_cst_31 : Ref sig .tc := ⟨.hbm, 199, rfl⟩
abbrev main_v98 : Ref sig .tc := ⟨.hbm, 200, rfl⟩
abbrev main_v99 : Ref sig .tc := ⟨.hbm, 201, rfl⟩
abbrev main_call6_v0 : Ref sig .tc := ⟨.hbm, 202, rfl⟩
abbrev main_call6_v1 : Ref sig .tc := ⟨.hbm, 203, rfl⟩
abbrev main_call6_v2 : Ref sig .tc := ⟨.hbm, 204, rfl⟩
abbrev main_call6_v3 : Ref sig .tc := ⟨.hbm, 205, rfl⟩
abbrev main_call6_v4 : Ref sig .tc := ⟨.hbm, 206, rfl⟩
abbrev main_v100 : Ref sig .tc := ⟨.hbm, 207, rfl⟩
abbrev main_cst_32 : Ref sig .tc := ⟨.hbm, 208, rfl⟩
abbrev main_v101 : Ref sig .tc := ⟨.hbm, 209, rfl⟩
abbrev main_cst_33 : Ref sig .tc := ⟨.hbm, 210, rfl⟩
abbrev main_v102 : Ref sig .tc := ⟨.hbm, 211, rfl⟩
abbrev main_v103 : Ref sig .tc := ⟨.hbm, 212, rfl⟩
abbrev main_v104 : Ref sig .tc := ⟨.hbm, 213, rfl⟩
abbrev main_cst_34 : Ref sig .tc := ⟨.hbm, 214, rfl⟩
abbrev main_v105 : Ref sig .tc := ⟨.hbm, 215, rfl⟩
abbrev main_cst_35 : Ref sig .tc := ⟨.hbm, 216, rfl⟩
abbrev main_v106 : Ref sig .tc := ⟨.hbm, 217, rfl⟩

abbrev nD : Nat := 1
abbrev τ : Topo := Topo.v7x

variable {F : FTy → Type} [FloatOps F]
-- ==== Proof.MmRegion.lean ====
/-
The first call (`_mm_kernel`): its body run at every grid point, from any contents `V` of the arrays it is entered with.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Mm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond_0 (i : grid0.Coords) : Prop := k0_cond1 i = 1#1
/-- It holds at the points ≡ 0 (mod 8) — by arithmetic of the point. -/
theorem hcond_0 : ∀ t : Fin cfg0.N, cond_0 (grid0.coords t) ↔ t.val % 8 = 0 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond_0, k0_cond1, e0, e1]
    word_cmp
   : ∀ t : Fin grid0.N, cond_0 (grid0.coords t) ↔ t.val % 8 = 0)

/-- The condition of the body's `scf.if` 1 (`k0_h2`), from the grid coordinates (the skeleton's scalar
    chain substituted). -/
abbrev cond_1 (i : grid0.Coords) : Prop := k0_cond2 i = 1#1
/-- It holds at the points whose coordinates have 1 ≤ i1 — decided over the grid. -/
theorem hcond_1 : ∀ t : Fin cfg0.N, cond_1 (grid0.coords t) ↔ 1 ≤ t.val % 8 :=
  (by decide +kernel : ∀ t : Fin grid0.N, cond_1 (grid0.coords t) ↔ 1 ≤ t.val % 8)

/-! ## Where the windows are idle (the printed configuration's table `Cfg.idle`) -/

/-- Window 0 is never idle (an input). -/
theorem liveAt_0 : ∀ t : Fin cfg0.N, cfg0.idle 0 (grid0.coords t) = false := fun _ => rfl
/-- Window 1 is never idle (an input). -/
theorem liveAt_1 : ∀ t : Fin cfg0.N, cfg0.idle 1 (grid0.coords t) = false := fun _ => rfl
/-- Window 2 is never idle (an input). -/
theorem liveAt_2 : ∀ t : Fin cfg0.N, cfg0.idle 2 (grid0.coords t) = false := fun _ => rfl
/-- Window 3 is never idle (an input). -/
theorem liveAt_3 : ∀ t : Fin cfg0.N, cfg0.idle 3 (grid0.coords t) = false := fun _ => rfl
/-- Whether output 4's buffer is FRESH at each position `1 ‥ N` — holds nothing the body stored since the region's entry or the
    last write-back (written back at the point before, or idle there and fresh before it) —, as a bitmask the classifier
    computed, bit `n` for position `n + 1`; position 0 is fresh. `freshTab_4_step` checks it against the configuration's own
    step point by point and `Cfg.fresh_tab` makes it `Cfg.fresh` (`fresh_4_eq`). -/
def freshTab_4 : ℕ → Bool
  | 0 => true
  | n + 1 => (0x8080 : ℕ).testBit n
/-- The table's step: fresh after a write back, or kept fresh by an idle point. -/
theorem freshTab_4_step : ∀ t : Fin cfg0.N,
    freshTab_4 (t.val + 1) = ((cfg0.win 4).flush t || (cfg0.idle 4 (cfg0.grid.coords t) && freshTab_4 t.val)) := by decide +kernel
/-- The output window's freshness is the table's. -/
theorem fresh_4_eq (t : Fin cfg0.N) : cfg0.fresh 4 t.val = freshTab_4 t.val :=
  Pipeline.Cfg.fresh_tab cfg0 4 freshTab_4 rfl freshTab_4_step t.val (Nat.le_of_lt t.isLt)
/-- At the points of case A the printed configuration (`Cfg.idle`) calls output 4 live: the case stores into it. -/
theorem liveAt_4_A : ∀ t : Fin cfg0.N, cond_0 (grid0.coords t) → ¬cond_1 (grid0.coords t) → cfg0.idle 4 (grid0.coords t) = false := by decide +kernel
/-- At the points of case B the printed configuration (`Cfg.idle`) calls output 4 live: the case stores into it. -/
theorem liveAt_4_B : ∀ t : Fin cfg0.N, ¬cond_0 (grid0.coords t) → cond_1 (grid0.coords t) → cfg0.idle 4 (grid0.coords t) = false := by decide +kernel
/-- At the points of case B, which keeps output 4's prior contents (reads it before covering, or covers it in part), the
    window's buffer is not FRESH: something was stored into it since the region's entry or its last write-back, idle points
    between or not (`Cfg.fresh`, by the table `freshTab_4`). -/
theorem notFresh_4_B : ∀ t : Fin cfg0.N, ¬cond_0 (grid0.coords t) → cond_1 (grid0.coords t) → cfg0.fresh 4 t.val = false := by
  intro t; rw [fresh_4_eq t]; revert t; decide +kernel

/-! ## The kernel body on any staging memrefs: a subtype the run finds -/

/-- One staging buffer of output window 4, through which its contents are stated (`View.read_writes_of_cover`: the
    choice does not matter). -/
abbrev VO_4 : View sig .tc .vmem S1024x128 .f32 := (Memref.whole cc0_stg4_0 : Memref sig .tc .vmem S1024x128 .f32).view
/-- Each window's current staging memref at point `t`, spelled as the pipeline passes it (`bodyAt0`), and its wholeness. -/
abbrev ms_0 (t : Fin cfg0.N) : Memref sig .tc .vmem S1024x4096 .f32 := win0_0.stage (cfg0.slots t 0)
/-- Window 0's staging buffer is a whole one. -/
abbrev hs_0 (t : Fin cfg0.N) : (ms_0 t).IsWhole := hstage0_0 ((cfg0.slots t 0).cast nbuf0_0)
/-- Window 1's staging buffer at point `t`. -/
abbrev ms_1 (t : Fin cfg0.N) : Memref sig .tc .vmem S4096x512 .f32 := win0_1.stage (cfg0.slots t 1)
/-- Window 1's staging buffer is a whole one. -/
abbrev hs_1 (t : Fin cfg0.N) : (ms_1 t).IsWhole := hstage0_1 ((cfg0.slots t 1).cast nbuf0_1)
/-- Window 2's staging buffer at point `t`. -/
abbrev ms_2 (t : Fin cfg0.N) : Memref sig .tc .vmem S1x512 .f32 := win0_2.stage (cfg0.slots t 2)
/-- Window 2's staging buffer is a whole one. -/
abbrev hs_2 (t : Fin cfg0.N) : (ms_2 t).IsWhole := hstage0_2 ((cfg0.slots t 2).cast nbuf0_2)
/-- Window 3's staging buffer at point `t`. -/
abbrev ms_3 (t : Fin cfg0.N) : Memref sig .tc .vmem S512x128 .f32 := win0_3.stage (cfg0.slots t 3)
/-- Window 3's staging buffer is a whole one. -/
abbrev hs_3 (t : Fin cfg0.N) : (ms_3 t).IsWhole := hstage0_3 ((cfg0.slots t 3).cast nbuf0_3)
/-- Window 4's staging buffer at point `t`. -/
abbrev ms_4 (t : Fin cfg0.N) : Memref sig .tc .vmem S1024x128 .f32 := win0_4.stage (cfg0.slots t 4)
/-- Window 4's staging buffer is a whole one. -/
abbrev hs_4 (t : Fin cfg0.N) : (ms_4 t).IsWhole := hstage0_4 ((cfg0.slots t 4).cast nbuf0_4)

-- (the run's proof term is large: it takes more than the default number of steps)
set_option maxHeartbeats 1000000 in
/-- What the body's stores leave in each output's staging memref, as pieces (last first) IN CASE A (`scf.if` 0 taken, `scf.if` 1 not taken: points 0, 8), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun_A (c : Dev nD) (i : grid0.Coords) (arg2 : Memref sig .tc .vmem S1024x4096 .f32) (harg2 : arg2.IsWhole) (arg3 : Memref sig .tc .vmem S4096x512 .f32) (harg3 : arg3.IsWhole) (arg4 : Memref sig .tc .vmem S1x512 .f32) (harg4 : arg4.IsWhole) (arg5 : Memref sig .tc .vmem S512x128 .f32) (harg5 : arg5.IsWhole) (arg6 : Memref sig .tc .vmem S1024x128 .f32) (harg6 : arg6.IsWhole) (hc0 : cond_0 i) (hc1 : ¬cond_1 i)
    (x0 : Vec F S1024x4096 .f32) (x1 : Vec F S4096x512 .f32) (x2 : Vec F S1x512 .f32) (x3 : Vec F S512x128 .f32) :
    { L4 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__mm_kernel i arg2 harg2 arg3 harg3 arg4 harg4 arg5 harg5 arg6 harg6) K } := by
  refine ⟨?_, fun E K => ?run⟩
  case run =>
    simp only [cc0__mm_kernel_eq_skeleton]; unfold cc0__mm_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

-- (the run's proof term is large: it takes more than the default number of steps)
set_option maxHeartbeats 1000000 in
/-- What the body's stores leave in each output's staging memref, as pieces (last first) IN CASE B (`scf.if` 0 not taken, `scf.if` 1 taken: points 1, 2, … 15: 14 of 16), WITH the
    proof that on whole staging memrefs — the inputs' at their contents, the outputs it reads before covering (4) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun_B (c : Dev nD) (i : grid0.Coords) (arg2 : Memref sig .tc .vmem S1024x4096 .f32) (harg2 : arg2.IsWhole) (arg3 : Memref sig .tc .vmem S4096x512 .f32) (harg3 : arg3.IsWhole) (arg4 : Memref sig .tc .vmem S1x512 .f32) (harg4 : arg4.IsWhole) (arg5 : Memref sig .tc .vmem S512x128 .f32) (harg5 : arg5.IsWhole) (arg6 : Memref sig .tc .vmem S1024x128 .f32) (harg6 : arg6.IsWhole) (hc0 : ¬cond_0 i) (hc1 : cond_1 i)
    (x0 : Vec F S1024x4096 .f32) (x1 : Vec F S4096x512 .f32) (x2 : Vec F S1x512 .f32) (x3 : Vec F S512x128 .f32) (xo4 : Vec F S1024x128 .f32) :
    { L4 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__mm_kernel i arg2 harg2 arg3 harg3 arg4 harg4 arg5 harg5 arg6 harg6) K } := by
  refine ⟨?_, fun E K => ?run⟩
  case run =>
    simp only [cc0__mm_kernel_eq_skeleton]; unfold cc0__mm_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

/-- Case A's pieces for output 4 tile its block (1 store of `S1024x128`, checked by the kernel's evaluation: `Piece.tiledL`, linear in the pieces, through a loop's `@[irreducible]` trip theorem too), so they cover it. -/
theorem cover_A_4 (c : Dev nD) (i : grid0.Coords) (arg2 : Memref sig .tc .vmem S1024x4096 .f32) (harg2 : arg2.IsWhole) (arg3 : Memref sig .tc .vmem S4096x512 .f32) (harg3 : arg3.IsWhole) (arg4 : Memref sig .tc .vmem S1x512 .f32) (harg4 : arg4.IsWhole) (arg5 : Memref sig .tc .vmem S512x128 .f32) (harg5 : arg5.IsWhole) (arg6 : Memref sig .tc .vmem S1024x128 .f32) (harg6 : arg6.IsWhole) (hc0 : cond_0 i) (hc1 : ¬cond_1 i)
    (x0 : Vec F S1024x4096 .f32) (x1 : Vec F S4096x512 .f32) (x2 : Vec F S1x512 .f32) (x3 : Vec F S512x128 .f32) (y : S1024x128.Idx) :
    ∃ pc ∈ (kernelRun_A c i arg2 harg2 arg3 harg3 arg4 harg4 arg5 harg5 arg6 harg6 hc0 hc1 x0 x1 x2 x3).1, y ∈ pc.1.set :=
  View.cover_of_tiledL (kernelRun_A c i arg2 harg2 arg3 harg3 arg4 harg4 arg5 harg5 arg6 harg6 hc0 hc1 x0 x1 x2 x3).1 S1024x128.size (by sl_kernel_rfl) y

/-- What case A leaves in output 4's staging buffer: its pieces read back over junk. -/
def out_A_4 (c : Dev nD) (i : grid0.Coords) (arg2 : Memref sig .tc .vmem S1024x4096 .f32) (harg2 : arg2.IsWhole) (arg3 : Memref sig .tc .vmem S4096x512 .f32) (harg3 : arg3.IsWhole) (arg4 : Memref sig .tc .vmem S1x512 .f32) (harg4 : arg4.IsWhole) (arg5 : Memref sig .tc .vmem S512x128 .f32) (harg5 : arg5.IsWhole) (arg6 : Memref sig .tc .vmem S1024x128 .f32) (harg6 : arg6.IsWhole) (hc0 : cond_0 i) (hc1 : ¬cond_1 i)
    (x0 : Vec F S1024x4096 .f32) (x1 : Vec F S4096x512 .f32) (x2 : Vec F S1x512 .f32) (x3 : Vec F S512x128 .f32) : Vec F S1024x128 .f32 :=
  VO_4.read (Elt F) (VO_4.writes (Elt F) VO_4.junk (kernelRun_A c i arg2 harg2 arg3 harg3 arg4 harg4 arg5 harg5 arg6 harg6 hc0 hc1 x0 x1 x2 x3).1)

/-- Case B's pieces for output 4 tile its block (1 store of `S1024x128`, checked by the kernel's evaluation: `Piece.tiledL`, linear in the pieces, through a loop's `@[irreducible]` trip theorem too), so they cover it. -/
theorem cover_B_4 (c : Dev nD) (i : grid0.Coords) (arg2 : Memref sig .tc .vmem S1024x4096 .f32) (harg2 : arg2.IsWhole) (arg3 : Memref sig .tc .vmem S4096x512 .f32) (harg3 : arg3.IsWhole) (arg4 : Memref sig .tc .vmem S1x512 .f32) (harg4 : arg4.IsWhole) (arg5 : Memref sig .tc .vmem S512x128 .f32) (harg5 : arg5.IsWhole) (arg6 : Memref sig .tc .vmem S1024x128 .f32) (harg6 : arg6.IsWhole) (hc0 : ¬cond_0 i) (hc1 : cond_1 i)
    (x0 : Vec F S1024x4096 .f32) (x1 : Vec F S4096x512 .f32) (x2 : Vec F S1x512 .f32) (x3 : Vec F S512x128 .f32) (xo4 : Vec F S1024x128 .f32) (y : S1024x128.Idx) :
    ∃ pc ∈ (kernelRun_B c i arg2 harg2 arg3 harg3 arg4 harg4 arg5 harg5 arg6 harg6 hc0 hc1 x0 x1 x2 x3 xo4).1, y ∈ pc.1.set :=
  View.cover_of_tiledL (kernelRun_B c i arg2 harg2 arg3 harg3 arg4 harg4 arg5 harg5 arg6 harg6 hc0 hc1 x0 x1 x2 x3 xo4).1 S1024x128.size (by sl_kernel_rfl) y

/-- What case B leaves in output 4's staging buffer: its pieces read back over junk. -/
def out_B_4 (c : Dev nD) (i : grid0.Coords) (arg2 : Memref sig .tc .vmem S1024x4096 .f32) (harg2 : arg2.IsWhole) (arg3 : Memref sig .tc .vmem S4096x512 .f32) (harg3 : arg3.IsWhole) (arg4 : Memref sig .tc .vmem S1x512 .f32) (harg4 : arg4.IsWhole) (arg5 : Memref sig .tc .vmem S512x128 .f32) (harg5 : arg5.IsWhole) (arg6 : Memref sig .tc .vmem S1024x128 .f32) (harg6 : arg6.IsWhole) (hc0 : ¬cond_0 i) (hc1 : cond_1 i)
    (x0 : Vec F S1024x4096 .f32) (x1 : Vec F S4096x512 .f32) (x2 : Vec F S1x512 .f32) (x3 : Vec F S512x128 .f32) (xo4 : Vec F S1024x128 .f32) : Vec F S1024x128 .f32 :=
  VO_4.read (Elt F) (VO_4.writes (Elt F) VO_4.junk (kernelRun_B c i arg2 harg2 arg3 harg3 arg4 harg4 arg5 harg5 arg6 harg6 hc0 hc1 x0 x1 x2 x3 xo4).1)

/-! ## What the outputs hold after each point -/

/-- What the outputs' staging buffers hold after the body at position `n`:
    the case the closed forms select at `n`, run at the point's memrefs and input blocks, an output it reads before covering
    at what this leaves at `n - 1` (its buffer is not written back between: `before_W_κ`); an output it leaves idle whose contents another case keeps stays
    what this leaves at `n - 1`, carried. An assignment of the conditions no point meets is no case (`False.elim`). -/
def outsAt (c : Dev nD) : (n : ℕ) → n < cfg0.N → Vec F S1024x128 .f32
  | 0, hn => out_A_4 c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩) (iblk V c 2 ⟨0, hn⟩) (iblk V c 3 ⟨0, hn⟩)
  | n + 1, hn =>
    if h0 : (n + 1) % 8 = 0 then
      if h1 : 1 ≤ (n + 1) % 8 then
        False.elim (by have hN : n + 1 < 16 := lt_of_lt_of_eq hn (show cfg0.N = 16 from N_0); omega)
      else
        out_A_4 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) ((hcond_0 ⟨n + 1, hn⟩).mpr h0) (fun h => h1 ((hcond_1 ⟨n + 1, hn⟩).mp h)) (iblk V c 0 ⟨n + 1, hn⟩) (iblk V c 1 ⟨n + 1, hn⟩) (iblk V c 2 ⟨n + 1, hn⟩) (iblk V c 3 ⟨n + 1, hn⟩)
    else
      if h1 : 1 ≤ (n + 1) % 8 then
        out_B_4 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (fun h => h0 ((hcond_0 ⟨n + 1, hn⟩).mp h)) ((hcond_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn))
      else
        False.elim (by have hN : n + 1 < 16 := lt_of_lt_of_eq hn (show cfg0.N = 16 from N_0); omega)

/-- `outsAt` at a point of case A: that case's contents. -/
theorem outsAt_A (c : Dev nD) (t : Fin cfg0.N) (h0 : t.val % 8 = 0) (h1 : ¬1 ≤ t.val % 8) :
    outsAt V c t.val t.isLt = out_A_4 c (grid0.coords t) (ms_0 t) (hs_0 t) (ms_1 t) (hs_1 t) (ms_2 t) (hs_2 t) (ms_3 t) (hs_3 t) (ms_4 t) (hs_4 t) ((hcond_0 t).mpr h0) (fun h => h1 ((hcond_1 t).mp h)) (iblk V c 0 t) (iblk V c 1 t) (iblk V c 2 t) (iblk V c 3 t) := by
  obtain ⟨n, hn⟩ := t
  cases n with
  | zero => exact rfl
  | succ n => exact (dif_pos h0).trans ((dif_neg h1).trans rfl)

/-- `outsAt` at a point of case B: that case's contents, over what the point before left. -/
theorem outsAt_B (c : Dev nD) (t : Fin cfg0.N) (h0 : ¬t.val % 8 = 0) (h1 : 1 ≤ t.val % 8) :
    outsAt V c t.val t.isLt = out_B_4 c (grid0.coords t) (ms_0 t) (hs_0 t) (ms_1 t) (hs_1 t) (ms_2 t) (hs_2 t) (ms_3 t) (hs_3 t) (ms_4 t) (hs_4 t) (fun h => h0 ((hcond_0 t).mp h)) ((hcond_1 t).mpr h1) (iblk V c 0 t) (iblk V c 1 t) (iblk V c 2 t) (iblk V c 3 t) (outsAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of the one pipeline on core `c`: the arrays as the region finds them (`V`); after the body at
    point `t` each input's buffer at its block and the outputs' at `outsAt`; the invariant the class's
    (`ΦA`: the scoped rest and the generator register); nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat V c).A w = V c (Pipeline.arrRef spec0 w) := by
  dsimp only [dat]

/-- What the body leaves, window by window (the proof data's `match` reduced by `dsimp`). -/
theorem after_0 (c : Dev nD) (t : Fin cfg0.N) : (dat V c).after 0 t = iblk V c 0 t := by dsimp only [dat]
/-- What window 1 holds after the point. -/
theorem after_1 (c : Dev nD) (t : Fin cfg0.N) : (dat V c).after 1 t = iblk V c 1 t := by dsimp only [dat]
/-- What window 2 holds after the point. -/
theorem after_2 (c : Dev nD) (t : Fin cfg0.N) : (dat V c).after 2 t = iblk V c 2 t := by dsimp only [dat]
/-- What window 3 holds after the point. -/
theorem after_3 (c : Dev nD) (t : Fin cfg0.N) : (dat V c).after 3 t = iblk V c 3 t := by dsimp only [dat]
/-- What window 4 holds after the point. -/
theorem after_4 (c : Dev nD) (t : Fin cfg0.N) : (dat V c).after 4 t = (outsAt V c t.val t.isLt) := by dsimp only [dat]

/-- Each input's current staging buffer holds its block at every point, fetched there or not (`beforeK_W_of`). -/
theorem before_0 (c : Dev nD) (t : Fin cfg0.N) (d) : (dat V c).before 0 t d = iblk V c 0 t :=
  before_0_of V (dat V c) (A_eq V c 0) (after_0 V c) t d
/-- Window 1 holds its input block before the point. -/
theorem before_1 (c : Dev nD) (t : Fin cfg0.N) (d) : (dat V c).before 1 t d = iblk V c 1 t :=
  before_1_of V (dat V c) (A_eq V c 1) (after_1 V c) t d
/-- Window 2 holds its input block before the point. -/
theorem before_2 (c : Dev nD) (t : Fin cfg0.N) (d) : (dat V c).before 2 t d = iblk V c 2 t :=
  before_2_of V (dat V c) (A_eq V c 2) (after_2 V c) t d
/-- Window 3 holds its input block before the point. -/
theorem before_3 (c : Dev nD) (t : Fin cfg0.N) (d) : (dat V c).before 3 t d = iblk V c 3 t :=
  before_3_of V (dat V c) (A_eq V c 3) (after_3 V c) t d

/-- Output 4's contents CARRY through the points that leave it idle: at such a point, its buffer not fresh, the proof data's
    `after` is the point before's (the case there stores nothing into the window and its term says so; a case that stores
    into it is not idle there by `liveAt_4_κ`) — the hypothesis of `Dat.before_out_traj`. -/
theorem hcarry_4 (c : Dev nD) : ∀ (t : Fin cfg0.N) (_ : t.val ≠ 0), cfg0.idle 4 (grid0.coords t) = true → cfg0.fresh 4 t.val = false →
    (dat V c).after 4 t = (dat V c).after 4 ⟨t.val - 1, by omega⟩ := by
  intro t _ hi _
  have hN : t.val < 16 := lt_of_lt_of_eq t.isLt (show cfg0.N = 16 from N_0)
  rw [after_4, after_4]
  by_cases h0 : t.val % 8 = 0
  · by_cases h1 : 1 ≤ t.val % 8
    · exfalso; omega
    · rw [liveAt_4_A t ((hcond_0 t).mpr h0) (fun h => h1 ((hcond_1 t).mp h))] at hi
      exact absurd hi Bool.false_ne_true
  · by_cases h1 : 1 ≤ t.val % 8
    · rw [liveAt_4_B t (fun h => h0 ((hcond_0 t).mp h)) ((hcond_1 t).mpr h1)] at hi
      exact absurd hi Bool.false_ne_true
    · exfalso; omega
/-- At a point of case B output 4's current staging buffer holds what the point before left: the buffer is not fresh
    there (`notFresh_4_B`: stored into since the region's entry or the last write-back, carried through the points that
    leave it idle by `hcarry_4`; `Dat.before_out_traj`). -/
theorem before_4_B (c : Dev nD) (t : Fin cfg0.N) (h0 : ¬t.val % 8 = 0) (h1 : 1 ≤ t.val % 8) (d) :
    (dat V c).before 4 t d = (outsAt V c (t.val - 1) (Nat.lt_of_le_of_lt (Nat.sub_le _ _) t.isLt)) := by
  rw [Dat.before_out_traj _ 4 rfl (fun _ _ => rfl) (hcarry_4 V c) t.val t rfl d,
    if_neg (by rw [notFresh_4_B t (fun h => h0 ((hcond_0 t).mp h)) ((hcond_1 t).mpr h1)]; exact Bool.false_ne_true)]
  dsimp only [dat]

/-! ## The body obligation, at a generic point -/

/-- What the body is called with at point `t` (`BodyObligation`'s precondition, the windows one by one), -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 800000 in
/-- The body at any point: the inputs' memrefs hold their blocks (`before_W`); the closed forms say which case the point is in (`by_cases`), an output the case reads before covering holds what the point before left (`before_W_κ`); so the
    run applies; the invariant passes through unread; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).Φ t.succ = (dat V c).Φ t.castSucc from rfl,
    show (dat V c).owesAt () t.succ = (dat V c).owesAt () t.castSucc from rfl]
  have hN : t.val < 16 := lt_of_lt_of_eq t.isLt (show cfg0.N = 16 from N_0)
  by_cases h0 : t.val % 8 = 0
  · by_cases h1 : 1 ≤ t.val % 8
    · exfalso; omega
    · rw [show (dat V c).leavesExact 0 t = owns (c : Thread nD τ) (ms_0 t) fullShare ((dat V c).after 0 t) from by
      unfold Dat.leavesExact; rw [liveAt_0 t], after_0]
      rw [show (dat V c).leavesExact 1 t = owns (c : Thread nD τ) (ms_1 t) fullShare ((dat V c).after 1 t) from by
      unfold Dat.leavesExact; rw [liveAt_1 t], after_1]
      rw [show (dat V c).leavesExact 2 t = owns (c : Thread nD τ) (ms_2 t) fullShare ((dat V c).after 2 t) from by
      unfold Dat.leavesExact; rw [liveAt_2 t], after_2]
      rw [show (dat V c).leavesExact 3 t = owns (c : Thread nD τ) (ms_3 t) fullShare ((dat V c).after 3 t) from by
      unfold Dat.leavesExact; rw [liveAt_3 t], after_3]
      rw [show (dat V c).leavesExact 4 t = owns (c : Thread nD τ) (ms_4 t) fullShare ((dat V c).after 4 t) from by
      unfold Dat.leavesExact; rw [liveAt_4_A t ((hcond_0 t).mpr h0) (fun h => h1 ((hcond_1 t).mp h))], after_4]
      rw [outsAt_A V c t h0 h1]
      unfold out_A_4
      iintro ⟨HΦ, Ho, ⟨%d0, H0⟩, ⟨%d1, H1⟩, ⟨%d2, H2⟩, ⟨%d3, H3⟩, ⟨%d4, H4⟩⟩
      iapply ((kernelRun_A c (grid0.coords t) _ _ _ _ _ _ _ _ _ _ ((hcond_0 t).mpr h0) (fun h => h1 ((hcond_1 t).mp h)) (iblk V c 0 t) (iblk V c 1 t) (iblk V c 2 t) (iblk V c 3 t)).2 Set.univ _)
      isplitl [H0]; · iexact H0
      isplitl [H1]; · iexact H1
      isplitl [H2]; · iexact H2
      isplitl [H3]; · iexact H3
      isplitl [H4]; · iexists _; iexact H4
      iintro ⟨H0, H1, H2, H3, ⟨%e4, H4⟩⟩
      isplitl [HΦ]; · iexact HΦ
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover_A_4 c _ _ _ _ _ _ _ _ _ _ _ _ _ _ _ _ _)
  · by_cases h1 : 1 ≤ t.val % 8
    · rw [show (dat V c).leavesExact 0 t = owns (c : Thread nD τ) (ms_0 t) fullShare ((dat V c).after 0 t) from by
      unfold Dat.leavesExact; rw [liveAt_0 t], after_0]
      rw [show (dat V c).leavesExact 1 t = owns (c : Thread nD τ) (ms_1 t) fullShare ((dat V c).after 1 t) from by
      unfold Dat.leavesExact; rw [liveAt_1 t], after_1]
      rw [show (dat V c).leavesExact 2 t = owns (c : Thread nD τ) (ms_2 t) fullShare ((dat V c).after 2 t) from by
      unfold Dat.leavesExact; rw [liveAt_2 t], after_2]
      rw [show (dat V c).leavesExact 3 t = owns (c : Thread nD τ) (ms_3 t) fullShare ((dat V c).after 3 t) from by
      unfold Dat.leavesExact; rw [liveAt_3 t], after_3]
      rw [show (dat V c).leavesExact 4 t = owns (c : Thread nD τ) (ms_4 t) fullShare ((dat V c).after 4 t) from by
      unfold Dat.leavesExact; rw [liveAt_4_B t (fun h => h0 ((hcond_0 t).mp h)) ((hcond_1 t).mpr h1)], after_4]
      rw [outsAt_B V c t h0 h1]
      simp only [before_4_B V c t h0 h1]
      unfold out_B_4
      iintro ⟨HΦ, Ho, ⟨%d0, H0⟩, ⟨%d1, H1⟩, ⟨%d2, H2⟩, ⟨%d3, H3⟩, ⟨%d4, H4⟩⟩
      iapply ((kernelRun_B c (grid0.coords t) _ _ _ _ _ _ _ _ _ _ (fun h => h0 ((hcond_0 t).mp h)) ((hcond_1 t).mpr h1) (iblk V c 0 t) (iblk V c 1 t) (iblk V c 2 t) (iblk V c 3 t) _).2 Set.univ _)
      isplitl [H0]; · iexact H0
      isplitl [H1]; · iexact H1
      isplitl [H2]; · iexact H2
      isplitl [H3]; · iexact H3
      isplitl [H4]; · iexact H4
      iintro ⟨H0, H1, H2, H3, ⟨%e4, H4⟩⟩
      isplitl [HΦ]; · iexact HΦ
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover_B_4 c _ _ _ _ _ _ _ _ _ _ _ _ _ _ _ _ _ _)
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (`triple_restated`). -/
theorem body_obligation (c : Dev nD) : BodyObligation (dat V c) (defs₀ (F := F)) Variants.none () Set.univ := fun t => by
  rw [bigSep_W0, bigSep_W0, defs₀_row]
  exact triple_restated (sound_body V c t) rfl .rfl fun _ => .rfl

end Cert.KernelIdeal.Mm

end
-- ==== Proof.RouteRegion.lean ====
/-
The second call (`_route_kernel`): its body run at every grid point, from any contents `V` of the arrays it is entered with.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Route

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k1_h1`), from the grid coordinates (the skeleton's scalar
    chain substituted). -/
abbrev cond_0 (i : grid1.Coords) : Prop := (Scalar.cmpi .ne (Scalar.extui (Scalar.cmpi .eq (BitVec.ofNat 32 (i 0).val) 0#32)) 0#32) = 1#1
/-- It holds at the first point only — by arithmetic of the point. -/
theorem hcond_0 : ∀ t : Fin cfg1.N, cond_0 (grid1.coords t) ↔ t.val % 8 = 0 :=
  (fun t => by
    have ht : t.val < 8 := Nat.lt_of_lt_of_eq t.isLt N_1
    have e0 : (grid1.coords t 0).val = t.val / 1 % 8 := Pipeline.Grid.coords_val t 0 (by decide) rfl
    simp only [cond_0, e0]
    word_cmp
   : ∀ t : Fin grid1.N, cond_0 (grid1.coords t) ↔ t.val % 8 = 0)

/-- The condition of the body's `scf.if` 1 (`k1_h2`), from the grid coordinates (the skeleton's scalar
    chain substituted). -/
abbrev cond_1 (i : grid1.Coords) : Prop := k1_cond2 i = 1#1
/-- It holds at the last point only — by arithmetic of the point. -/
theorem hcond_1 : ∀ t : Fin cfg1.N, cond_1 (grid1.coords t) ↔ t.val % 8 = 7 :=
  (fun t => by
    have ht : t.val < 8 := Nat.lt_of_lt_of_eq t.isLt N_1
    have e0 : (grid1.coords t 0).val = t.val / 1 % 8 := Pipeline.Grid.coords_val t 0 (by decide) rfl
    simp only [cond_1, k1_cond2, e0]
    word_cmp
   : ∀ t : Fin grid1.N, cond_1 (grid1.coords t) ↔ t.val % 8 = 7)

/-! ## Where the windows are idle (the printed configuration's table `Cfg.idle`) -/

/-- Window 0 is never idle (an input). -/
theorem liveAt_0 : ∀ t : Fin cfg1.N, cfg1.idle 0 (grid1.coords t) = false := fun _ => rfl
/-- Window 1 is never idle (an input). -/
theorem liveAt_1 : ∀ t : Fin cfg1.N, cfg1.idle 1 (grid1.coords t) = false := fun _ => rfl
/-- Window 2 is never idle (an output stored at every point, under no condition). -/
theorem liveAt_2 : ∀ t : Fin cfg1.N, cfg1.idle 2 (grid1.coords t) = false := fun _ => rfl
/-- Window 3 is never idle (an output stored at every point, under no condition). -/
theorem liveAt_3 : ∀ t : Fin cfg1.N, cfg1.idle 3 (grid1.coords t) = false := fun _ => rfl
/-- Window 4 is never idle (an output stored at every point, under no condition). -/
theorem liveAt_4 : ∀ t : Fin cfg1.N, cfg1.idle 4 (grid1.coords t) = false := fun _ => rfl
/-- At the points of case A the printed configuration (`Cfg.idle`) calls output 5 idle: the case stores nothing into it. -/
theorem idleAt_5_A : ∀ t : Fin cfg1.N, cond_0 (grid1.coords t) → ¬cond_1 (grid1.coords t) → cfg1.idle 5 (grid1.coords t) = true := by decide +kernel
/-- At the points of case A the pipeline does not write output 5's block back. -/
theorem noFlush_5_A : ∀ t : Fin cfg1.N, cond_0 (grid1.coords t) → ¬cond_1 (grid1.coords t) → (cfg1.win 5).flush t = false := by decide +kernel
/-- At the points of case B the printed configuration (`Cfg.idle`) calls output 5 idle: the case stores nothing into it. -/
theorem idleAt_5_B : ∀ t : Fin cfg1.N, ¬cond_0 (grid1.coords t) → ¬cond_1 (grid1.coords t) → cfg1.idle 5 (grid1.coords t) = true := by decide +kernel
/-- At the points of case B the pipeline does not write output 5's block back. -/
theorem noFlush_5_B : ∀ t : Fin cfg1.N, ¬cond_0 (grid1.coords t) → ¬cond_1 (grid1.coords t) → (cfg1.win 5).flush t = false := by decide +kernel
/-- At the points of case C the printed configuration (`Cfg.idle`) calls output 5 live: the case stores into it. -/
theorem liveAt_5_C : ∀ t : Fin cfg1.N, ¬cond_0 (grid1.coords t) → cond_1 (grid1.coords t) → cfg1.idle 5 (grid1.coords t) = false := by decide +kernel

/-! ## The kernel body on any staging memrefs: a subtype the run finds -/

/-- One staging buffer of output window 2, through which its contents are stated (`View.read_writes_of_cover`: the
    choice does not matter). -/
abbrev VO_2 : View sig .tc .vmem S256x128 .f32 := (Memref.whole cc1_stg2_0 : Memref sig .tc .vmem S256x128 .f32).view
/-- One staging buffer of output window 3, through which its contents are stated (`View.read_writes_of_cover`: the
    choice does not matter). -/
abbrev VO_3 : View sig .tc .vmem S1x256x8x768 .f32 := (Memref.whole cc1_stg3_0 : Memref sig .tc .vmem S1x256x8x768 .f32).view
/-- One staging buffer of output window 4, through which its contents are stated (`View.read_writes_of_cover`: the
    choice does not matter). -/
abbrev VO_4 : View sig .tc .vmem S1x256x8x768 .f32 := (Memref.whole cc1_stg4_0 : Memref sig .tc .vmem S1x256x8x768 .f32).view
/-- One staging buffer of output window 5, through which its contents are stated (`View.read_writes_of_cover`: the
    choice does not matter). -/
abbrev VO_5 : View sig .tc .vmem S1x1 .f32 := (Memref.whole cc1_stg5_0 : Memref sig .tc .vmem S1x1 .f32).view
/-- Each window's current staging memref at point `t`, spelled as the pipeline passes it (`bodyAt1`), and its wholeness. -/
abbrev ms_0 (t : Fin cfg1.N) : Memref sig .tc .vmem S256x128 .f32 := win1_0.stage (cfg1.slots t 0)
/-- Window 0's staging buffer is a whole one. -/
abbrev hs_0 (t : Fin cfg1.N) : (ms_0 t).IsWhole := hstage1_0 ((cfg1.slots t 0).cast nbuf1_0)
/-- Window 1's staging buffer at point `t`. -/
abbrev ms_1 (t : Fin cfg1.N) : Memref sig .tc .vmem S1x128 .f32 := win1_1.stage (cfg1.slots t 1)
/-- Window 1's staging buffer is a whole one. -/
abbrev hs_1 (t : Fin cfg1.N) : (ms_1 t).IsWhole := hstage1_1 ((cfg1.slots t 1).cast nbuf1_1)
/-- Window 2's staging buffer at point `t`. -/
abbrev ms_2 (t : Fin cfg1.N) : Memref sig .tc .vmem S256x128 .f32 := win1_2.stage (cfg1.slots t 2)
/-- Window 2's staging buffer is a whole one. -/
abbrev hs_2 (t : Fin cfg1.N) : (ms_2 t).IsWhole := hstage1_2 ((cfg1.slots t 2).cast nbuf1_2)
/-- Window 3's staging buffer at point `t`. -/
abbrev ms_3 (t : Fin cfg1.N) : Memref sig .tc .vmem S1x256x8x768 .f32 := win1_3.stage (cfg1.slots t 3)
/-- Window 3's staging buffer is a whole one. -/
abbrev hs_3 (t : Fin cfg1.N) : (ms_3 t).IsWhole := hstage1_3 ((cfg1.slots t 3).cast nbuf1_3)
/-- Window 4's staging buffer at point `t`. -/
abbrev ms_4 (t : Fin cfg1.N) : Memref sig .tc .vmem S1x256x8x768 .f32 := win1_4.stage (cfg1.slots t 4)
/-- Window 4's staging buffer is a whole one. -/
abbrev hs_4 (t : Fin cfg1.N) : (ms_4 t).IsWhole := hstage1_4 ((cfg1.slots t 4).cast nbuf1_4)
/-- Window 5's staging buffer at point `t`. -/
abbrev ms_5 (t : Fin cfg1.N) : Memref sig .tc .vmem S1x1 .f32 := win1_5.stage (cfg1.slots t 5)
/-- Window 5's staging buffer is a whole one. -/
abbrev hs_5 (t : Fin cfg1.N) : (ms_5 t).IsWhole := hstage1_5 ((cfg1.slots t 5).cast nbuf1_5)
/-- The scratch operands: whole scoped buffers of the kernel's own, passed beside the windows. -/
abbrev scM_0 : Memref sig .tc .vmem S1x128 .f32 := Memref.whole cc1_scratch0
/-- The second scratch buffer. -/
abbrev scM_1 : Memref sig .tc .vmem S1x128 .f32 := Memref.whole cc1_scratch1
/-- The scratch `arg7` the kernel carries between points, as a view: what it holds is stated through it. -/
abbrev VS_0 : View sig .tc .vmem S1x128 .f32 := scM_0.view
/-- The scratch `arg8` the kernel carries between points, as a view: what it holds is stated through it. -/
abbrev VS_1 : View sig .tc .vmem S1x128 .f32 := scM_1.view

/-- What the second call never touches of what the region hands it: the first call's staging buffers at any contents, and
    the generator register. -/
def Rest (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ r, prngReg c r))

/-- What the region hands the body and takes back: the two scratch buffers at some contents, and `Rest`. -/
theorem PhiA_eq (c : Dev nD) :
    (Pipeline.ΦA spec1 c : sProp 𝕄)
      = iprop(iprop((∃ d, owns (c : Thread nD τ) scM_0 fullShare d) ∗ (∃ d, owns (c : Thread nD τ) scM_1 fullShare d)) ∗ Rest c) := by
  unfold Pipeline.ΦA Rest; rw [scopedRest1_eq]; simp only [scM_0, scM_1, owns_whole]
  refine (show (_ : sProp 𝕄) ⊢ _ from ?_).antisymm (show (_ : sProp 𝕄) ⊢ _ from ?_)
  · iintro ⟨⟨H0, H1, H2, H3, H4, H5, H6, H7, H8, H9, S0, S1⟩, Hg⟩
    isplitl [S0 S1]
    · isplitl [S0]; · iexact S0
      iexact S1
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact Hg
  · iintro ⟨⟨S0, S1⟩, H0, H1, H2, H3, H4, H5, H6, H7, H8, H9, Hg⟩
    isplitr [Hg]
    swap; · iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexact S0
    iexact S1

-- (the run's proof term is large: it takes more than the default number of steps)
set_option maxHeartbeats 1000000 in
/-- What the body's stores leave in each output's staging memref, as pieces (last first) IN CASE A (`scf.if` 0 taken, `scf.if` 1 not taken: points 0), WITH the
    proof that on whole staging memrefs — the inputs' at their contents, the outputs it leaves idle (5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun_A (c : Dev nD) (i : grid1.Coords) (arg1 : Memref sig .tc .vmem S256x128 .f32) (harg1 : arg1.IsWhole) (arg2 : Memref sig .tc .vmem S1x128 .f32) (harg2 : arg2.IsWhole) (arg3 : Memref sig .tc .vmem S256x128 .f32) (harg3 : arg3.IsWhole) (arg4 : Memref sig .tc .vmem S1x256x8x768 .f32) (harg4 : arg4.IsWhole) (arg5 : Memref sig .tc .vmem S1x256x8x768 .f32) (harg5 : arg5.IsWhole) (arg6 : Memref sig .tc .vmem S1x1 .f32) (harg6 : arg6.IsWhole) (arg7 : Memref sig .tc .vmem S1x128 .f32) (harg7 : arg7.IsWhole) (arg8 : Memref sig .tc .vmem S1x128 .f32) (harg8 : arg8.IsWhole) (hc0 : cond_0 i) (hc1 : ¬cond_1 i)
    (x0 : Vec F S256x128 .f32) (x1 : Vec F S1x128 .f32) :
    Σ' (L2 : List (View.Piece (Elt F) S256x128 .f32)), Σ' (L3 : List (View.Piece (Elt F) S1x256x8x768 .f32)), Σ' (L4 : List (View.Piece (Elt F) S1x256x8x768 .f32)), Σ' (L5 : List (View.Piece (Elt F) S1x1 .f32)), Σ' (LS0 : List (View.Piece (Elt F) S1x128 .f32)), { LS1 : List (View.Piece (Elt F) S1x128 .f32) //
      ∀ (xi5 : Vec F S1x1 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xi5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__route_kernel i arg1 harg1 arg2 harg2 arg3 harg3 arg4 harg4 arg5 harg5 arg6 harg6 arg7 harg7 arg8 harg8) K } := by
  refine ⟨?_, ?_, ?_, [], ?_, ?_, fun xi5 E K => ?run⟩
  case run =>
    simp only [cc1__route_kernel_eq_skeleton]; unfold cc1__route_kernel_skel
    simp only [k1_part1_eq_skeleton, k1_part2_eq_skeleton, k1_part3_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [H5]
    · iexists _; isplitr; · ipureintro; exact harg6.read_unread _
      iexact H5
    isplitl [HS0]; · iexists _; iexact HS0
    iexists _; iexact HS1

-- (the run's proof term is large: it takes more than the default number of steps)
set_option maxHeartbeats 1000000 in
/-- What the body's stores leave in each output's staging memref, as pieces (last first) IN CASE B (`scf.if` 0 not taken, `scf.if` 1 not taken: points 1, 2, 3, 4, 5, 6), WITH the
    proof that on whole staging memrefs — the inputs' at their contents, the outputs it leaves idle (5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun_B (c : Dev nD) (i : grid1.Coords) (arg1 : Memref sig .tc .vmem S256x128 .f32) (harg1 : arg1.IsWhole) (arg2 : Memref sig .tc .vmem S1x128 .f32) (harg2 : arg2.IsWhole) (arg3 : Memref sig .tc .vmem S256x128 .f32) (harg3 : arg3.IsWhole) (arg4 : Memref sig .tc .vmem S1x256x8x768 .f32) (harg4 : arg4.IsWhole) (arg5 : Memref sig .tc .vmem S1x256x8x768 .f32) (harg5 : arg5.IsWhole) (arg6 : Memref sig .tc .vmem S1x1 .f32) (harg6 : arg6.IsWhole) (arg7 : Memref sig .tc .vmem S1x128 .f32) (harg7 : arg7.IsWhole) (arg8 : Memref sig .tc .vmem S1x128 .f32) (harg8 : arg8.IsWhole) (hc0 : ¬cond_0 i) (hc1 : ¬cond_1 i)
    (x0 : Vec F S256x128 .f32) (x1 : Vec F S1x128 .f32) (xs0 : Vec F S1x128 .f32) (xs1 : Vec F S1x128 .f32) :
    Σ' (L2 : List (View.Piece (Elt F) S256x128 .f32)), Σ' (L3 : List (View.Piece (Elt F) S1x256x8x768 .f32)), Σ' (L4 : List (View.Piece (Elt F) S1x256x8x768 .f32)), Σ' (L5 : List (View.Piece (Elt F) S1x1 .f32)), Σ' (LS0 : List (View.Piece (Elt F) S1x128 .f32)), { LS1 : List (View.Piece (Elt F) S1x128 .f32) //
      ∀ (xi5 : Vec F S1x1 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xi5 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__route_kernel i arg1 harg1 arg2 harg2 arg3 harg3 arg4 harg4 arg5 harg5 arg6 harg6 arg7 harg7 arg8 harg8) K } := by
  refine ⟨?_, ?_, ?_, [], ?_, ?_, fun xi5 E K => ?run⟩
  case run =>
    simp only [cc1__route_kernel_eq_skeleton]; unfold cc1__route_kernel_skel
    simp only [k1_part1_eq_skeleton, k1_part2_eq_skeleton, k1_part3_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg6.eq_unread hf5; obtain rfl := harg7.eq_unread hfs0; obtain rfl := harg8.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [H5]
    · iexists _; isplitr; · ipureintro; exact harg6.read_unread _
      iexact H5
    isplitl [HS0]; · iexists _; iexact HS0
    iexists _; iexact HS1

-- (the run's proof term is large: it takes more than the default number of steps)
set_option maxHeartbeats 1000000 in
/-- What the body's stores leave in each output's staging memref, as pieces (last first) IN CASE C (`scf.if` 0 not taken, `scf.if` 1 taken: points 7), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun_C (c : Dev nD) (i : grid1.Coords) (arg1 : Memref sig .tc .vmem S256x128 .f32) (harg1 : arg1.IsWhole) (arg2 : Memref sig .tc .vmem S1x128 .f32) (harg2 : arg2.IsWhole) (arg3 : Memref sig .tc .vmem S256x128 .f32) (harg3 : arg3.IsWhole) (arg4 : Memref sig .tc .vmem S1x256x8x768 .f32) (harg4 : arg4.IsWhole) (arg5 : Memref sig .tc .vmem S1x256x8x768 .f32) (harg5 : arg5.IsWhole) (arg6 : Memref sig .tc .vmem S1x1 .f32) (harg6 : arg6.IsWhole) (arg7 : Memref sig .tc .vmem S1x128 .f32) (harg7 : arg7.IsWhole) (arg8 : Memref sig .tc .vmem S1x128 .f32) (harg8 : arg8.IsWhole) (hc0 : ¬cond_0 i) (hc1 : cond_1 i)
    (x0 : Vec F S256x128 .f32) (x1 : Vec F S1x128 .f32) (xs0 : Vec F S1x128 .f32) (xs1 : Vec F S1x128 .f32) :
    Σ' (L2 : List (View.Piece (Elt F) S256x128 .f32)), Σ' (L3 : List (View.Piece (Elt F) S1x256x8x768 .f32)), Σ' (L4 : List (View.Piece (Elt F) S1x256x8x768 .f32)), Σ' (L5 : List (View.Piece (Elt F) S1x1 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__route_kernel i arg1 harg1 arg2 harg2 arg3 harg3 arg4 harg4 arg5 harg5 arg6 harg6 arg7 harg7 arg8 harg8) K } := by
  refine ⟨?_, ?_, ?_, ?_, ?_, ?_, fun E K => ?run⟩
  case run =>
    simp only [cc1__route_kernel_eq_skeleton]; unfold cc1__route_kernel_skel
    simp only [k1_part1_eq_skeleton, k1_part2_eq_skeleton, k1_part3_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg7.eq_unread hfs0; obtain rfl := harg8.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [H5]; · iexists _; iexact H5
    isplitl [HS0]; · iexists _; iexact HS0
    iexists _; iexact HS1

/-- Case A's pieces for output 2 tile its block (1 store of `S256x128`, checked by the kernel's evaluation: `Piece.tiledL`, linear in the pieces, through a loop's `@[irreducible]` trip theorem too), so they cover it. -/
theorem cover_A_2 (c : Dev nD) (i : grid1.Coords) (arg1 : Memref sig .tc .vmem S256x128 .f32) (harg1 : arg1.IsWhole) (arg2 : Memref sig .tc .vmem S1x128 .f32) (harg2 : arg2.IsWhole) (arg3 : Memref sig .tc .vmem S256x128 .f32) (harg3 : arg3.IsWhole) (arg4 : Memref sig .tc .vmem S1x256x8x768 .f32) (harg4 : arg4.IsWhole) (arg5 : Memref sig .tc .vmem S1x256x8x768 .f32) (harg5 : arg5.IsWhole) (arg6 : Memref sig .tc .vmem S1x1 .f32) (harg6 : arg6.IsWhole) (arg7 : Memref sig .tc .vmem S1x128 .f32) (harg7 : arg7.IsWhole) (arg8 : Memref sig .tc .vmem S1x128 .f32) (harg8 : arg8.IsWhole) (hc0 : cond_0 i) (hc1 : ¬cond_1 i)
    (x0 : Vec F S256x128 .f32) (x1 : Vec F S1x128 .f32) (y : S256x128.Idx) :
    ∃ pc ∈ (kernelRun_A c i arg1 harg1 arg2 harg2 arg3 harg3 arg4 harg4 arg5 harg5 arg6 harg6 arg7 harg7 arg8 harg8 hc0 hc1 x0 x1).1, y ∈ pc.1.set :=
  View.cover_of_tiledL (kernelRun_A c i arg1 harg1 arg2 harg2 arg3 harg3 arg4 harg4 arg5 harg5 arg6 harg6 arg7 harg7 arg8 harg8 hc0 hc1 x0 x1).1 S256x128.size (by sl_kernel_rfl) y

/-- What case A leaves in output 2's staging buffer: its pieces read back over junk. -/
def out_A_2 (c : Dev nD) (i : grid1.Coords) (arg1 : Memref sig .tc .vmem S256x128 .f32) (harg1 : arg1.IsWhole) (arg2 : Memref sig .tc .vmem S1x128 .f32) (harg2 : arg2.IsWhole) (arg3 : Memref sig .tc .vmem S256x128 .f32) (harg3 : arg3.IsWhole) (arg4 : Memref sig .tc .vmem S1x256x8x768 .f32) (harg4 : arg4.IsWhole) (arg5 : Memref sig .tc .vmem S1x256x8x768 .f32) (harg5 : arg5.IsWhole) (arg6 : Memref sig .tc .vmem S1x1 .f32) (harg6 : arg6.IsWhole) (arg7 : Memref sig .tc .vmem S1x128 .f32) (harg7 : arg7.IsWhole) (arg8 : Memref sig .tc .vmem S1x128 .f32) (harg8 : arg8.IsWhole) (hc0 : cond_0 i) (hc1 : ¬cond_1 i)
    (x0 : Vec F S256x128 .f32) (x1 : Vec F S1x128 .f32) : Vec F S256x128 .f32 :=
  VO_2.read (Elt F) (VO_2.writes (Elt F) VO_2.junk (kernelRun_A c i arg1 harg1 arg2 harg2 arg3 harg3 arg4 harg4 arg5 harg5 arg6 harg6 arg7 harg7 arg8 harg8 hc0 hc1 x0 x1).1)

/-- Case A's pieces for output 3 tile its block (1 store of `S1x256x8x768`, checked by the kernel's evaluation: `Piece.tiledL`, linear in the pieces, through a loop's `@[irreducible]` trip theorem too), so they cover it. -/
theorem cover_A_3 (c : Dev nD) (i : grid1.Coords) (arg1 : Memref sig .tc .vmem S256x128 .f32) (harg1 : arg1.IsWhole) (arg2 : Memref sig .tc .vmem S1x128 .f32) (harg2 : arg2.IsWhole) (arg3 : Memref sig .tc .vmem S256x128 .f32) (harg3 : arg3.IsWhole) (arg4 : Memref sig .tc .vmem S1x256x8x768 .f32) (harg4 : arg4.IsWhole) (arg5 : Memref sig .tc .vmem S1x256x8x768 .f32) (harg5 : arg5.IsWhole) (arg6 : Memref sig .tc .vmem S1x1 .f32) (harg6 : arg6.IsWhole) (arg7 : Memref sig .tc .vmem S1x128 .f32) (harg7 : arg7.IsWhole) (arg8 : Memref sig .tc .vmem S1x128 .f32) (harg8 : arg8.IsWhole) (hc0 : cond_0 i) (hc1 : ¬cond_1 i)
    (x0 : Vec F S256x128 .f32) (x1 : Vec F S1x128 .f32) (y : S1x256x8x768.Idx) :
    ∃ pc ∈ (kernelRun_A c i arg1 harg1 arg2 harg2 arg3 harg3 arg4 harg4 arg5 harg5 arg6 harg6 arg7 harg7 arg8 harg8 hc0 hc1 x0 x1).2.1, y ∈ pc.1.set :=
  View.cover_of_tiledL (kernelRun_A c i arg1 harg1 arg2 harg2 arg3 harg3 arg4 harg4 arg5 harg5 arg6 harg6 arg7 harg7 arg8 harg8 hc0 hc1 x0 x1).2.1 S1x256x8x768.size (by sl_kernel_rfl) y

/-- What case A leaves in output 3's staging buffer: its pieces read back over junk. -/
def out_A_3 (c : Dev nD) (i : grid1.Coords) (arg1 : Memref sig .tc .vmem S256x128 .f32) (harg1 : arg1.IsWhole) (arg2 : Memref sig .tc .vmem S1x128 .f32) (harg2 : arg2.IsWhole) (arg3 : Memref sig .tc .vmem S256x128 .f32) (harg3 : arg3.IsWhole) (arg4 : Memref sig .tc .vmem S1x256x8x768 .f32) (harg4 : arg4.IsWhole) (arg5 : Memref sig .tc .vmem S1x256x8x768 .f32) (harg5 : arg5.IsWhole) (arg6 : Memref sig .tc .vmem S1x1 .f32) (harg6 : arg6.IsWhole) (arg7 : Memref sig .tc .vmem S1x128 .f32) (harg7 : arg7.IsWhole) (arg8 : Memref sig .tc .vmem S1x128 .f32) (harg8 : arg8.IsWhole) (hc0 : cond_0 i) (hc1 : ¬cond_1 i)
    (x0 : Vec F S256x128 .f32) (x1 : Vec F S1x128 .f32) : Vec F S1x256x8x768 .f32 :=
  VO_3.read (Elt F) (VO_3.writes (Elt F) VO_3.junk (kernelRun_A c i arg1 harg1 arg2 harg2 arg3 harg3 arg4 harg4 arg5 harg5 arg6 harg6 arg7 harg7 arg8 harg8 hc0 hc1 x0 x1).2.1)

/-- Case A's pieces for output 4 tile its block (1 store of `S1x256x8x768`, checked by the kernel's evaluation: `Piece.tiledL`, linear in the pieces, through a loop's `@[irreducible]` trip theorem too), so they cover it. -/
theorem cover_A_4 (c : Dev nD) (i : grid1.Coords) (arg1 : Memref sig .tc .vmem S256x128 .f32) (harg1 : arg1.IsWhole) (arg2 : Memref sig .tc .vmem S1x128 .f32) (harg2 : arg2.IsWhole) (arg3 : Memref sig .tc .vmem S256x128 .f32) (harg3 : arg3.IsWhole) (arg4 : Memref sig .tc .vmem S1x256x8x768 .f32) (harg4 : arg4.IsWhole) (arg5 : Memref sig .tc .vmem S1x256x8x768 .f32) (harg5 : arg5.IsWhole) (arg6 : Memref sig .tc .vmem S1x1 .f32) (harg6 : arg6.IsWhole) (arg7 : Memref sig .tc .vmem S1x128 .f32) (harg7 : arg7.IsWhole) (arg8 : Memref sig .tc .vmem S1x128 .f32) (harg8 : arg8.IsWhole) (hc0 : cond_0 i) (hc1 : ¬cond_1 i)
    (x0 : Vec F S256x128 .f32) (x1 : Vec F S1x128 .f32) (y : S1x256x8x768.Idx) :
    ∃ pc ∈ (kernelRun_A c i arg1 harg1 arg2 harg2 arg3 harg3 arg4 harg4 arg5 harg5 arg6 harg6 arg7 harg7 arg8 harg8 hc0 hc1 x0 x1).2.2.1, y ∈ pc.1.set :=
  View.cover_of_tiledL (kernelRun_A c i arg1 harg1 arg2 harg2 arg3 harg3 arg4 harg4 arg5 harg5 arg6 harg6 arg7 harg7 arg8 harg8 hc0 hc1 x0 x1).2.2.1 S1x256x8x768.size (by sl_kernel_rfl) y

/-- What case A leaves in output 4's staging buffer: its pieces read back over junk. -/
def out_A_4 (c : Dev nD) (i : grid1.Coords) (arg1 : Memref sig .tc .vmem S256x128 .f32) (harg1 : arg1.IsWhole) (arg2 : Memref sig .tc .vmem S1x128 .f32) (harg2 : arg2.IsWhole) (arg3 : Memref sig .tc .vmem S256x128 .f32) (harg3 : arg3.IsWhole) (arg4 : Memref sig .tc .vmem S1x256x8x768 .f32) (harg4 : arg4.IsWhole) (arg5 : Memref sig .tc .vmem S1x256x8x768 .f32) (harg5 : arg5.IsWhole) (arg6 : Memref sig .tc .vmem S1x1 .f32) (harg6 : arg6.IsWhole) (arg7 : Memref sig .tc .vmem S1x128 .f32) (harg7 : arg7.IsWhole) (arg8 : Memref sig .tc .vmem S1x128 .f32) (harg8 : arg8.IsWhole) (hc0 : cond_0 i) (hc1 : ¬cond_1 i)
    (x0 : Vec F S256x128 .f32) (x1 : Vec F S1x128 .f32) : Vec F S1x256x8x768 .f32 :=
  VO_4.read (Elt F) (VO_4.writes (Elt F) VO_4.junk (kernelRun_A c i arg1 harg1 arg2 harg2 arg3 harg3 arg4 harg4 arg5 harg5 arg6 harg6 arg7 harg7 arg8 harg8 hc0 hc1 x0 x1).2.2.1)

/-- Case A stores nothing into output 5 (the window is idle at its points and not written back there):
    no pieces — a placeholder (junk read back) that nothing consults, since at these points the window is neither
    written back nor read at the next point ("Idle points"). -/
def out_A_5 (c : Dev nD) (i : grid1.Coords) (arg1 : Memref sig .tc .vmem S256x128 .f32) (harg1 : arg1.IsWhole) (arg2 : Memref sig .tc .vmem S1x128 .f32) (harg2 : arg2.IsWhole) (arg3 : Memref sig .tc .vmem S256x128 .f32) (harg3 : arg3.IsWhole) (arg4 : Memref sig .tc .vmem S1x256x8x768 .f32) (harg4 : arg4.IsWhole) (arg5 : Memref sig .tc .vmem S1x256x8x768 .f32) (harg5 : arg5.IsWhole) (arg6 : Memref sig .tc .vmem S1x1 .f32) (harg6 : arg6.IsWhole) (arg7 : Memref sig .tc .vmem S1x128 .f32) (harg7 : arg7.IsWhole) (arg8 : Memref sig .tc .vmem S1x128 .f32) (harg8 : arg8.IsWhole) (hc0 : cond_0 i) (hc1 : ¬cond_1 i)
    (x0 : Vec F S256x128 .f32) (x1 : Vec F S1x128 .f32) : Vec F S1x1 .f32 :=
  VO_5.read (Elt F) (VO_5.writes (Elt F) VO_5.junk (kernelRun_A c i arg1 harg1 arg2 harg2 arg3 harg3 arg4 harg4 arg5 harg5 arg6 harg6 arg7 harg7 arg8 harg8 hc0 hc1 x0 x1).2.2.2.1)

/-- Case A's pieces for scratch `arg7`, which the kernel carries between points, cover it: 2 pieces of `S1x128` tiling it (`Piece.tiledL`). -/
theorem scover_A_0 (c : Dev nD) (i : grid1.Coords) (arg1 : Memref sig .tc .vmem S256x128 .f32) (harg1 : arg1.IsWhole) (arg2 : Memref sig .tc .vmem S1x128 .f32) (harg2 : arg2.IsWhole) (arg3 : Memref sig .tc .vmem S256x128 .f32) (harg3 : arg3.IsWhole) (arg4 : Memref sig .tc .vmem S1x256x8x768 .f32) (harg4 : arg4.IsWhole) (arg5 : Memref sig .tc .vmem S1x256x8x768 .f32) (harg5 : arg5.IsWhole) (arg6 : Memref sig .tc .vmem S1x1 .f32) (harg6 : arg6.IsWhole) (arg7 : Memref sig .tc .vmem S1x128 .f32) (harg7 : arg7.IsWhole) (arg8 : Memref sig .tc .vmem S1x128 .f32) (harg8 : arg8.IsWhole) (hc0 : cond_0 i) (hc1 : ¬cond_1 i)
    (x0 : Vec F S256x128 .f32) (x1 : Vec F S1x128 .f32) (y : S1x128.Idx) :
    ∃ pc ∈ (kernelRun_A c i arg1 harg1 arg2 harg2 arg3 harg3 arg4 harg4 arg5 harg5 arg6 harg6 arg7 harg7 arg8 harg8 hc0 hc1 x0 x1).2.2.2.2.1, y ∈ pc.1.set :=
  View.cover_of_tiledL (kernelRun_A c i arg1 harg1 arg2 harg2 arg3 harg3 arg4 harg4 arg5 harg5 arg6 harg6 arg7 harg7 arg8 harg8 hc0 hc1 x0 x1).2.2.2.2.1 S1x128.size (by sl_kernel_rfl) y

/-- What case A leaves in scratch `arg7`: its pieces read back over junk. -/
def sout_A_0 (c : Dev nD) (i : grid1.Coords) (arg1 : Memref sig .tc .vmem S256x128 .f32) (harg1 : arg1.IsWhole) (arg2 : Memref sig .tc .vmem S1x128 .f32) (harg2 : arg2.IsWhole) (arg3 : Memref sig .tc .vmem S256x128 .f32) (harg3 : arg3.IsWhole) (arg4 : Memref sig .tc .vmem S1x256x8x768 .f32) (harg4 : arg4.IsWhole) (arg5 : Memref sig .tc .vmem S1x256x8x768 .f32) (harg5 : arg5.IsWhole) (arg6 : Memref sig .tc .vmem S1x1 .f32) (harg6 : arg6.IsWhole) (arg7 : Memref sig .tc .vmem S1x128 .f32) (harg7 : arg7.IsWhole) (arg8 : Memref sig .tc .vmem S1x128 .f32) (harg8 : arg8.IsWhole) (hc0 : cond_0 i) (hc1 : ¬cond_1 i)
    (x0 : Vec F S256x128 .f32) (x1 : Vec F S1x128 .f32) : Vec F S1x128 .f32 :=
  VS_0.read (Elt F) (VS_0.writes (Elt F) VS_0.junk (kernelRun_A c i arg1 harg1 arg2 harg2 arg3 harg3 arg4 harg4 arg5 harg5 arg6 harg6 arg7 harg7 arg8 harg8 hc0 hc1 x0 x1).2.2.2.2.1)

/-- Case A's pieces for scratch `arg8`, which the kernel carries between points, cover it: 2 pieces of `S1x128` tiling it (`Piece.tiledL`). -/
theorem scover_A_1 (c : Dev nD) (i : grid1.Coords) (arg1 : Memref sig .tc .vmem S256x128 .f32) (harg1 : arg1.IsWhole) (arg2 : Memref sig .tc .vmem S1x128 .f32) (harg2 : arg2.IsWhole) (arg3 : Memref sig .tc .vmem S256x128 .f32) (harg3 : arg3.IsWhole) (arg4 : Memref sig .tc .vmem S1x256x8x768 .f32) (harg4 : arg4.IsWhole) (arg5 : Memref sig .tc .vmem S1x256x8x768 .f32) (harg5 : arg5.IsWhole) (arg6 : Memref sig .tc .vmem S1x1 .f32) (harg6 : arg6.IsWhole) (arg7 : Memref sig .tc .vmem S1x128 .f32) (harg7 : arg7.IsWhole) (arg8 : Memref sig .tc .vmem S1x128 .f32) (harg8 : arg8.IsWhole) (hc0 : cond_0 i) (hc1 : ¬cond_1 i)
    (x0 : Vec F S256x128 .f32) (x1 : Vec F S1x128 .f32) (y : S1x128.Idx) :
    ∃ pc ∈ (kernelRun_A c i arg1 harg1 arg2 harg2 arg3 harg3 arg4 harg4 arg5 harg5 arg6 harg6 arg7 harg7 arg8 harg8 hc0 hc1 x0 x1).2.2.2.2.2.1, y ∈ pc.1.set :=
  View.cover_of_tiledL (kernelRun_A c i arg1 harg1 arg2 harg2 arg3 harg3 arg4 harg4 arg5 harg5 arg6 harg6 arg7 harg7 arg8 harg8 hc0 hc1 x0 x1).2.2.2.2.2.1 S1x128.size (by sl_kernel_rfl) y

/-- What case A leaves in scratch `arg8`: its pieces read back over junk. -/
def sout_A_1 (c : Dev nD) (i : grid1.Coords) (arg1 : Memref sig .tc .vmem S256x128 .f32) (harg1 : arg1.IsWhole) (arg2 : Memref sig .tc .vmem S1x128 .f32) (harg2 : arg2.IsWhole) (arg3 : Memref sig .tc .vmem S256x128 .f32) (harg3 : arg3.IsWhole) (arg4 : Memref sig .tc .vmem S1x256x8x768 .f32) (harg4 : arg4.IsWhole) (arg5 : Memref sig .tc .vmem S1x256x8x768 .f32) (harg5 : arg5.IsWhole) (arg6 : Memref sig .tc .vmem S1x1 .f32) (harg6 : arg6.IsWhole) (arg7 : Memref sig .tc .vmem S1x128 .f32) (harg7 : arg7.IsWhole) (arg8 : Memref sig .tc .vmem S1x128 .f32) (harg8 : arg8.IsWhole) (hc0 : cond_0 i) (hc1 : ¬cond_1 i)
    (x0 : Vec F S256x128 .f32) (x1 : Vec F S1x128 .f32) : Vec F S1x128 .f32 :=
  VS_1.read (Elt F) (VS_1.writes (Elt F) VS_1.junk (kernelRun_A c i arg1 harg1 arg2 harg2 arg3 harg3 arg4 harg4 arg5 harg5 arg6 harg6 arg7 harg7 arg8 harg8 hc0 hc1 x0 x1).2.2.2.2.2.1)

/-- Case B's pieces for output 2 tile its block (1 store of `S256x128`, checked by the kernel's evaluation: `Piece.tiledL`, linear in the pieces, through a loop's `@[irreducible]` trip theorem too), so they cover it. -/
theorem cover_B_2 (c : Dev nD) (i : grid1.Coords) (arg1 : Memref sig .tc .vmem S256x128 .f32) (harg1 : arg1.IsWhole) (arg2 : Memref sig .tc .vmem S1x128 .f32) (harg2 : arg2.IsWhole) (arg3 : Memref sig .tc .vmem S256x128 .f32) (harg3 : arg3.IsWhole) (arg4 : Memref sig .tc .vmem S1x256x8x768 .f32) (harg4 : arg4.IsWhole) (arg5 : Memref sig .tc .vmem S1x256x8x768 .f32) (harg5 : arg5.IsWhole) (arg6 : Memref sig .tc .vmem S1x1 .f32) (harg6 : arg6.IsWhole) (arg7 : Memref sig .tc .vmem S1x128 .f32) (harg7 : arg7.IsWhole) (arg8 : Memref sig .tc .vmem S1x128 .f32) (harg8 : arg8.IsWhole) (hc0 : ¬cond_0 i) (hc1 : ¬cond_1 i)
    (x0 : Vec F S256x128 .f32) (x1 : Vec F S1x128 .f32) (xs0 : Vec F S1x128 .f32) (xs1 : Vec F S1x128 .f32) (y : S256x128.Idx) :
    ∃ pc ∈ (kernelRun_B c i arg1 harg1 arg2 harg2 arg3 harg3 arg4 harg4 arg5 harg5 arg6 harg6 arg7 harg7 arg8 harg8 hc0 hc1 x0 x1 xs0 xs1).1, y ∈ pc.1.set :=
  View.cover_of_tiledL (kernelRun_B c i arg1 harg1 arg2 harg2 arg3 harg3 arg4 harg4 arg5 harg5 arg6 harg6 arg7 harg7 arg8 harg8 hc0 hc1 x0 x1 xs0 xs1).1 S256x128.size (by sl_kernel_rfl) y

/-- What case B leaves in output 2's staging buffer: its pieces read back over junk. -/
def out_B_2 (c : Dev nD) (i : grid1.Coords) (arg1 : Memref sig .tc .vmem S256x128 .f32) (harg1 : arg1.IsWhole) (arg2 : Memref sig .tc .vmem S1x128 .f32) (harg2 : arg2.IsWhole) (arg3 : Memref sig .tc .vmem S256x128 .f32) (harg3 : arg3.IsWhole) (arg4 : Memref sig .tc .vmem S1x256x8x768 .f32) (harg4 : arg4.IsWhole) (arg5 : Memref sig .tc .vmem S1x256x8x768 .f32) (harg5 : arg5.IsWhole) (arg6 : Memref sig .tc .vmem S1x1 .f32) (harg6 : arg6.IsWhole) (arg7 : Memref sig .tc .vmem S1x128 .f32) (harg7 : arg7.IsWhole) (arg8 : Memref sig .tc .vmem S1x128 .f32) (harg8 : arg8.IsWhole) (hc0 : ¬cond_0 i) (hc1 : ¬cond_1 i)
    (x0 : Vec F S256x128 .f32) (x1 : Vec F S1x128 .f32) (xs0 : Vec F S1x128 .f32) (xs1 : Vec F S1x128 .f32) : Vec F S256x128 .f32 :=
  VO_2.read (Elt F) (VO_2.writes (Elt F) VO_2.junk (kernelRun_B c i arg1 harg1 arg2 harg2 arg3 harg3 arg4 harg4 arg5 harg5 arg6 harg6 arg7 harg7 arg8 harg8 hc0 hc1 x0 x1 xs0 xs1).1)

/-- Case B's pieces for output 3 tile its block (1 store of `S1x256x8x768`, checked by the kernel's evaluation: `Piece.tiledL`, linear in the pieces, through a loop's `@[irreducible]` trip theorem too), so they cover it. -/
theorem cover_B_3 (c : Dev nD) (i : grid1.Coords) (arg1 : Memref sig .tc .vmem S256x128 .f32) (harg1 : arg1.IsWhole) (arg2 : Memref sig .tc .vmem S1x128 .f32) (harg2 : arg2.IsWhole) (arg3 : Memref sig .tc .vmem S256x128 .f32) (harg3 : arg3.IsWhole) (arg4 : Memref sig .tc .vmem S1x256x8x768 .f32) (harg4 : arg4.IsWhole) (arg5 : Memref sig .tc .vmem S1x256x8x768 .f32) (harg5 : arg5.IsWhole) (arg6 : Memref sig .tc .vmem S1x1 .f32) (harg6 : arg6.IsWhole) (arg7 : Memref sig .tc .vmem S1x128 .f32) (harg7 : arg7.IsWhole) (arg8 : Memref sig .tc .vmem S1x128 .f32) (harg8 : arg8.IsWhole) (hc0 : ¬cond_0 i) (hc1 : ¬cond_1 i)
    (x0 : Vec F S256x128 .f32) (x1 : Vec F S1x128 .f32) (xs0 : Vec F S1x128 .f32) (xs1 : Vec F S1x128 .f32) (y : S1x256x8x768.Idx) :
    ∃ pc ∈ (kernelRun_B c i arg1 harg1 arg2 harg2 arg3 harg3 arg4 harg4 arg5 harg5 arg6 harg6 arg7 harg7 arg8 harg8 hc0 hc1 x0 x1 xs0 xs1).2.1, y ∈ pc.1.set :=
  View.cover_of_tiledL (kernelRun_B c i arg1 harg1 arg2 harg2 arg3 harg3 arg4 harg4 arg5 harg5 arg6 harg6 arg7 harg7 arg8 harg8 hc0 hc1 x0 x1 xs0 xs1).2.1 S1x256x8x768.size (by sl_kernel_rfl) y

/-- What case B leaves in output 3's staging buffer: its pieces read back over junk. -/
def out_B_3 (c : Dev nD) (i : grid1.Coords) (arg1 : Memref sig .tc .vmem S256x128 .f32) (harg1 : arg1.IsWhole) (arg2 : Memref sig .tc .vmem S1x128 .f32) (harg2 : arg2.IsWhole) (arg3 : Memref sig .tc .vmem S256x128 .f32) (harg3 : arg3.IsWhole) (arg4 : Memref sig .tc .vmem S1x256x8x768 .f32) (harg4 : arg4.IsWhole) (arg5 : Memref sig .tc .vmem S1x256x8x768 .f32) (harg5 : arg5.IsWhole) (arg6 : Memref sig .tc .vmem S1x1 .f32) (harg6 : arg6.IsWhole) (arg7 : Memref sig .tc .vmem S1x128 .f32) (harg7 : arg7.IsWhole) (arg8 : Memref sig .tc .vmem S1x128 .f32) (harg8 : arg8.IsWhole) (hc0 : ¬cond_0 i) (hc1 : ¬cond_1 i)
    (x0 : Vec F S256x128 .f32) (x1 : Vec F S1x128 .f32) (xs0 : Vec F S1x128 .f32) (xs1 : Vec F S1x128 .f32) : Vec F S1x256x8x768 .f32 :=
  VO_3.read (Elt F) (VO_3.writes (Elt F) VO_3.junk (kernelRun_B c i arg1 harg1 arg2 harg2 arg3 harg3 arg4 harg4 arg5 harg5 arg6 harg6 arg7 harg7 arg8 harg8 hc0 hc1 x0 x1 xs0 xs1).2.1)

/-- Case B's pieces for output 4 tile its block (1 store of `S1x256x8x768`, checked by the kernel's evaluation: `Piece.tiledL`, linear in the pieces, through a loop's `@[irreducible]` trip theorem too), so they cover it. -/
theorem cover_B_4 (c : Dev nD) (i : grid1.Coords) (arg1 : Memref sig .tc .vmem S256x128 .f32) (harg1 : arg1.IsWhole) (arg2 : Memref sig .tc .vmem S1x128 .f32) (harg2 : arg2.IsWhole) (arg3 : Memref sig .tc .vmem S256x128 .f32) (harg3 : arg3.IsWhole) (arg4 : Memref sig .tc .vmem S1x256x8x768 .f32) (harg4 : arg4.IsWhole) (arg5 : Memref sig .tc .vmem S1x256x8x768 .f32) (harg5 : arg5.IsWhole) (arg6 : Memref sig .tc .vmem S1x1 .f32) (harg6 : arg6.IsWhole) (arg7 : Memref sig .tc .vmem S1x128 .f32) (harg7 : arg7.IsWhole) (arg8 : Memref sig .tc .vmem S1x128 .f32) (harg8 : arg8.IsWhole) (hc0 : ¬cond_0 i) (hc1 : ¬cond_1 i)
    (x0 : Vec F S256x128 .f32) (x1 : Vec F S1x128 .f32) (xs0 : Vec F S1x128 .f32) (xs1 : Vec F S1x128 .f32) (y : S1x256x8x768.Idx) :
    ∃ pc ∈ (kernelRun_B c i arg1 harg1 arg2 harg2 arg3 harg3 arg4 harg4 arg5 harg5 arg6 harg6 arg7 harg7 arg8 harg8 hc0 hc1 x0 x1 xs0 xs1).2.2.1, y ∈ pc.1.set :=
  View.cover_of_tiledL (kernelRun_B c i arg1 harg1 arg2 harg2 arg3 harg3 arg4 harg4 arg5 harg5 arg6 harg6 arg7 harg7 arg8 harg8 hc0 hc1 x0 x1 xs0 xs1).2.2.1 S1x256x8x768.size (by sl_kernel_rfl) y

/-- What case B leaves in output 4's staging buffer: its pieces read back over junk. -/
def out_B_4 (c : Dev nD) (i : grid1.Coords) (arg1 : Memref sig .tc .vmem S256x128 .f32) (harg1 : arg1.IsWhole) (arg2 : Memref sig .tc .vmem S1x128 .f32) (harg2 : arg2.IsWhole) (arg3 : Memref sig .tc .vmem S256x128 .f32) (harg3 : arg3.IsWhole) (arg4 : Memref sig .tc .vmem S1x256x8x768 .f32) (harg4 : arg4.IsWhole) (arg5 : Memref sig .tc .vmem S1x256x8x768 .f32) (harg5 : arg5.IsWhole) (arg6 : Memref sig .tc .vmem S1x1 .f32) (harg6 : arg6.IsWhole) (arg7 : Memref sig .tc .vmem S1x128 .f32) (harg7 : arg7.IsWhole) (arg8 : Memref sig .tc .vmem S1x128 .f32) (harg8 : arg8.IsWhole) (hc0 : ¬cond_0 i) (hc1 : ¬cond_1 i)
    (x0 : Vec F S256x128 .f32) (x1 : Vec F S1x128 .f32) (xs0 : Vec F S1x128 .f32) (xs1 : Vec F S1x128 .f32) : Vec F S1x256x8x768 .f32 :=
  VO_4.read (Elt F) (VO_4.writes (Elt F) VO_4.junk (kernelRun_B c i arg1 harg1 arg2 harg2 arg3 harg3 arg4 harg4 arg5 harg5 arg6 harg6 arg7 harg7 arg8 harg8 hc0 hc1 x0 x1 xs0 xs1).2.2.1)

/-- Case B stores nothing into output 5 (the window is idle at its points and not written back there):
    no pieces — a placeholder (junk read back) that nothing consults, since at these points the window is neither
    written back nor read at the next point ("Idle points"). -/
def out_B_5 (c : Dev nD) (i : grid1.Coords) (arg1 : Memref sig .tc .vmem S256x128 .f32) (harg1 : arg1.IsWhole) (arg2 : Memref sig .tc .vmem S1x128 .f32) (harg2 : arg2.IsWhole) (arg3 : Memref sig .tc .vmem S256x128 .f32) (harg3 : arg3.IsWhole) (arg4 : Memref sig .tc .vmem S1x256x8x768 .f32) (harg4 : arg4.IsWhole) (arg5 : Memref sig .tc .vmem S1x256x8x768 .f32) (harg5 : arg5.IsWhole) (arg6 : Memref sig .tc .vmem S1x1 .f32) (harg6 : arg6.IsWhole) (arg7 : Memref sig .tc .vmem S1x128 .f32) (harg7 : arg7.IsWhole) (arg8 : Memref sig .tc .vmem S1x128 .f32) (harg8 : arg8.IsWhole) (hc0 : ¬cond_0 i) (hc1 : ¬cond_1 i)
    (x0 : Vec F S256x128 .f32) (x1 : Vec F S1x128 .f32) (xs0 : Vec F S1x128 .f32) (xs1 : Vec F S1x128 .f32) : Vec F S1x1 .f32 :=
  VO_5.read (Elt F) (VO_5.writes (Elt F) VO_5.junk (kernelRun_B c i arg1 harg1 arg2 harg2 arg3 harg3 arg4 harg4 arg5 harg5 arg6 harg6 arg7 harg7 arg8 harg8 hc0 hc1 x0 x1 xs0 xs1).2.2.2.1)

/-- Case B's pieces for scratch `arg7`, which the kernel carries between points, cover it: 1 piece of `S1x128` tiling it (`Piece.tiledL`). -/
theorem scover_B_0 (c : Dev nD) (i : grid1.Coords) (arg1 : Memref sig .tc .vmem S256x128 .f32) (harg1 : arg1.IsWhole) (arg2 : Memref sig .tc .vmem S1x128 .f32) (harg2 : arg2.IsWhole) (arg3 : Memref sig .tc .vmem S256x128 .f32) (harg3 : arg3.IsWhole) (arg4 : Memref sig .tc .vmem S1x256x8x768 .f32) (harg4 : arg4.IsWhole) (arg5 : Memref sig .tc .vmem S1x256x8x768 .f32) (harg5 : arg5.IsWhole) (arg6 : Memref sig .tc .vmem S1x1 .f32) (harg6 : arg6.IsWhole) (arg7 : Memref sig .tc .vmem S1x128 .f32) (harg7 : arg7.IsWhole) (arg8 : Memref sig .tc .vmem S1x128 .f32) (harg8 : arg8.IsWhole) (hc0 : ¬cond_0 i) (hc1 : ¬cond_1 i)
    (x0 : Vec F S256x128 .f32) (x1 : Vec F S1x128 .f32) (xs0 : Vec F S1x128 .f32) (xs1 : Vec F S1x128 .f32) (y : S1x128.Idx) :
    ∃ pc ∈ (kernelRun_B c i arg1 harg1 arg2 harg2 arg3 harg3 arg4 harg4 arg5 harg5 arg6 harg6 arg7 harg7 arg8 harg8 hc0 hc1 x0 x1 xs0 xs1).2.2.2.2.1, y ∈ pc.1.set :=
  View.cover_of_tiledL (kernelRun_B c i arg1 harg1 arg2 harg2 arg3 harg3 arg4 harg4 arg5 harg5 arg6 harg6 arg7 harg7 arg8 harg8 hc0 hc1 x0 x1 xs0 xs1).2.2.2.2.1 S1x128.size (by sl_kernel_rfl) y

/-- What case B leaves in scratch `arg7`: its pieces read back over junk. -/
def sout_B_0 (c : Dev nD) (i : grid1.Coords) (arg1 : Memref sig .tc .vmem S256x128 .f32) (harg1 : arg1.IsWhole) (arg2 : Memref sig .tc .vmem S1x128 .f32) (harg2 : arg2.IsWhole) (arg3 : Memref sig .tc .vmem S256x128 .f32) (harg3 : arg3.IsWhole) (arg4 : Memref sig .tc .vmem S1x256x8x768 .f32) (harg4 : arg4.IsWhole) (arg5 : Memref sig .tc .vmem S1x256x8x768 .f32) (harg5 : arg5.IsWhole) (arg6 : Memref sig .tc .vmem S1x1 .f32) (harg6 : arg6.IsWhole) (arg7 : Memref sig .tc .vmem S1x128 .f32) (harg7 : arg7.IsWhole) (arg8 : Memref sig .tc .vmem S1x128 .f32) (harg8 : arg8.IsWhole) (hc0 : ¬cond_0 i) (hc1 : ¬cond_1 i)
    (x0 : Vec F S256x128 .f32) (x1 : Vec F S1x128 .f32) (xs0 : Vec F S1x128 .f32) (xs1 : Vec F S1x128 .f32) : Vec F S1x128 .f32 :=
  VS_0.read (Elt F) (VS_0.writes (Elt F) VS_0.junk (kernelRun_B c i arg1 harg1 arg2 harg2 arg3 harg3 arg4 harg4 arg5 harg5 arg6 harg6 arg7 harg7 arg8 harg8 hc0 hc1 x0 x1 xs0 xs1).2.2.2.2.1)

/-- Case B's pieces for scratch `arg8`, which the kernel carries between points, cover it: 1 piece of `S1x128` tiling it (`Piece.tiledL`). -/
theorem scover_B_1 (c : Dev nD) (i : grid1.Coords) (arg1 : Memref sig .tc .vmem S256x128 .f32) (harg1 : arg1.IsWhole) (arg2 : Memref sig .tc .vmem S1x128 .f32) (harg2 : arg2.IsWhole) (arg3 : Memref sig .tc .vmem S256x128 .f32) (harg3 : arg3.IsWhole) (arg4 : Memref sig .tc .vmem S1x256x8x768 .f32) (harg4 : arg4.IsWhole) (arg5 : Memref sig .tc .vmem S1x256x8x768 .f32) (harg5 : arg5.IsWhole) (arg6 : Memref sig .tc .vmem S1x1 .f32) (harg6 : arg6.IsWhole) (arg7 : Memref sig .tc .vmem S1x128 .f32) (harg7 : arg7.IsWhole) (arg8 : Memref sig .tc .vmem S1x128 .f32) (harg8 : arg8.IsWhole) (hc0 : ¬cond_0 i) (hc1 : ¬cond_1 i)
    (x0 : Vec F S256x128 .f32) (x1 : Vec F S1x128 .f32) (xs0 : Vec F S1x128 .f32) (xs1 : Vec F S1x128 .f32) (y : S1x128.Idx) :
    ∃ pc ∈ (kernelRun_B c i arg1 harg1 arg2 harg2 arg3 harg3 arg4 harg4 arg5 harg5 arg6 harg6 arg7 harg7 arg8 harg8 hc0 hc1 x0 x1 xs0 xs1).2.2.2.2.2.1, y ∈ pc.1.set :=
  View.cover_of_tiledL (kernelRun_B c i arg1 harg1 arg2 harg2 arg3 harg3 arg4 harg4 arg5 harg5 arg6 harg6 arg7 harg7 arg8 harg8 hc0 hc1 x0 x1 xs0 xs1).2.2.2.2.2.1 S1x128.size (by sl_kernel_rfl) y

/-- What case B leaves in scratch `arg8`: its pieces read back over junk. -/
def sout_B_1 (c : Dev nD) (i : grid1.Coords) (arg1 : Memref sig .tc .vmem S256x128 .f32) (harg1 : arg1.IsWhole) (arg2 : Memref sig .tc .vmem S1x128 .f32) (harg2 : arg2.IsWhole) (arg3 : Memref sig .tc .vmem S256x128 .f32) (harg3 : arg3.IsWhole) (arg4 : Memref sig .tc .vmem S1x256x8x768 .f32) (harg4 : arg4.IsWhole) (arg5 : Memref sig .tc .vmem S1x256x8x768 .f32) (harg5 : arg5.IsWhole) (arg6 : Memref sig .tc .vmem S1x1 .f32) (harg6 : arg6.IsWhole) (arg7 : Memref sig .tc .vmem S1x128 .f32) (harg7 : arg7.IsWhole) (arg8 : Memref sig .tc .vmem S1x128 .f32) (harg8 : arg8.IsWhole) (hc0 : ¬cond_0 i) (hc1 : ¬cond_1 i)
    (x0 : Vec F S256x128 .f32) (x1 : Vec F S1x128 .f32) (xs0 : Vec F S1x128 .f32) (xs1 : Vec F S1x128 .f32) : Vec F S1x128 .f32 :=
  VS_1.read (Elt F) (VS_1.writes (Elt F) VS_1.junk (kernelRun_B c i arg1 harg1 arg2 harg2 arg3 harg3 arg4 harg4 arg5 harg5 arg6 harg6 arg7 harg7 arg8 harg8 hc0 hc1 x0 x1 xs0 xs1).2.2.2.2.2.1)

/-- Case C's pieces for output 2 tile its block (1 store of `S256x128`, checked by the kernel's evaluation: `Piece.tiledL`, linear in the pieces, through a loop's `@[irreducible]` trip theorem too), so they cover it. -/
theorem cover_C_2 (c : Dev nD) (i : grid1.Coords) (arg1 : Memref sig .tc .vmem S256x128 .f32) (harg1 : arg1.IsWhole) (arg2 : Memref sig .tc .vmem S1x128 .f32) (harg2 : arg2.IsWhole) (arg3 : Memref sig .tc .vmem S256x128 .f32) (harg3 : arg3.IsWhole) (arg4 : Memref sig .tc .vmem S1x256x8x768 .f32) (harg4 : arg4.IsWhole) (arg5 : Memref sig .tc .vmem S1x256x8x768 .f32) (harg5 : arg5.IsWhole) (arg6 : Memref sig .tc .vmem S1x1 .f32) (harg6 : arg6.IsWhole) (arg7 : Memref sig .tc .vmem S1x128 .f32) (harg7 : arg7.IsWhole) (arg8 : Memref sig .tc .vmem S1x128 .f32) (harg8 : arg8.IsWhole) (hc0 : ¬cond_0 i) (hc1 : cond_1 i)
    (x0 : Vec F S256x128 .f32) (x1 : Vec F S1x128 .f32) (xs0 : Vec F S1x128 .f32) (xs1 : Vec F S1x128 .f32) (y : S256x128.Idx) :
    ∃ pc ∈ (kernelRun_C c i arg1 harg1 arg2 harg2 arg3 harg3 arg4 harg4 arg5 harg5 arg6 harg6 arg7 harg7 arg8 harg8 hc0 hc1 x0 x1 xs0 xs1).1, y ∈ pc.1.set :=
  View.cover_of_tiledL (kernelRun_C c i arg1 harg1 arg2 harg2 arg3 harg3 arg4 harg4 arg5 harg5 arg6 harg6 arg7 harg7 arg8 harg8 hc0 hc1 x0 x1 xs0 xs1).1 S256x128.size (by sl_kernel_rfl) y

/-- What case C leaves in output 2's staging buffer: its pieces read back over junk. -/
def out_C_2 (c : Dev nD) (i : grid1.Coords) (arg1 : Memref sig .tc .vmem S256x128 .f32) (harg1 : arg1.IsWhole) (arg2 : Memref sig .tc .vmem S1x128 .f32) (harg2 : arg2.IsWhole) (arg3 : Memref sig .tc .vmem S256x128 .f32) (harg3 : arg3.IsWhole) (arg4 : Memref sig .tc .vmem S1x256x8x768 .f32) (harg4 : arg4.IsWhole) (arg5 : Memref sig .tc .vmem S1x256x8x768 .f32) (harg5 : arg5.IsWhole) (arg6 : Memref sig .tc .vmem S1x1 .f32) (harg6 : arg6.IsWhole) (arg7 : Memref sig .tc .vmem S1x128 .f32) (harg7 : arg7.IsWhole) (arg8 : Memref sig .tc .vmem S1x128 .f32) (harg8 : arg8.IsWhole) (hc0 : ¬cond_0 i) (hc1 : cond_1 i)
    (x0 : Vec F S256x128 .f32) (x1 : Vec F S1x128 .f32) (xs0 : Vec F S1x128 .f32) (xs1 : Vec F S1x128 .f32) : Vec F S256x128 .f32 :=
  VO_2.read (Elt F) (VO_2.writes (Elt F) VO_2.junk (kernelRun_C c i arg1 harg1 arg2 harg2 arg3 harg3 arg4 harg4 arg5 harg5 arg6 harg6 arg7 harg7 arg8 harg8 hc0 hc1 x0 x1 xs0 xs1).1)

/-- Case C's pieces for output 3 tile its block (1 store of `S1x256x8x768`, checked by the kernel's evaluation: `Piece.tiledL`, linear in the pieces, through a loop's `@[irreducible]` trip theorem too), so they cover it. -/
theorem cover_C_3 (c : Dev nD) (i : grid1.Coords) (arg1 : Memref sig .tc .vmem S256x128 .f32) (harg1 : arg1.IsWhole) (arg2 : Memref sig .tc .vmem S1x128 .f32) (harg2 : arg2.IsWhole) (arg3 : Memref sig .tc .vmem S256x128 .f32) (harg3 : arg3.IsWhole) (arg4 : Memref sig .tc .vmem S1x256x8x768 .f32) (harg4 : arg4.IsWhole) (arg5 : Memref sig .tc .vmem S1x256x8x768 .f32) (harg5 : arg5.IsWhole) (arg6 : Memref sig .tc .vmem S1x1 .f32) (harg6 : arg6.IsWhole) (arg7 : Memref sig .tc .vmem S1x128 .f32) (harg7 : arg7.IsWhole) (arg8 : Memref sig .tc .vmem S1x128 .f32) (harg8 : arg8.IsWhole) (hc0 : ¬cond_0 i) (hc1 : cond_1 i)
    (x0 : Vec F S256x128 .f32) (x1 : Vec F S1x128 .f32) (xs0 : Vec F S1x128 .f32) (xs1 : Vec F S1x128 .f32) (y : S1x256x8x768.Idx) :
    ∃ pc ∈ (kernelRun_C c i arg1 harg1 arg2 harg2 arg3 harg3 arg4 harg4 arg5 harg5 arg6 harg6 arg7 harg7 arg8 harg8 hc0 hc1 x0 x1 xs0 xs1).2.1, y ∈ pc.1.set :=
  View.cover_of_tiledL (kernelRun_C c i arg1 harg1 arg2 harg2 arg3 harg3 arg4 harg4 arg5 harg5 arg6 harg6 arg7 harg7 arg8 harg8 hc0 hc1 x0 x1 xs0 xs1).2.1 S1x256x8x768.size (by sl_kernel_rfl) y

/-- What case C leaves in output 3's staging buffer: its pieces read back over junk. -/
def out_C_3 (c : Dev nD) (i : grid1.Coords) (arg1 : Memref sig .tc .vmem S256x128 .f32) (harg1 : arg1.IsWhole) (arg2 : Memref sig .tc .vmem S1x128 .f32) (harg2 : arg2.IsWhole) (arg3 : Memref sig .tc .vmem S256x128 .f32) (harg3 : arg3.IsWhole) (arg4 : Memref sig .tc .vmem S1x256x8x768 .f32) (harg4 : arg4.IsWhole) (arg5 : Memref sig .tc .vmem S1x256x8x768 .f32) (harg5 : arg5.IsWhole) (arg6 : Memref sig .tc .vmem S1x1 .f32) (harg6 : arg6.IsWhole) (arg7 : Memref sig .tc .vmem S1x128 .f32) (harg7 : arg7.IsWhole) (arg8 : Memref sig .tc .vmem S1x128 .f32) (harg8 : arg8.IsWhole) (hc0 : ¬cond_0 i) (hc1 : cond_1 i)
    (x0 : Vec F S256x128 .f32) (x1 : Vec F S1x128 .f32) (xs0 : Vec F S1x128 .f32) (xs1 : Vec F S1x128 .f32) : Vec F S1x256x8x768 .f32 :=
  VO_3.read (Elt F) (VO_3.writes (Elt F) VO_3.junk (kernelRun_C c i arg1 harg1 arg2 harg2 arg3 harg3 arg4 harg4 arg5 harg5 arg6 harg6 arg7 harg7 arg8 harg8 hc0 hc1 x0 x1 xs0 xs1).2.1)

/-- Case C's pieces for output 4 tile its block (1 store of `S1x256x8x768`, checked by the kernel's evaluation: `Piece.tiledL`, linear in the pieces, through a loop's `@[irreducible]` trip theorem too), so they cover it. -/
theorem cover_C_4 (c : Dev nD) (i : grid1.Coords) (arg1 : Memref sig .tc .vmem S256x128 .f32) (harg1 : arg1.IsWhole) (arg2 : Memref sig .tc .vmem S1x128 .f32) (harg2 : arg2.IsWhole) (arg3 : Memref sig .tc .vmem S256x128 .f32) (harg3 : arg3.IsWhole) (arg4 : Memref sig .tc .vmem S1x256x8x768 .f32) (harg4 : arg4.IsWhole) (arg5 : Memref sig .tc .vmem S1x256x8x768 .f32) (harg5 : arg5.IsWhole) (arg6 : Memref sig .tc .vmem S1x1 .f32) (harg6 : arg6.IsWhole) (arg7 : Memref sig .tc .vmem S1x128 .f32) (harg7 : arg7.IsWhole) (arg8 : Memref sig .tc .vmem S1x128 .f32) (harg8 : arg8.IsWhole) (hc0 : ¬cond_0 i) (hc1 : cond_1 i)
    (x0 : Vec F S256x128 .f32) (x1 : Vec F S1x128 .f32) (xs0 : Vec F S1x128 .f32) (xs1 : Vec F S1x128 .f32) (y : S1x256x8x768.Idx) :
    ∃ pc ∈ (kernelRun_C c i arg1 harg1 arg2 harg2 arg3 harg3 arg4 harg4 arg5 harg5 arg6 harg6 arg7 harg7 arg8 harg8 hc0 hc1 x0 x1 xs0 xs1).2.2.1, y ∈ pc.1.set :=
  View.cover_of_tiledL (kernelRun_C c i arg1 harg1 arg2 harg2 arg3 harg3 arg4 harg4 arg5 harg5 arg6 harg6 arg7 harg7 arg8 harg8 hc0 hc1 x0 x1 xs0 xs1).2.2.1 S1x256x8x768.size (by sl_kernel_rfl) y

/-- What case C leaves in output 4's staging buffer: its pieces read back over junk. -/
def out_C_4 (c : Dev nD) (i : grid1.Coords) (arg1 : Memref sig .tc .vmem S256x128 .f32) (harg1 : arg1.IsWhole) (arg2 : Memref sig .tc .vmem S1x128 .f32) (harg2 : arg2.IsWhole) (arg3 : Memref sig .tc .vmem S256x128 .f32) (harg3 : arg3.IsWhole) (arg4 : Memref sig .tc .vmem S1x256x8x768 .f32) (harg4 : arg4.IsWhole) (arg5 : Memref sig .tc .vmem S1x256x8x768 .f32) (harg5 : arg5.IsWhole) (arg6 : Memref sig .tc .vmem S1x1 .f32) (harg6 : arg6.IsWhole) (arg7 : Memref sig .tc .vmem S1x128 .f32) (harg7 : arg7.IsWhole) (arg8 : Memref sig .tc .vmem S1x128 .f32) (harg8 : arg8.IsWhole) (hc0 : ¬cond_0 i) (hc1 : cond_1 i)
    (x0 : Vec F S256x128 .f32) (x1 : Vec F S1x128 .f32) (xs0 : Vec F S1x128 .f32) (xs1 : Vec F S1x128 .f32) : Vec F S1x256x8x768 .f32 :=
  VO_4.read (Elt F) (VO_4.writes (Elt F) VO_4.junk (kernelRun_C c i arg1 harg1 arg2 harg2 arg3 harg3 arg4 harg4 arg5 harg5 arg6 harg6 arg7 harg7 arg8 harg8 hc0 hc1 x0 x1 xs0 xs1).2.2.1)

/-- Case C's pieces for output 5 tile its block (1 store of `S1x1`, checked by the kernel's evaluation: `Piece.tiledL`, linear in the pieces, through a loop's `@[irreducible]` trip theorem too), so they cover it. -/
theorem cover_C_5 (c : Dev nD) (i : grid1.Coords) (arg1 : Memref sig .tc .vmem S256x128 .f32) (harg1 : arg1.IsWhole) (arg2 : Memref sig .tc .vmem S1x128 .f32) (harg2 : arg2.IsWhole) (arg3 : Memref sig .tc .vmem S256x128 .f32) (harg3 : arg3.IsWhole) (arg4 : Memref sig .tc .vmem S1x256x8x768 .f32) (harg4 : arg4.IsWhole) (arg5 : Memref sig .tc .vmem S1x256x8x768 .f32) (harg5 : arg5.IsWhole) (arg6 : Memref sig .tc .vmem S1x1 .f32) (harg6 : arg6.IsWhole) (arg7 : Memref sig .tc .vmem S1x128 .f32) (harg7 : arg7.IsWhole) (arg8 : Memref sig .tc .vmem S1x128 .f32) (harg8 : arg8.IsWhole) (hc0 : ¬cond_0 i) (hc1 : cond_1 i)
    (x0 : Vec F S256x128 .f32) (x1 : Vec F S1x128 .f32) (xs0 : Vec F S1x128 .f32) (xs1 : Vec F S1x128 .f32) (y : S1x1.Idx) :
    ∃ pc ∈ (kernelRun_C c i arg1 harg1 arg2 harg2 arg3 harg3 arg4 harg4 arg5 harg5 arg6 harg6 arg7 harg7 arg8 harg8 hc0 hc1 x0 x1 xs0 xs1).2.2.2.1, y ∈ pc.1.set :=
  View.cover_of_tiledL (kernelRun_C c i arg1 harg1 arg2 harg2 arg3 harg3 arg4 harg4 arg5 harg5 arg6 harg6 arg7 harg7 arg8 harg8 hc0 hc1 x0 x1 xs0 xs1).2.2.2.1 S1x1.size (by sl_kernel_rfl) y

/-- What case C leaves in output 5's staging buffer: its pieces read back over junk. -/
def out_C_5 (c : Dev nD) (i : grid1.Coords) (arg1 : Memref sig .tc .vmem S256x128 .f32) (harg1 : arg1.IsWhole) (arg2 : Memref sig .tc .vmem S1x128 .f32) (harg2 : arg2.IsWhole) (arg3 : Memref sig .tc .vmem S256x128 .f32) (harg3 : arg3.IsWhole) (arg4 : Memref sig .tc .vmem S1x256x8x768 .f32) (harg4 : arg4.IsWhole) (arg5 : Memref sig .tc .vmem S1x256x8x768 .f32) (harg5 : arg5.IsWhole) (arg6 : Memref sig .tc .vmem S1x1 .f32) (harg6 : arg6.IsWhole) (arg7 : Memref sig .tc .vmem S1x128 .f32) (harg7 : arg7.IsWhole) (arg8 : Memref sig .tc .vmem S1x128 .f32) (harg8 : arg8.IsWhole) (hc0 : ¬cond_0 i) (hc1 : cond_1 i)
    (x0 : Vec F S256x128 .f32) (x1 : Vec F S1x128 .f32) (xs0 : Vec F S1x128 .f32) (xs1 : Vec F S1x128 .f32) : Vec F S1x1 .f32 :=
  VO_5.read (Elt F) (VO_5.writes (Elt F) VO_5.junk (kernelRun_C c i arg1 harg1 arg2 harg2 arg3 harg3 arg4 harg4 arg5 harg5 arg6 harg6 arg7 harg7 arg8 harg8 hc0 hc1 x0 x1 xs0 xs1).2.2.2.1)

/-- Case C's pieces for scratch `arg7`, which the kernel carries between points, cover it: 1 piece of `S1x128` tiling it (`Piece.tiledL`). -/
theorem scover_C_0 (c : Dev nD) (i : grid1.Coords) (arg1 : Memref sig .tc .vmem S256x128 .f32) (harg1 : arg1.IsWhole) (arg2 : Memref sig .tc .vmem S1x128 .f32) (harg2 : arg2.IsWhole) (arg3 : Memref sig .tc .vmem S256x128 .f32) (harg3 : arg3.IsWhole) (arg4 : Memref sig .tc .vmem S1x256x8x768 .f32) (harg4 : arg4.IsWhole) (arg5 : Memref sig .tc .vmem S1x256x8x768 .f32) (harg5 : arg5.IsWhole) (arg6 : Memref sig .tc .vmem S1x1 .f32) (harg6 : arg6.IsWhole) (arg7 : Memref sig .tc .vmem S1x128 .f32) (harg7 : arg7.IsWhole) (arg8 : Memref sig .tc .vmem S1x128 .f32) (harg8 : arg8.IsWhole) (hc0 : ¬cond_0 i) (hc1 : cond_1 i)
    (x0 : Vec F S256x128 .f32) (x1 : Vec F S1x128 .f32) (xs0 : Vec F S1x128 .f32) (xs1 : Vec F S1x128 .f32) (y : S1x128.Idx) :
    ∃ pc ∈ (kernelRun_C c i arg1 harg1 arg2 harg2 arg3 harg3 arg4 harg4 arg5 harg5 arg6 harg6 arg7 harg7 arg8 harg8 hc0 hc1 x0 x1 xs0 xs1).2.2.2.2.1, y ∈ pc.1.set :=
  View.cover_of_tiledL (kernelRun_C c i arg1 harg1 arg2 harg2 arg3 harg3 arg4 harg4 arg5 harg5 arg6 harg6 arg7 harg7 arg8 harg8 hc0 hc1 x0 x1 xs0 xs1).2.2.2.2.1 S1x128.size (by sl_kernel_rfl) y

/-- What case C leaves in scratch `arg7`: its pieces read back over junk. -/
def sout_C_0 (c : Dev nD) (i : grid1.Coords) (arg1 : Memref sig .tc .vmem S256x128 .f32) (harg1 : arg1.IsWhole) (arg2 : Memref sig .tc .vmem S1x128 .f32) (harg2 : arg2.IsWhole) (arg3 : Memref sig .tc .vmem S256x128 .f32) (harg3 : arg3.IsWhole) (arg4 : Memref sig .tc .vmem S1x256x8x768 .f32) (harg4 : arg4.IsWhole) (arg5 : Memref sig .tc .vmem S1x256x8x768 .f32) (harg5 : arg5.IsWhole) (arg6 : Memref sig .tc .vmem S1x1 .f32) (harg6 : arg6.IsWhole) (arg7 : Memref sig .tc .vmem S1x128 .f32) (harg7 : arg7.IsWhole) (arg8 : Memref sig .tc .vmem S1x128 .f32) (harg8 : arg8.IsWhole) (hc0 : ¬cond_0 i) (hc1 : cond_1 i)
    (x0 : Vec F S256x128 .f32) (x1 : Vec F S1x128 .f32) (xs0 : Vec F S1x128 .f32) (xs1 : Vec F S1x128 .f32) : Vec F S1x128 .f32 :=
  VS_0.read (Elt F) (VS_0.writes (Elt F) VS_0.junk (kernelRun_C c i arg1 harg1 arg2 harg2 arg3 harg3 arg4 harg4 arg5 harg5 arg6 harg6 arg7 harg7 arg8 harg8 hc0 hc1 x0 x1 xs0 xs1).2.2.2.2.1)

/-- Case C's pieces for scratch `arg8`, which the kernel carries between points, cover it: 1 piece of `S1x128` tiling it (`Piece.tiledL`). -/
theorem scover_C_1 (c : Dev nD) (i : grid1.Coords) (arg1 : Memref sig .tc .vmem S256x128 .f32) (harg1 : arg1.IsWhole) (arg2 : Memref sig .tc .vmem S1x128 .f32) (harg2 : arg2.IsWhole) (arg3 : Memref sig .tc .vmem S256x128 .f32) (harg3 : arg3.IsWhole) (arg4 : Memref sig .tc .vmem S1x256x8x768 .f32) (harg4 : arg4.IsWhole) (arg5 : Memref sig .tc .vmem S1x256x8x768 .f32) (harg5 : arg5.IsWhole) (arg6 : Memref sig .tc .vmem S1x1 .f32) (harg6 : arg6.IsWhole) (arg7 : Memref sig .tc .vmem S1x128 .f32) (harg7 : arg7.IsWhole) (arg8 : Memref sig .tc .vmem S1x128 .f32) (harg8 : arg8.IsWhole) (hc0 : ¬cond_0 i) (hc1 : cond_1 i)
    (x0 : Vec F S256x128 .f32) (x1 : Vec F S1x128 .f32) (xs0 : Vec F S1x128 .f32) (xs1 : Vec F S1x128 .f32) (y : S1x128.Idx) :
    ∃ pc ∈ (kernelRun_C c i arg1 harg1 arg2 harg2 arg3 harg3 arg4 harg4 arg5 harg5 arg6 harg6 arg7 harg7 arg8 harg8 hc0 hc1 x0 x1 xs0 xs1).2.2.2.2.2.1, y ∈ pc.1.set :=
  View.cover_of_tiledL (kernelRun_C c i arg1 harg1 arg2 harg2 arg3 harg3 arg4 harg4 arg5 harg5 arg6 harg6 arg7 harg7 arg8 harg8 hc0 hc1 x0 x1 xs0 xs1).2.2.2.2.2.1 S1x128.size (by sl_kernel_rfl) y

/-- What case C leaves in scratch `arg8`: its pieces read back over junk. -/
def sout_C_1 (c : Dev nD) (i : grid1.Coords) (arg1 : Memref sig .tc .vmem S256x128 .f32) (harg1 : arg1.IsWhole) (arg2 : Memref sig .tc .vmem S1x128 .f32) (harg2 : arg2.IsWhole) (arg3 : Memref sig .tc .vmem S256x128 .f32) (harg3 : arg3.IsWhole) (arg4 : Memref sig .tc .vmem S1x256x8x768 .f32) (harg4 : arg4.IsWhole) (arg5 : Memref sig .tc .vmem S1x256x8x768 .f32) (harg5 : arg5.IsWhole) (arg6 : Memref sig .tc .vmem S1x1 .f32) (harg6 : arg6.IsWhole) (arg7 : Memref sig .tc .vmem S1x128 .f32) (harg7 : arg7.IsWhole) (arg8 : Memref sig .tc .vmem S1x128 .f32) (harg8 : arg8.IsWhole) (hc0 : ¬cond_0 i) (hc1 : cond_1 i)
    (x0 : Vec F S256x128 .f32) (x1 : Vec F S1x128 .f32) (xs0 : Vec F S1x128 .f32) (xs1 : Vec F S1x128 .f32) : Vec F S1x128 .f32 :=
  VS_1.read (Elt F) (VS_1.writes (Elt F) VS_1.junk (kernelRun_C c i arg1 harg1 arg2 harg2 arg3 harg3 arg4 harg4 arg5 harg5 arg6 harg6 arg7 harg7 arg8 harg8 hc0 hc1 x0 x1 xs0 xs1).2.2.2.2.2.1)

/-! ## What the outputs hold after each point -/

/-- What the outputs' staging buffers and the scratch the kernel carries between points hold after the body at position `n` (a tuple: the outputs in window order, then the scratch):
    the case the closed forms select at `n`, run at the point's memrefs and input blocks, an output it reads before covering
    at what this leaves at `n - 1` (its buffer is not written back between: `before_W_κ`). An assignment of the conditions no point meets is no case (`False.elim`). -/
def outsAt (c : Dev nD) : (n : ℕ) → n < cfg1.N → Vec F S256x128 .f32 × Vec F S1x256x8x768 .f32 × Vec F S1x256x8x768 .f32 × Vec F S1x1 .f32 × Vec F S1x128 .f32 × Vec F S1x128 .f32
  | 0, hn => (out_A_2 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) scM_0 (Memref.isWhole_whole _) scM_1 (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩), out_A_3 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) scM_0 (Memref.isWhole_whole _) scM_1 (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩), out_A_4 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) scM_0 (Memref.isWhole_whole _) scM_1 (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩), out_A_5 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) scM_0 (Memref.isWhole_whole _) scM_1 (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩), sout_A_0 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) scM_0 (Memref.isWhole_whole _) scM_1 (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩), sout_A_1 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) scM_0 (Memref.isWhole_whole _) scM_1 (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩))
  | n + 1, hn =>
    if h0 : (n + 1) % 8 = 0 then
      if h1 : (n + 1) % 8 = 7 then
        False.elim (by have hN : n + 1 < 8 := lt_of_lt_of_eq hn (show cfg1.N = 8 from N_1); omega)
      else
        (out_A_2 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM_0 (Memref.isWhole_whole _) scM_1 (Memref.isWhole_whole _) ((hcond_0 ⟨n + 1, hn⟩).mpr h0) (fun h => h1 ((hcond_1 ⟨n + 1, hn⟩).mp h)) (iblk V c 0 ⟨n + 1, hn⟩) (iblk V c 1 ⟨n + 1, hn⟩), out_A_3 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM_0 (Memref.isWhole_whole _) scM_1 (Memref.isWhole_whole _) ((hcond_0 ⟨n + 1, hn⟩).mpr h0) (fun h => h1 ((hcond_1 ⟨n + 1, hn⟩).mp h)) (iblk V c 0 ⟨n + 1, hn⟩) (iblk V c 1 ⟨n + 1, hn⟩), out_A_4 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM_0 (Memref.isWhole_whole _) scM_1 (Memref.isWhole_whole _) ((hcond_0 ⟨n + 1, hn⟩).mpr h0) (fun h => h1 ((hcond_1 ⟨n + 1, hn⟩).mp h)) (iblk V c 0 ⟨n + 1, hn⟩) (iblk V c 1 ⟨n + 1, hn⟩), out_A_5 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM_0 (Memref.isWhole_whole _) scM_1 (Memref.isWhole_whole _) ((hcond_0 ⟨n + 1, hn⟩).mpr h0) (fun h => h1 ((hcond_1 ⟨n + 1, hn⟩).mp h)) (iblk V c 0 ⟨n + 1, hn⟩) (iblk V c 1 ⟨n + 1, hn⟩), sout_A_0 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM_0 (Memref.isWhole_whole _) scM_1 (Memref.isWhole_whole _) ((hcond_0 ⟨n + 1, hn⟩).mpr h0) (fun h => h1 ((hcond_1 ⟨n + 1, hn⟩).mp h)) (iblk V c 0 ⟨n + 1, hn⟩) (iblk V c 1 ⟨n + 1, hn⟩), sout_A_1 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM_0 (Memref.isWhole_whole _) scM_1 (Memref.isWhole_whole _) ((hcond_0 ⟨n + 1, hn⟩).mpr h0) (fun h => h1 ((hcond_1 ⟨n + 1, hn⟩).mp h)) (iblk V c 0 ⟨n + 1, hn⟩) (iblk V c 1 ⟨n + 1, hn⟩))
    else
      if h1 : (n + 1) % 8 = 7 then
        (out_C_2 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM_0 (Memref.isWhole_whole _) scM_1 (Memref.isWhole_whole _) (fun h => h0 ((hcond_0 ⟨n + 1, hn⟩).mp h)) ((hcond_1 ⟨n + 1, hn⟩).mpr h1) (iblk V c 0 ⟨n + 1, hn⟩) (iblk V c 1 ⟨n + 1, hn⟩) (outsAt c n (Nat.lt_of_succ_lt hn)).2.2.2.2.1 (outsAt c n (Nat.lt_of_succ_lt hn)).2.2.2.2.2, out_C_3 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM_0 (Memref.isWhole_whole _) scM_1 (Memref.isWhole_whole _) (fun h => h0 ((hcond_0 ⟨n + 1, hn⟩).mp h)) ((hcond_1 ⟨n + 1, hn⟩).mpr h1) (iblk V c 0 ⟨n + 1, hn⟩) (iblk V c 1 ⟨n + 1, hn⟩) (outsAt c n (Nat.lt_of_succ_lt hn)).2.2.2.2.1 (outsAt c n (Nat.lt_of_succ_lt hn)).2.2.2.2.2, out_C_4 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM_0 (Memref.isWhole_whole _) scM_1 (Memref.isWhole_whole _) (fun h => h0 ((hcond_0 ⟨n + 1, hn⟩).mp h)) ((hcond_1 ⟨n + 1, hn⟩).mpr h1) (iblk V c 0 ⟨n + 1, hn⟩) (iblk V c 1 ⟨n + 1, hn⟩) (outsAt c n (Nat.lt_of_succ_lt hn)).2.2.2.2.1 (outsAt c n (Nat.lt_of_succ_lt hn)).2.2.2.2.2, out_C_5 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM_0 (Memref.isWhole_whole _) scM_1 (Memref.isWhole_whole _) (fun h => h0 ((hcond_0 ⟨n + 1, hn⟩).mp h)) ((hcond_1 ⟨n + 1, hn⟩).mpr h1) (iblk V c 0 ⟨n + 1, hn⟩) (iblk V c 1 ⟨n + 1, hn⟩) (outsAt c n (Nat.lt_of_succ_lt hn)).2.2.2.2.1 (outsAt c n (Nat.lt_of_succ_lt hn)).2.2.2.2.2, sout_C_0 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM_0 (Memref.isWhole_whole _) scM_1 (Memref.isWhole_whole _) (fun h => h0 ((hcond_0 ⟨n + 1, hn⟩).mp h)) ((hcond_1 ⟨n + 1, hn⟩).mpr h1) (iblk V c 0 ⟨n + 1, hn⟩) (iblk V c 1 ⟨n + 1, hn⟩) (outsAt c n (Nat.lt_of_succ_lt hn)).2.2.2.2.1 (outsAt c n (Nat.lt_of_succ_lt hn)).2.2.2.2.2, sout_C_1 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM_0 (Memref.isWhole_whole _) scM_1 (Memref.isWhole_whole _) (fun h => h0 ((hcond_0 ⟨n + 1, hn⟩).mp h)) ((hcond_1 ⟨n + 1, hn⟩).mpr h1) (iblk V c 0 ⟨n + 1, hn⟩) (iblk V c 1 ⟨n + 1, hn⟩) (outsAt c n (Nat.lt_of_succ_lt hn)).2.2.2.2.1 (outsAt c n (Nat.lt_of_succ_lt hn)).2.2.2.2.2)
      else
        (out_B_2 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM_0 (Memref.isWhole_whole _) scM_1 (Memref.isWhole_whole _) (fun h => h0 ((hcond_0 ⟨n + 1, hn⟩).mp h)) (fun h => h1 ((hcond_1 ⟨n + 1, hn⟩).mp h)) (iblk V c 0 ⟨n + 1, hn⟩) (iblk V c 1 ⟨n + 1, hn⟩) (outsAt c n (Nat.lt_of_succ_lt hn)).2.2.2.2.1 (outsAt c n (Nat.lt_of_succ_lt hn)).2.2.2.2.2, out_B_3 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM_0 (Memref.isWhole_whole _) scM_1 (Memref.isWhole_whole _) (fun h => h0 ((hcond_0 ⟨n + 1, hn⟩).mp h)) (fun h => h1 ((hcond_1 ⟨n + 1, hn⟩).mp h)) (iblk V c 0 ⟨n + 1, hn⟩) (iblk V c 1 ⟨n + 1, hn⟩) (outsAt c n (Nat.lt_of_succ_lt hn)).2.2.2.2.1 (outsAt c n (Nat.lt_of_succ_lt hn)).2.2.2.2.2, out_B_4 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM_0 (Memref.isWhole_whole _) scM_1 (Memref.isWhole_whole _) (fun h => h0 ((hcond_0 ⟨n + 1, hn⟩).mp h)) (fun h => h1 ((hcond_1 ⟨n + 1, hn⟩).mp h)) (iblk V c 0 ⟨n + 1, hn⟩) (iblk V c 1 ⟨n + 1, hn⟩) (outsAt c n (Nat.lt_of_succ_lt hn)).2.2.2.2.1 (outsAt c n (Nat.lt_of_succ_lt hn)).2.2.2.2.2, out_B_5 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM_0 (Memref.isWhole_whole _) scM_1 (Memref.isWhole_whole _) (fun h => h0 ((hcond_0 ⟨n + 1, hn⟩).mp h)) (fun h => h1 ((hcond_1 ⟨n + 1, hn⟩).mp h)) (iblk V c 0 ⟨n + 1, hn⟩) (iblk V c 1 ⟨n + 1, hn⟩) (outsAt c n (Nat.lt_of_succ_lt hn)).2.2.2.2.1 (outsAt c n (Nat.lt_of_succ_lt hn)).2.2.2.2.2, sout_B_0 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM_0 (Memref.isWhole_whole _) scM_1 (Memref.isWhole_whole _) (fun h => h0 ((hcond_0 ⟨n + 1, hn⟩).mp h)) (fun h => h1 ((hcond_1 ⟨n + 1, hn⟩).mp h)) (iblk V c 0 ⟨n + 1, hn⟩) (iblk V c 1 ⟨n + 1, hn⟩) (outsAt c n (Nat.lt_of_succ_lt hn)).2.2.2.2.1 (outsAt c n (Nat.lt_of_succ_lt hn)).2.2.2.2.2, sout_B_1 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM_0 (Memref.isWhole_whole _) scM_1 (Memref.isWhole_whole _) (fun h => h0 ((hcond_0 ⟨n + 1, hn⟩).mp h)) (fun h => h1 ((hcond_1 ⟨n + 1, hn⟩).mp h)) (iblk V c 0 ⟨n + 1, hn⟩) (iblk V c 1 ⟨n + 1, hn⟩) (outsAt c n (Nat.lt_of_succ_lt hn)).2.2.2.2.1 (outsAt c n (Nat.lt_of_succ_lt hn)).2.2.2.2.2)

/-- `outsAt` at a point of case A: that case's contents. -/
theorem outsAt_A (c : Dev nD) (t : Fin cfg1.N) (h0 : t.val % 8 = 0) (h1 : ¬t.val % 8 = 7) :
    outsAt V c t.val t.isLt = (out_A_2 c (grid1.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) ((hcond_0 t).mpr h0) (fun h => h1 ((hcond_1 t).mp h)) (iblk V c 0 t) (iblk V c 1 t), out_A_3 c (grid1.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) ((hcond_0 t).mpr h0) (fun h => h1 ((hcond_1 t).mp h)) (iblk V c 0 t) (iblk V c 1 t), out_A_4 c (grid1.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) ((hcond_0 t).mpr h0) (fun h => h1 ((hcond_1 t).mp h)) (iblk V c 0 t) (iblk V c 1 t), out_A_5 c (grid1.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) ((hcond_0 t).mpr h0) (fun h => h1 ((hcond_1 t).mp h)) (iblk V c 0 t) (iblk V c 1 t), sout_A_0 c (grid1.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) ((hcond_0 t).mpr h0) (fun h => h1 ((hcond_1 t).mp h)) (iblk V c 0 t) (iblk V c 1 t), sout_A_1 c (grid1.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) ((hcond_0 t).mpr h0) (fun h => h1 ((hcond_1 t).mp h)) (iblk V c 0 t) (iblk V c 1 t)) := by
  obtain ⟨n, hn⟩ := t
  cases n with
  | zero => exact rfl
  | succ n => exact (dif_pos h0).trans ((dif_neg h1).trans rfl)

/-- `outsAt` at a point of case B: that case's contents, over what the point before left. -/
theorem outsAt_B (c : Dev nD) (t : Fin cfg1.N) (h0 : ¬t.val % 8 = 0) (h1 : ¬t.val % 8 = 7) :
    outsAt V c t.val t.isLt = (out_B_2 c (grid1.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) (fun h => h0 ((hcond_0 t).mp h)) (fun h => h1 ((hcond_1 t).mp h)) (iblk V c 0 t) (iblk V c 1 t) (outsAt V c (t.val - 1) (Nat.lt_of_le_of_lt (Nat.sub_le _ _) t.isLt)).2.2.2.2.1 (outsAt V c (t.val - 1) (Nat.lt_of_le_of_lt (Nat.sub_le _ _) t.isLt)).2.2.2.2.2, out_B_3 c (grid1.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) (fun h => h0 ((hcond_0 t).mp h)) (fun h => h1 ((hcond_1 t).mp h)) (iblk V c 0 t) (iblk V c 1 t) (outsAt V c (t.val - 1) (Nat.lt_of_le_of_lt (Nat.sub_le _ _) t.isLt)).2.2.2.2.1 (outsAt V c (t.val - 1) (Nat.lt_of_le_of_lt (Nat.sub_le _ _) t.isLt)).2.2.2.2.2, out_B_4 c (grid1.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) (fun h => h0 ((hcond_0 t).mp h)) (fun h => h1 ((hcond_1 t).mp h)) (iblk V c 0 t) (iblk V c 1 t) (outsAt V c (t.val - 1) (Nat.lt_of_le_of_lt (Nat.sub_le _ _) t.isLt)).2.2.2.2.1 (outsAt V c (t.val - 1) (Nat.lt_of_le_of_lt (Nat.sub_le _ _) t.isLt)).2.2.2.2.2, out_B_5 c (grid1.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) (fun h => h0 ((hcond_0 t).mp h)) (fun h => h1 ((hcond_1 t).mp h)) (iblk V c 0 t) (iblk V c 1 t) (outsAt V c (t.val - 1) (Nat.lt_of_le_of_lt (Nat.sub_le _ _) t.isLt)).2.2.2.2.1 (outsAt V c (t.val - 1) (Nat.lt_of_le_of_lt (Nat.sub_le _ _) t.isLt)).2.2.2.2.2, sout_B_0 c (grid1.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) (fun h => h0 ((hcond_0 t).mp h)) (fun h => h1 ((hcond_1 t).mp h)) (iblk V c 0 t) (iblk V c 1 t) (outsAt V c (t.val - 1) (Nat.lt_of_le_of_lt (Nat.sub_le _ _) t.isLt)).2.2.2.2.1 (outsAt V c (t.val - 1) (Nat.lt_of_le_of_lt (Nat.sub_le _ _) t.isLt)).2.2.2.2.2, sout_B_1 c (grid1.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) (fun h => h0 ((hcond_0 t).mp h)) (fun h => h1 ((hcond_1 t).mp h)) (iblk V c 0 t) (iblk V c 1 t) (outsAt V c (t.val - 1) (Nat.lt_of_le_of_lt (Nat.sub_le _ _) t.isLt)).2.2.2.2.1 (outsAt V c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt` at a point of case C: that case's contents, over what the point before left. -/
theorem outsAt_C (c : Dev nD) (t : Fin cfg1.N) (h0 : ¬t.val % 8 = 0) (h1 : t.val % 8 = 7) :
    outsAt V c t.val t.isLt = (out_C_2 c (grid1.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) (fun h => h0 ((hcond_0 t).mp h)) ((hcond_1 t).mpr h1) (iblk V c 0 t) (iblk V c 1 t) (outsAt V c (t.val - 1) (Nat.lt_of_le_of_lt (Nat.sub_le _ _) t.isLt)).2.2.2.2.1 (outsAt V c (t.val - 1) (Nat.lt_of_le_of_lt (Nat.sub_le _ _) t.isLt)).2.2.2.2.2, out_C_3 c (grid1.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) (fun h => h0 ((hcond_0 t).mp h)) ((hcond_1 t).mpr h1) (iblk V c 0 t) (iblk V c 1 t) (outsAt V c (t.val - 1) (Nat.lt_of_le_of_lt (Nat.sub_le _ _) t.isLt)).2.2.2.2.1 (outsAt V c (t.val - 1) (Nat.lt_of_le_of_lt (Nat.sub_le _ _) t.isLt)).2.2.2.2.2, out_C_4 c (grid1.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) (fun h => h0 ((hcond_0 t).mp h)) ((hcond_1 t).mpr h1) (iblk V c 0 t) (iblk V c 1 t) (outsAt V c (t.val - 1) (Nat.lt_of_le_of_lt (Nat.sub_le _ _) t.isLt)).2.2.2.2.1 (outsAt V c (t.val - 1) (Nat.lt_of_le_of_lt (Nat.sub_le _ _) t.isLt)).2.2.2.2.2, out_C_5 c (grid1.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) (fun h => h0 ((hcond_0 t).mp h)) ((hcond_1 t).mpr h1) (iblk V c 0 t) (iblk V c 1 t) (outsAt V c (t.val - 1) (Nat.lt_of_le_of_lt (Nat.sub_le _ _) t.isLt)).2.2.2.2.1 (outsAt V c (t.val - 1) (Nat.lt_of_le_of_lt (Nat.sub_le _ _) t.isLt)).2.2.2.2.2, sout_C_0 c (grid1.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) (fun h => h0 ((hcond_0 t).mp h)) ((hcond_1 t).mpr h1) (iblk V c 0 t) (iblk V c 1 t) (outsAt V c (t.val - 1) (Nat.lt_of_le_of_lt (Nat.sub_le _ _) t.isLt)).2.2.2.2.1 (outsAt V c (t.val - 1) (Nat.lt_of_le_of_lt (Nat.sub_le _ _) t.isLt)).2.2.2.2.2, sout_C_1 c (grid1.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) (fun h => h0 ((hcond_0 t).mp h)) ((hcond_1 t).mpr h1) (iblk V c 0 t) (iblk V c 1 t) (outsAt V c (t.val - 1) (Nat.lt_of_le_of_lt (Nat.sub_le _ _) t.isLt)).2.2.2.2.1 (outsAt V c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (`ΦA`: every scratch at anything); afterwards the scoped rest with each carried scratch
    at what the point before left in it (`outsAt`'s scratch components), the others at anything, and the generator register
    at some state. -/
def PhiS (c : Dev nD) : (n : ℕ) → n ≤ cfg1.N → sProp 𝕄
  | 0, _ => Pipeline.ΦA spec1 c
  | n + 1, hn => iprop(iprop(owns (c : Thread nD τ) scM_0 fullShare ((outsAt V c n hn).2.2.2.2.1) ∗ owns (c : Thread nD τ) scM_1 fullShare ((outsAt V c n hn).2.2.2.2.2)) ∗ Rest c)

/-- Before the first point the scratch buffers hold anything. -/
theorem PhiS_zero (c : Dev nD) (n : ℕ) (h : n ≤ cfg1.N) (hz : n = 0) : PhiS V c n h = Pipeline.ΦA spec1 c := by
  subst hz; rfl

/-- After point `n` (before point `n + 1`): the carried scratch at that point's contents. -/
theorem PhiS_succ (c : Dev nD) (n : ℕ) (hn : n < cfg1.N) :
    PhiS V c (n + 1) hn = iprop(iprop(owns (c : Thread nD τ) scM_0 fullShare ((outsAt V c n hn).2.2.2.2.1) ∗ owns (c : Thread nD τ) scM_1 fullShare ((outsAt V c n hn).2.2.2.2.2)) ∗ Rest c) := rfl

/-- Before a point that is not the first: the carried scratch at what the point before left. -/
theorem PhiS_pos (c : Dev nD) (n : ℕ) (h : n ≤ cfg1.N) (hz : n ≠ 0) :
    PhiS V c n h = iprop(iprop(owns (c : Thread nD τ) scM_0 fullShare ((outsAt V c (n - 1) (by omega)).2.2.2.2.1) ∗ owns (c : Thread nD τ) scM_1 fullShare ((outsAt V c (n - 1) (by omega)).2.2.2.2.2)) ∗ Rest c) := by
  cases n with
  | zero => exact absurd rfl hz
  | succ n => rfl

/-! ## The pipeline's proof data -/

/-- The proof data of the one pipeline on core `c`: the arrays as the region finds them (`V`); after the body at
    point `t` each input's buffer at its block and the outputs' at `outsAt`; the invariant the class's
    (`PhiS`: the class's `ΦA` before the first point, then the scoped rest with the carried scratch at `outsAt`'s component);
    nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => (outsAt V c t.val t.isLt).1
    | ⟨3, _⟩ => (outsAt V c t.val t.isLt).2.1
    | ⟨4, _⟩ => (outsAt V c t.val t.isLt).2.2.1
    | ⟨5, _⟩ => (outsAt V c t.val t.isLt).2.2.2.1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg1.W) : (dat V c).A w = V c (Pipeline.arrRef spec1 w) := by
  dsimp only [dat]

/-- The invariant at a point's start (the proof data at `t.castSucc`), restated at `t.val`. -/
theorem PhiS_castSucc (c : Dev nD) (t : Fin cfg1.N) :
    (dat V c).Φ t.castSucc = PhiS V c t.val (Nat.le_of_lt t.isLt) := by
  dsimp only [dat]; exact Pipeline.Dat.Φ_castSucc (PhiS V c) t

/-- What the body leaves, window by window (the proof data's `match` reduced by `dsimp`). -/
theorem after_0 (c : Dev nD) (t : Fin cfg1.N) : (dat V c).after 0 t = iblk V c 0 t := by dsimp only [dat]
/-- What window 1 holds after the point. -/
theorem after_1 (c : Dev nD) (t : Fin cfg1.N) : (dat V c).after 1 t = iblk V c 1 t := by dsimp only [dat]
/-- What window 2 holds after the point. -/
theorem after_2 (c : Dev nD) (t : Fin cfg1.N) : (dat V c).after 2 t = (outsAt V c t.val t.isLt).1 := by dsimp only [dat]
/-- What window 3 holds after the point. -/
theorem after_3 (c : Dev nD) (t : Fin cfg1.N) : (dat V c).after 3 t = (outsAt V c t.val t.isLt).2.1 := by dsimp only [dat]
/-- What window 4 holds after the point. -/
theorem after_4 (c : Dev nD) (t : Fin cfg1.N) : (dat V c).after 4 t = (outsAt V c t.val t.isLt).2.2.1 := by dsimp only [dat]
/-- What window 5 holds after the point. -/
theorem after_5 (c : Dev nD) (t : Fin cfg1.N) : (dat V c).after 5 t = (outsAt V c t.val t.isLt).2.2.2.1 := by dsimp only [dat]

/-- Each input's current staging buffer holds its block at every point, fetched there or not (`beforeK_W_of`). -/
theorem before_0 (c : Dev nD) (t : Fin cfg1.N) (d) : (dat V c).before 0 t d = iblk V c 0 t :=
  before_0_of V (dat V c) (A_eq V c 0) (after_0 V c) t d
/-- Window 1 holds its input block before the point. -/
theorem before_1 (c : Dev nD) (t : Fin cfg1.N) (d) : (dat V c).before 1 t d = iblk V c 1 t :=
  before_1_of V (dat V c) (A_eq V c 1) (after_1 V c) t d

/-! ## The body obligation, at a generic point -/

/-- What the body is called with at point `t` (`BodyObligation`'s precondition, the windows one by one), -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 9600000 in
/-- The body at any point: the inputs' memrefs hold their blocks (`before_W`); the closed forms say which case the point is in (`by_cases`), an output the case reads before covering holds what the point before left (`before_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = PhiS V c (t.val + 1) t.isLt from rfl, PhiS_succ]
  have hN : t.val < 8 := lt_of_lt_of_eq t.isLt (show cfg1.N = 8 from N_1)
  by_cases h0 : t.val % 8 = 0
  · by_cases h1 : t.val % 8 = 7
    · exfalso; omega
    · rw [show (dat V c).leavesExact 0 t = owns (c : Thread nD τ) (ms_0 t) fullShare ((dat V c).after 0 t) from by
      unfold Dat.leavesExact; rw [liveAt_0 t], after_0]
      rw [show (dat V c).leavesExact 1 t = owns (c : Thread nD τ) (ms_1 t) fullShare ((dat V c).after 1 t) from by
      unfold Dat.leavesExact; rw [liveAt_1 t], after_1]
      rw [show (dat V c).leavesExact 2 t = owns (c : Thread nD τ) (ms_2 t) fullShare ((dat V c).after 2 t) from by
      unfold Dat.leavesExact; rw [liveAt_2 t], after_2]
      rw [show (dat V c).leavesExact 3 t = owns (c : Thread nD τ) (ms_3 t) fullShare ((dat V c).after 3 t) from by
      unfold Dat.leavesExact; rw [liveAt_3 t], after_3]
      rw [show (dat V c).leavesExact 4 t = owns (c : Thread nD τ) (ms_4 t) fullShare ((dat V c).after 4 t) from by
      unfold Dat.leavesExact; rw [liveAt_4 t], after_4]
      rw [Dat.leavesExact_idle (dat V c) 5 t (idleAt_5_A t ((hcond_0 t).mpr h0) (fun h => h1 ((hcond_1 t).mp h))) (noFlush_5_A t ((hcond_0 t).mpr h0) (fun h => h1 ((hcond_1 t).mp h)))]
      by_cases hz : t.val = 0
      · rw [PhiS_castSucc V c t, PhiS_zero V c _ _ hz, PhiA_eq]
        rw [outsAt_A V c t h0 h1]
        unfold out_A_2 out_A_3 out_A_4 sout_A_0 sout_A_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((kernelRun_A c (grid1.coords t) _ _ _ _ _ _ _ _ _ _ _ _ _ _ _ _ ((hcond_0 t).mpr h0) (fun h => h1 ((hcond_1 t).mp h)) (iblk V c 0 t) (iblk V c 1 t)).2.2.2.2.2.2 _ Set.univ _)
        isplitl [H0]; · iexact H0
        isplitl [H1]; · iexact H1
        isplitl [H2]; · iexists _; iexact H2
        isplitl [H3]; · iexists _; iexact H3
        isplitl [H4]; · iexists _; iexact H4
        isplitl [H5]; · iexact H5
        isplitl [HS0]; · iexact HS0
        isplitl [HS1]; · iexact HS1
        iintro ⟨H0, H1, ⟨%e2, H2⟩, ⟨%e3, H3⟩, ⟨%e4, H4⟩, H5, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover_A_0 c _ _ _ _ _ _ _ _ _ _ _ _ _ _ _ _ _ _ _ _ _)
            unfold owns; iexists _; isplitr
            swap; · iexact HS1
            ipureintro; exact View.read_writes_of_cover _ _ _ _ _ (scover_A_1 c _ _ _ _ _ _ _ _ _ _ _ _ _ _ _ _ _ _ _ _ _)
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover_A_2 c _ _ _ _ _ _ _ _ _ _ _ _ _ _ _ _ _ _ _ _ _)
        isplitl [H3]
        · unfold owns; iexists _; isplitr
          swap; · iexact H3
          ipureintro; exact View.read_writes_of_cover _ _ _ _ _ (cover_A_3 c _ _ _ _ _ _ _ _ _ _ _ _ _ _ _ _ _ _ _ _ _)
        isplitl [H4]
        · unfold owns; iexists _; isplitr
          swap; · iexact H4
          ipureintro; exact View.read_writes_of_cover _ _ _ _ _ (cover_A_4 c _ _ _ _ _ _ _ _ _ _ _ _ _ _ _ _ _ _ _ _ _)
        iexists _; iexact H5
      · exfalso; have hN : t.val < 8 := lt_of_lt_of_eq t.isLt (show cfg1.N = 8 from N_1); omega
  · by_cases h1 : t.val % 8 = 7
    · rw [show (dat V c).leavesExact 0 t = owns (c : Thread nD τ) (ms_0 t) fullShare ((dat V c).after 0 t) from by
      unfold Dat.leavesExact; rw [liveAt_0 t], after_0]
      rw [show (dat V c).leavesExact 1 t = owns (c : Thread nD τ) (ms_1 t) fullShare ((dat V c).after 1 t) from by
      unfold Dat.leavesExact; rw [liveAt_1 t], after_1]
      rw [show (dat V c).leavesExact 2 t = owns (c : Thread nD τ) (ms_2 t) fullShare ((dat V c).after 2 t) from by
      unfold Dat.leavesExact; rw [liveAt_2 t], after_2]
      rw [show (dat V c).leavesExact 3 t = owns (c : Thread nD τ) (ms_3 t) fullShare ((dat V c).after 3 t) from by
      unfold Dat.leavesExact; rw [liveAt_3 t], after_3]
      rw [show (dat V c).leavesExact 4 t = owns (c : Thread nD τ) (ms_4 t) fullShare ((dat V c).after 4 t) from by
      unfold Dat.leavesExact; rw [liveAt_4 t], after_4]
      rw [show (dat V c).leavesExact 5 t = owns (c : Thread nD τ) (ms_5 t) fullShare ((dat V c).after 5 t) from by
      unfold Dat.leavesExact; rw [liveAt_5_C t (fun h => h0 ((hcond_0 t).mp h)) ((hcond_1 t).mpr h1)], after_5]
      by_cases hz : t.val = 0
      · exfalso; have hN : t.val < 8 := lt_of_lt_of_eq t.isLt (show cfg1.N = 8 from N_1); omega
      · rw [PhiS_castSucc V c t, PhiS_pos V c _ _ hz]
        rw [outsAt_C V c t h0 h1]
        unfold out_C_2 out_C_3 out_C_4 out_C_5 sout_C_0 sout_C_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((kernelRun_C c (grid1.coords t) _ _ _ _ _ _ _ _ _ _ _ _ _ _ _ _ (fun h => h0 ((hcond_0 t).mp h)) ((hcond_1 t).mpr h1) (iblk V c 0 t) (iblk V c 1 t) _ _).2.2.2.2.2.2 Set.univ _)
        isplitl [H0]; · iexact H0
        isplitl [H1]; · iexact H1
        isplitl [H2]; · iexists _; iexact H2
        isplitl [H3]; · iexists _; iexact H3
        isplitl [H4]; · iexists _; iexact H4
        isplitl [H5]; · iexists _; iexact H5
        isplitl [HS0]; · iexact HS0
        isplitl [HS1]; · iexact HS1
        iintro ⟨H0, H1, ⟨%e2, H2⟩, ⟨%e3, H3⟩, ⟨%e4, H4⟩, ⟨%e5, H5⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover_C_0 c _ _ _ _ _ _ _ _ _ _ _ _ _ _ _ _ _ _ _ _ _ _ _)
            unfold owns; iexists _; isplitr
            swap; · iexact HS1
            ipureintro; exact View.read_writes_of_cover _ _ _ _ _ (scover_C_1 c _ _ _ _ _ _ _ _ _ _ _ _ _ _ _ _ _ _ _ _ _ _ _)
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover_C_2 c _ _ _ _ _ _ _ _ _ _ _ _ _ _ _ _ _ _ _ _ _ _ _)
        isplitl [H3]
        · unfold owns; iexists _; isplitr
          swap; · iexact H3
          ipureintro; exact View.read_writes_of_cover _ _ _ _ _ (cover_C_3 c _ _ _ _ _ _ _ _ _ _ _ _ _ _ _ _ _ _ _ _ _ _ _)
        isplitl [H4]
        · unfold owns; iexists _; isplitr
          swap; · iexact H4
          ipureintro; exact View.read_writes_of_cover _ _ _ _ _ (cover_C_4 c _ _ _ _ _ _ _ _ _ _ _ _ _ _ _ _ _ _ _ _ _ _ _)
        unfold owns; iexists _; isplitr
        swap; · iexact H5
        ipureintro; exact View.read_writes_of_cover _ _ _ _ _ (cover_C_5 c _ _ _ _ _ _ _ _ _ _ _ _ _ _ _ _ _ _ _ _ _ _ _)
    · rw [show (dat V c).leavesExact 0 t = owns (c : Thread nD τ) (ms_0 t) fullShare ((dat V c).after 0 t) from by
      unfold Dat.leavesExact; rw [liveAt_0 t], after_0]
      rw [show (dat V c).leavesExact 1 t = owns (c : Thread nD τ) (ms_1 t) fullShare ((dat V c).after 1 t) from by
      unfold Dat.leavesExact; rw [liveAt_1 t], after_1]
      rw [show (dat V c).leavesExact 2 t = owns (c : Thread nD τ) (ms_2 t) fullShare ((dat V c).after 2 t) from by
      unfold Dat.leavesExact; rw [liveAt_2 t], after_2]
      rw [show (dat V c).leavesExact 3 t = owns (c : Thread nD τ) (ms_3 t) fullShare ((dat V c).after 3 t) from by
      unfold Dat.leavesExact; rw [liveAt_3 t], after_3]
      rw [show (dat V c).leavesExact 4 t = owns (c : Thread nD τ) (ms_4 t) fullShare ((dat V c).after 4 t) from by
      unfold Dat.leavesExact; rw [liveAt_4 t], after_4]
      rw [Dat.leavesExact_idle (dat V c) 5 t (idleAt_5_B t (fun h => h0 ((hcond_0 t).mp h)) (fun h => h1 ((hcond_1 t).mp h))) (noFlush_5_B t (fun h => h0 ((hcond_0 t).mp h)) (fun h => h1 ((hcond_1 t).mp h)))]
      by_cases hz : t.val = 0
      · exfalso; have hN : t.val < 8 := lt_of_lt_of_eq t.isLt (show cfg1.N = 8 from N_1); omega
      · rw [PhiS_castSucc V c t, PhiS_pos V c _ _ hz]
        rw [outsAt_B V c t h0 h1]
        unfold out_B_2 out_B_3 out_B_4 sout_B_0 sout_B_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((kernelRun_B c (grid1.coords t) _ _ _ _ _ _ _ _ _ _ _ _ _ _ _ _ (fun h => h0 ((hcond_0 t).mp h)) (fun h => h1 ((hcond_1 t).mp h)) (iblk V c 0 t) (iblk V c 1 t) _ _).2.2.2.2.2.2 _ Set.univ _)
        isplitl [H0]; · iexact H0
        isplitl [H1]; · iexact H1
        isplitl [H2]; · iexists _; iexact H2
        isplitl [H3]; · iexists _; iexact H3
        isplitl [H4]; · iexists _; iexact H4
        isplitl [H5]; · iexact H5
        isplitl [HS0]; · iexact HS0
        isplitl [HS1]; · iexact HS1
        iintro ⟨H0, H1, ⟨%e2, H2⟩, ⟨%e3, H3⟩, ⟨%e4, H4⟩, H5, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover_B_0 c _ _ _ _ _ _ _ _ _ _ _ _ _ _ _ _ _ _ _ _ _ _ _)
            unfold owns; iexists _; isplitr
            swap; · iexact HS1
            ipureintro; exact View.read_writes_of_cover _ _ _ _ _ (scover_B_1 c _ _ _ _ _ _ _ _ _ _ _ _ _ _ _ _ _ _ _ _ _ _ _)
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover_B_2 c _ _ _ _ _ _ _ _ _ _ _ _ _ _ _ _ _ _ _ _ _ _ _)
        isplitl [H3]
        · unfold owns; iexists _; isplitr
          swap; · iexact H3
          ipureintro; exact View.read_writes_of_cover _ _ _ _ _ (cover_B_3 c _ _ _ _ _ _ _ _ _ _ _ _ _ _ _ _ _ _ _ _ _ _ _)
        isplitl [H4]
        · unfold owns; iexists _; isplitr
          swap; · iexact H4
          ipureintro; exact View.read_writes_of_cover _ _ _ _ _ (cover_B_4 c _ _ _ _ _ _ _ _ _ _ _ _ _ _ _ _ _ _ _ _ _ _ _)
        iexists _; iexact H5

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (`triple_restated`). -/
theorem body_obligation (c : Dev nD) : BodyObligation (dat V c) (defs₀ (F := F)) Variants.none () Set.univ := fun t => by
  rw [bigSep_W1, bigSep_W1, defs₀_row]
  exact triple_restated (sound_body V c t) rfl .rfl fun _ => .rfl

/-- What the launch hands the region (`ΦA`) is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dat V c).Φ (Fin.last cfg1.N) ⊢ Pipeline.ΦA spec1 c :=
  Phi_out V c _ (by rw [Fin.val_last]; have : cfg1.N = 8 := N_1; omega)

end Cert.KernelIdeal.Route

end
-- ==== Proof.Run.lean ====
/-
The whole program's run: the host operations before the calls, the two calls, and the host operations after them, with the
contents of every array named at each step.
-/
module

public import proofs.«01_k».proof.Proof.MmRegion
public import proofs.«01_k».proof.Proof.RouteRegion
public import proofs.«01_k».proof.Proof.Gen.KernelIdeal.Regions
public import Idealize.ShloMosaic.Lib.Pipeline.RegionArrays

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- What the first call is entered with. -/
abbrev X0 (c : Dev nD) (b : Ref sig .tc) : Buf (Elt F) ((c : Thread nD τ).loc b) := V5 m c (Proc.devRef .tc b)
/-- What the first call leaves in the logits' array. -/
def logits (c : Dev nD) : Buf (Elt F) ((c : Thread nD τ).loc main_v5) := (Mm.dat (X0 m) c).arrAt 4 cfg0.N
/-- The arrays after the first call. -/
abbrev W6 (c : Dev nD) : Valuation τ sig (Elt F) := Function.update (V5 m c) (Proc.devRef .tc main_v5) (logits m c)
/-- What the second call is entered with. -/
abbrev X1 (c : Dev nD) (b : Ref sig .tc) : Buf (Elt F) ((c : Thread nD τ).loc b) := W6 m c (Proc.devRef .tc b)
/-- What the second call leaves in its four result arrays. -/
def probs (c : Dev nD) : Buf (Elt F) ((c : Thread nD τ).loc main_v6_0) := (Route.dat (X1 m) c).arrAt 2 cfg1.N
/-- The second call's dispatch mask. -/
def disp (c : Dev nD) : Buf (Elt F) ((c : Thread nD τ).loc main_v6_1) := (Route.dat (X1 m) c).arrAt 3 cfg1.N
/-- The second call's combine weights. -/
def comb (c : Dev nD) : Buf (Elt F) ((c : Thread nD τ).loc main_v6_2) := (Route.dat (X1 m) c).arrAt 4 cfg1.N
/-- The second call's balance loss. -/
def aux (c : Dev nD) : Buf (Elt F) ((c : Thread nD τ).loc main_v6_3) := (Route.dat (X1 m) c).arrAt 5 cfg1.N
/-- The arrays after the second call. -/
abbrev W7 (c : Dev nD) : Valuation τ sig (Elt F) :=
  Function.update (Function.update (Function.update (Function.update (W6 m c) (Proc.devRef .tc main_v6_0) (probs m c))
    (Proc.devRef .tc main_v6_1) (disp m c)) (Proc.devRef .tc main_v6_2) (comb m c)) (Proc.devRef .tc main_v6_3) (aux m c)
/-- The arrays when the program returns. -/
abbrev W8 (c : Dev nD) : Valuation τ sig (Elt F) := StableHlo.after hostOps2 (W7 m c)

/-- The first call changes its result only. -/
theorem W6_of (c : Dev nD) (r : Ref sig .tc) (h : r ≠ main_v5) : W6 m c (Proc.devRef .tc r) = V5 m c (Proc.devRef .tc r) := by
  simp only [W6, Function.update_of_ne (StableHlo.devRef_ne_of_ne h : (Proc.devRef .tc r : DevRef τ sig) ≠ Proc.devRef .tc main_v5)]
/-- After the first call its result holds the logits. -/
theorem W6_at (c : Dev nD) : W6 m c (Proc.devRef .tc main_v5) = logits m c := by
  simp only [W6, Function.update_self]
/-- The second call changes its four results only. -/
theorem W7_of (c : Dev nD) (r : Ref sig .tc) (h0 : r ≠ main_v6_0) (h1 : r ≠ main_v6_1) (h2 : r ≠ main_v6_2) (h3 : r ≠ main_v6_3) :
    W7 m c (Proc.devRef .tc r) = W6 m c (Proc.devRef .tc r) := by
  simp only [W7, Function.update_of_ne (StableHlo.devRef_ne_of_ne h0 : (Proc.devRef .tc r : DevRef τ sig) ≠ Proc.devRef .tc main_v6_0),
    Function.update_of_ne (StableHlo.devRef_ne_of_ne h1 : (Proc.devRef .tc r : DevRef τ sig) ≠ Proc.devRef .tc main_v6_1),
    Function.update_of_ne (StableHlo.devRef_ne_of_ne h2 : (Proc.devRef .tc r : DevRef τ sig) ≠ Proc.devRef .tc main_v6_2),
    Function.update_of_ne (StableHlo.devRef_ne_of_ne h3 : (Proc.devRef .tc r : DevRef τ sig) ≠ Proc.devRef .tc main_v6_3)]
/-- After the second call: the probabilities. -/
theorem W7_at_0 (c : Dev nD) : W7 m c (Proc.devRef .tc main_v6_0) = probs m c := by
  simp only [W7, Function.update_of_ne (StableHlo.devRef_ne_of_ne (by decide : (main_v6_0 : Ref sig .tc) ≠ main_v6_3)),
    Function.update_of_ne (StableHlo.devRef_ne_of_ne (by decide : (main_v6_0 : Ref sig .tc) ≠ main_v6_2)),
    Function.update_of_ne (StableHlo.devRef_ne_of_ne (by decide : (main_v6_0 : Ref sig .tc) ≠ main_v6_1)), Function.update_self]
/-- After the second call: the dispatch mask. -/
theorem W7_at_1 (c : Dev nD) : W7 m c (Proc.devRef .tc main_v6_1) = disp m c := by
  simp only [W7, Function.update_of_ne (StableHlo.devRef_ne_of_ne (by decide : (main_v6_1 : Ref sig .tc) ≠ main_v6_3)),
    Function.update_of_ne (StableHlo.devRef_ne_of_ne (by decide : (main_v6_1 : Ref sig .tc) ≠ main_v6_2)), Function.update_self]
/-- After the second call: the combine weights. -/
theorem W7_at_2 (c : Dev nD) : W7 m c (Proc.devRef .tc main_v6_2) = comb m c := by
  simp only [W7, Function.update_of_ne (StableHlo.devRef_ne_of_ne (by decide : (main_v6_2 : Ref sig .tc) ≠ main_v6_3)), Function.update_self]
/-- After the second call: the balance loss. -/
theorem W7_at_3 (c : Dev nD) : W7 m c (Proc.devRef .tc main_v6_3) = aux m c := by
  simp only [W7, Function.update_self]
/-- The last host operations change their own results only. -/
theorem W8_of (c : Dev nD) (r : Ref sig .tc) (h : r ∉ hostOps2_W) : W8 m c (Proc.devRef .tc r) = W7 m c (Proc.devRef .tc r) :=
  StableHlo.after_of_writes_sub hostOps2 _ hostOps2_writes h

/-- An argument no step writes ends as launched. -/
theorem W8_arg (c : Dev nD) (r : Ref sig .tc) (h : r ∉ hostOps2_W) (h0 : r ≠ main_v6_0) (h1 : r ≠ main_v6_1) (h2 : r ≠ main_v6_2)
    (h3 : r ≠ main_v6_3) (h5 : r ≠ main_v5) (g0 : r ∉ hostOps0_W) (g1 : r ∉ hostOps0_1_W) (g2 : r ∉ hostOps0_2_W) (g3 : r ∉ hostOps0_3_W)
    (g4 : r ∉ hostOps0_4_W) : W8 m c (Proc.devRef .tc r) = m ((c : Thread nD τ).loc r) :=
  (W8_of m c r h).trans <| (W7_of m c r h0 h1 h2 h3).trans <| (W6_of m c r h5).trans <| (V5_of m c r g4).trans <| (V4_of m c r g3).trans <|
    (V3_of m c r g2).trans <| (V2_of m c r g1).trans <| (V1_of m c r g0).trans rfl

/-! ## The two calls as segments of the program -/

/-- No loop needs a variant. -/
abbrev 𝒱₀ : Variants := Variants.none
/-- The one level of each tensor core's counters. -/
abbrev L : GSem nD τ sig → Finset Unit := fun g => if g.1.2 = .tc then {()} else ∅
/-- That level's number: zero. -/
abbrev lv : GSem nD τ sig → Unit → ℕ := fun _ _ => 0
/-- No core owes anything at any time. -/
abbrev D : Dev nD → CellTallies nD τ sig Unit := fun _ => 0
/-- What rides along beside the arrays: the generator register and nothing owed. -/
abbrev R (c : Dev nD) : sProp 𝕄 := iprop((∃ r, prngReg c r) ∗ ∃ W, owes (c : Thread nD τ) (0 : CellTallies nD τ sig Unit) W)

/-- Each call's proof data. -/
def pdats : (p : Fin 2) → (c : Dev nD) → Dat τ (Elt F) Unit ℕ (UR sig nD τ) ℕ (Pipeline.pin (pcfgs (F := F)) adm p) c
  | ⟨0, _⟩ => fun c => Mm.dat (X0 m) c
  | ⟨1, _⟩ => fun c => Route.dat (X1 m) c
  | ⟨_ + 2, h⟩ => absurd h (Nat.not_lt.2 (Nat.le_add_left _ _))

/-- The first call's arrays, and the second's, as device buffers. -/
abbrev A0 : Finset (DevRef τ sig) := Pipeline.arrRefs (τ := τ) spec0
/-- The second call's arrays. -/
abbrev A1 : Finset (DevRef τ sig) := Pipeline.arrRefs (τ := τ) spec1
/-- Each array of the first call is among them. -/
theorem A0_mem (w : Fin cfg0.W) : (Proc.devRef .tc (Pipeline.arrRef spec0 w) : DevRef τ sig) ∈ A0 :=
  Finset.mem_map_of_mem _ (Finset.mem_image_of_mem _ (Finset.mem_univ w))
/-- Each array of the second call is among them. -/
theorem A1_mem (w : Fin cfg1.W) : (Proc.devRef .tc (Pipeline.arrRef spec1 w) : DevRef τ sig) ∈ A1 :=
  Finset.mem_map_of_mem _ (Finset.mem_image_of_mem _ (Finset.mem_univ w))
/-- The first call's arrays are unscoped. -/
theorem A0_sub : A0 ⊆ Pipeline.ucRefs τ sig := Pipeline.arrRefs_sub_ucRefs spec0 launch0.win.arr_unscoped
/-- The second call's arrays are unscoped. -/
theorem A1_sub : A1 ⊆ Pipeline.ucRefs τ sig := Pipeline.arrRefs_sub_ucRefs spec1 launch1.win.arr_unscoped

/-- The first call leaves every other buffer. -/
theorem rest0_eq (c : Dev nD) : ∀ b ∈ Pipeline.ucRefs τ sig \ A0, W6 m c b = V5 m c b := fun b hb => by
  have hn : b ∉ A0 := (Finset.mem_sdiff.mp hb).2
  have h : b ≠ Proc.devRef .tc main_v5 := by rintro rfl; exact hn (A0_mem 4)
  simp only [W6, Function.update_of_ne h]
/-- The second call leaves every other buffer. -/
theorem rest1_eq (c : Dev nD) : ∀ b ∈ Pipeline.ucRefs τ sig \ A1, W7 m c b = W6 m c b := fun b hb => by
  have hn : b ∉ A1 := (Finset.mem_sdiff.mp hb).2
  have h0 : b ≠ Proc.devRef .tc main_v6_0 := by rintro rfl; exact hn (A1_mem 2)
  have h1 : b ≠ Proc.devRef .tc main_v6_1 := by rintro rfl; exact hn (A1_mem 3)
  have h2 : b ≠ Proc.devRef .tc main_v6_2 := by rintro rfl; exact hn (A1_mem 4)
  have h3 : b ≠ Proc.devRef .tc main_v6_3 := by rintro rfl; exact hn (A1_mem 5)
  simp only [W7, Function.update_of_ne h0, Function.update_of_ne h1, Function.update_of_ne h2, Function.update_of_ne h3]

/-- Every counter of the two calls sits at the one level, and nothing is owed. -/
theorem cut (p : Fin 2) : Pipeline.LevelCut (pcfgs (F := F)) adm () L lv p D (fun _ => 0) where
  hι c w s := by rw [show L _ = {()} from if_pos rfl]; exact Finset.mem_singleton_self _
  hιb c w s := Nat.le_refl _
  hD c g i h := absurd h (Nat.lt_irrefl 0)

set_option backward.isDefEq.respectTransparency.types false in
/-- The first call: entered with its arrays at `V5`, left with them at `W6`. -/
def reg0 : RegionSeg (pcfgs (F := F)) adm (pdats m) () defs₀ 𝒱₀ L lv 0 :=
  Pipeline.RegionSeg.ofHeld (pcfgs (F := F)) adm (pdats m) () defs₀ 𝒱₀ L lv 0 D
    (fun c => iprop(∃ r, prngReg c r)) (fun c => iprop(∃ r, prngReg c r)) launch0.toP rfl
    (fun c => (Mm.body_obligation (X0 m) c).loose) (fun _ _ => rfl) (fun _ => rfl)
    (fun c => (pdats m 0 c).share_full fun _ => rfl) (fun _ => .rfl) (fun _ => .rfl) (fun _ => 0) (cut 0)
    (fun c => StableHlo.held (c : Thread nD τ) (Pipeline.ucRefs τ sig \ A0) (V5 m c)) (V5 m) (W6 m) (fun _ _ => rfl)
    (fun c => fun
      | 0 => ((pdats m 0 c).arrAt_in 0 rfl _).trans ((Mm.A_eq (X0 m) c 0).trans (W6_of m c _ (by decide)).symm)
      | 1 => ((pdats m 0 c).arrAt_in 1 rfl _).trans ((Mm.A_eq (X0 m) c 1).trans (W6_of m c _ (by decide)).symm)
      | 2 => ((pdats m 0 c).arrAt_in 2 rfl _).trans ((Mm.A_eq (X0 m) c 2).trans (W6_of m c _ (by decide)).symm)
      | 3 => ((pdats m 0 c).arrAt_in 3 rfl _).trans ((Mm.A_eq (X0 m) c 3).trans (W6_of m c _ (by decide)).symm)
      | 4 => (W6_at m c).symm
      | ⟨_ + 5, h⟩ => absurd h (Nat.not_lt.2 (Nat.le_add_left _ _)))

set_option backward.isDefEq.respectTransparency.types false in
/-- The second call: entered with its arrays at `W6`, left with them at `W7`. -/
def reg1 : RegionSeg (pcfgs (F := F)) adm (pdats m) () defs₀ 𝒱₀ L lv 1 :=
  Pipeline.RegionSeg.ofHeld (pcfgs (F := F)) adm (pdats m) () defs₀ 𝒱₀ L lv 1 D
    (fun c => iprop(∃ r, prngReg c r)) (fun c => iprop(∃ r, prngReg c r)) launch1.toP rfl
    (fun c => (Route.body_obligation (X1 m) c).loose) (fun _ _ => rfl) (fun _ => rfl)
    (fun c => (pdats m 1 c).share_full fun _ => rfl) (fun c => Route.hin (X1 m) c) (fun c => Route.hout (X1 m) c) (fun _ => 0) (cut 1)
    (fun c => StableHlo.held (c : Thread nD τ) (Pipeline.ucRefs τ sig \ A1) (W6 m c)) (W6 m) (W7 m) (fun _ _ => rfl)
    (fun c => fun
      | 0 => ((pdats m 1 c).arrAt_in 0 rfl _).trans ((Route.A_eq (X1 m) c 0).trans (W7_of m c _ (by decide) (by decide) (by decide) (by decide)).symm)
      | 1 => ((pdats m 1 c).arrAt_in 1 rfl _).trans ((Route.A_eq (X1 m) c 1).trans (W7_of m c _ (by decide) (by decide) (by decide) (by decide)).symm)
      | 2 => (W7_at_0 m c).symm
      | 3 => (W7_at_1 m c).symm
      | 4 => (W7_at_2 m c).symm
      | 5 => (W7_at_3 m c).symm
      | ⟨_ + 6, h⟩ => absurd h (Nat.not_lt.2 (Nat.le_add_left _ _)))

/-- What the program holds before the first call is what the call takes. -/
theorem hpre0 (c : Dev nD) : iprop(StableHlo.held (c : Thread nD τ) (Pipeline.ucRefs τ sig) (V5 m c) ∗ R c) ⊢ (reg0 m).pre c := by
  show _ ⊢ iprop(StableHlo.held (c : Thread nD τ) A0 (V5 m c) ∗ (∃ r, prngReg c r)
    ∗ StableHlo.held (c : Thread nD τ) (Pipeline.ucRefs τ sig \ A0) (V5 m c) ∗ ∃ W, owes (c : Thread nD τ) (D c) W)
  rw [StableHlo.held_sub_split (c : Thread nD τ) A0_sub (V5 m c)]
  iintro ⟨⟨Ha, Hr⟩, Hp, HO⟩
  isplitl [Ha]; · iexact Ha
  isplitl [Hp]; · iexact Hp
  isplitl [Hr]; · iexact Hr
  iexact HO

/-- What the first call leaves is what the program holds after it. -/
theorem hpost0 (c : Dev nD) : (reg0 m).post c ⊢ iprop(StableHlo.held (c : Thread nD τ) (Pipeline.ucRefs τ sig) (W6 m c) ∗ R c) := by
  show iprop(StableHlo.held (c : Thread nD τ) A0 (W6 m c) ∗ (∃ r, prngReg c r)
    ∗ StableHlo.held (c : Thread nD τ) (Pipeline.ucRefs τ sig \ A0) (V5 m c) ∗ ∃ W, owes (c : Thread nD τ) (D c) W) ⊢ _
  rw [StableHlo.held_sub_split (c : Thread nD τ) A0_sub (W6 m c),
    StableHlo.held_congr (c : Thread nD τ) (S := Pipeline.ucRefs τ sig \ A0) (rest0_eq m c)]
  iintro ⟨Ha, Hp, Hr, HO⟩
  isplitl [Ha Hr]; · isplitl [Ha] <;> iassumption
  isplitl [Hp]; · iexact Hp
  iexact HO

/-- What the program holds before the second call is what the call takes. -/
theorem hpre1 (c : Dev nD) : iprop(StableHlo.held (c : Thread nD τ) (Pipeline.ucRefs τ sig) (W6 m c) ∗ R c) ⊢ (reg1 m).pre c := by
  show _ ⊢ iprop(StableHlo.held (c : Thread nD τ) A1 (W6 m c) ∗ (∃ r, prngReg c r)
    ∗ StableHlo.held (c : Thread nD τ) (Pipeline.ucRefs τ sig \ A1) (W6 m c) ∗ ∃ W, owes (c : Thread nD τ) (D c) W)
  rw [StableHlo.held_sub_split (c : Thread nD τ) A1_sub (W6 m c)]
  iintro ⟨⟨Ha, Hr⟩, Hp, HO⟩
  isplitl [Ha]; · iexact Ha
  isplitl [Hp]; · iexact Hp
  isplitl [Hr]; · iexact Hr
  iexact HO

/-- What the second call leaves is what the program holds after it. -/
theorem hpost1 (c : Dev nD) : (reg1 m).post c ⊢ iprop(StableHlo.held (c : Thread nD τ) (Pipeline.ucRefs τ sig) (W7 m c) ∗ R c) := by
  show iprop(StableHlo.held (c : Thread nD τ) A1 (W7 m c) ∗ (∃ r, prngReg c r)
    ∗ StableHlo.held (c : Thread nD τ) (Pipeline.ucRefs τ sig \ A1) (W6 m c) ∗ ∃ W, owes (c : Thread nD τ) (D c) W) ⊢ _
  rw [StableHlo.held_sub_split (c : Thread nD τ) A1_sub (W7 m c),
    StableHlo.held_congr (c : Thread nD τ) (S := Pipeline.ucRefs τ sig \ A1) (rest1_eq m c)]
  iintro ⟨Ha, Hp, Hr, HO⟩
  isplitl [Ha Hr]; · isplitl [Ha] <;> iassumption
  isplitl [Hp]; · iexact Hp
  iexact HO

/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    HostSeg (Name := ℕ) (U := UR sig nD τ) (pcfgs (F := F)) defs₀ 𝒱₀ L lv :=
  HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped buffer is among the held ones. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The program's segments in order. -/
abbrev segs : List (Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .region (reg0 m), .region (reg1 m),
    .host (hseg hostOps2 hostOps2_sub hostOps2_fresh (W7 m)) ]

/-- The program is its segments in order. -/
theorem main_run (c : Dev nD) : main (F := F) c = Seg.run (segs m) := (main_chain c).trans (by chain_rfl)

set_option backward.isDefEq.respectTransparency.types false in
/-- From any memory with zero counters the program terminates, nothing faulting, with every array at `W8` and every counter
    at zero. -/
theorem run_all : θ_run defs (onTc (τ := τ) (main (F := F))) ⟨m, fun _ => 0, ρ⟩ (fun r =>
    (∀ c : Dev nD, ∀ b ∈ Pipeline.ucRefs τ sig, r.2.mem ((c : Thread nD τ).1, b) = W8 m c b) ∧ r.2.sem = fun _ => 0) :=
  Pipeline.θ_run_regions_kit_sems (pcfgs (F := F)) adm (pdats m) () cellOf_inj emb₁ defs₀ 𝒱₀ L lv m ρ main (segs m)
    (fun c Q => by rw [main_run m c])
    (by simp only [segs, Seg.pipes_host, Seg.pipes_region, Seg.pipes_nil]; decide)
    (O₀ := 0) (hL := fun g h => if_neg h) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (W8 m c) ∗ ∃ r, prngReg c r))
    (hch := ⟨fun _ => .rfl, fun _ => .rfl, fun _ => .rfl, fun _ => .rfl, fun _ => .rfl, hpre0 m, fun c => (hpost0 m c).trans (hpre1 m c),
      hpost1 m, fun c => by
        dsimp only [Seg.post, hseg, HostSeg.ofOps]
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = W8 m c b)
    (hfin := fun c s' => by
      iintro ⟨⟨Hh, -⟩, HSI⟩
      unfold StableHlo.held
      imodintro
      iapply (pointsTo_read_all (Pipeline.ucRefs τ sig) (fun b => ((c : Thread nD τ).1, b)) (W8 m c) s')
      isplitl [Hh] <;> iassumption)
    (hQ := fun s h hz => ⟨h, funext fun g => hz g (.inr (regions_no_unscoped g.2))⟩)

/-- The five argument arrays end as launched, and every counter reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    have arg (b : Ref sig .tc) (hb : ¬ (Proc.devRef .tc b : DevRef τ sig).isScoped) (e : W8 m c (Proc.devRef .tc b) = m ((c : Thread nD τ).loc b)) :
        r.2.mem ((c.tc : Thread nD τ).loc b) = m ((c.tc : Thread nD τ).loc b) := (h.1 c _ (mem_uc b hb)).trans e
    ⟨arg main_arg0 (by decide) (W8_arg m c main_arg0 (by decide) (by decide) (by decide) (by decide) (by decide) (by decide) (by decide) (by decide) (by decide) (by decide) (by decide)),
     arg main_arg1 (by decide) (W8_arg m c main_arg1 (by decide) (by decide) (by decide) (by decide) (by decide) (by decide) (by decide) (by decide) (by decide) (by decide) (by decide)),
     arg main_arg2 (by decide) (W8_arg m c main_arg2 (by decide) (by decide) (by decide) (by decide) (by decide) (by decide) (by decide) (by decide) (by decide) (by decide) (by decide)),
     arg main_arg3 (by decide) (W8_arg m c main_arg3 (by decide) (by decide) (by decide) (by decide) (by decide) (by decide) (by decide) (by decide) (by decide) (by decide) (by decide)),
     arg main_arg4 (by decide) (W8_arg m c main_arg4 (by decide) (by decide) (by decide) (by decide) (by decide) (by decide) (by decide) (by decide) (by decide) (by decide) (by decide))⟩, h.2⟩)
    (run_all m ρ)

end Cert.KernelIdeal.Run

end
-- ==== Proof.Frames.lean ====
/-
The three frame claims. The kernel and its idealisation are the same text read at two instances (no operation was
rewritten), so the kernel's frame is the idealisation's, stated at any instance.
-/
module

public import proofs.«01_k».proof.Defs
public import proofs.«01_k».proof.Proof.Run
public import proofs.«01_k».proof.Proof.Gen.Kernel.Launch
public import proofs.«01_k».proof.Proof.Gen.ReferenceIdeal.Run
public import Idealize.ShloMosaic.Lib.Quiescent

@[expose] public section

set_option maxRecDepth 16384

noncomputable section

namespace Cert.Frames

open Idealize.ShloMosaic Idealize.SL.Sem Cert.Kernel

/-- The two programs' kernel bodies are the same. -/
theorem defs₀_eq : Cert.Kernel.defs₀ (F := Bits) = Cert.KernelIdeal.defs₀ (F := Bits) := by
  unfold Cert.Kernel.defs₀ Cert.KernelIdeal.defs₀
  congr 1
  funext l p
  match l, p with
  | 0, (t, s) => rfl
  | 1, (t, s) => rfl
  | ⟨_ + 2, h⟩, _ => exact absurd h (Nat.not_lt.2 (Nat.le_add_left _ _))
/-- So are the two programs' tables of kernels. -/
theorem defs_eq : Cert.Kernel.defs (F := Bits) = Cert.KernelIdeal.defs (F := Bits) := by
  unfold Cert.Kernel.defs Cert.KernelIdeal.defs; exact congrArg _ defs₀_eq

/-- The kernel runs, leaves its arguments, and every counter ends at zero. -/
theorem kernel : Cert.quiescent_Kernel := by
  unfold Cert.quiescent_Kernel; intro m ρ _; rw [defs_eq]; exact Cert.KernelIdeal.Run.frame (F := Bits) m ρ

/-- The same of the idealised kernel. -/
theorem kernelIdeal : Cert.quiescent_KernelIdeal := fun m ρ _ => Cert.KernelIdeal.Run.frame (F := Ideal) m ρ

/-- The same of the reference: a program of host operations with no counters. -/
theorem reference : Cert.quiescent_ReferenceIdeal := fun m ρ _ =>
  (θ_run Cert.ReferenceIdeal.defs _ _).mono (fun r h => ⟨fun c => ⟨(h c).2.2.2.2.1, (h c).2.2.2.2.2.1, (h c).2.2.2.2.2.2.1,
      (h c).2.2.2.2.2.2.2.1, (h c).2.2.2.2.2.2.2.2⟩, Idealize.ShloMosaic.sem_eq_zero_of_no_sems (by decide) r.2⟩)
    (Cert.ReferenceIdeal.Value.run (F := Ideal) m ρ)

end Cert.Frames

end
-- ==== Proof.MmStep.lean ====
/-
The first call (`_mm_kernel`): what its grid points leave in the logits array, from the blocks of its four operands.
-/
module

public import proofs.«01_k».proof.Proof.MmRegion
public import Idealize.ShloMosaic.Lib.Pipeline.Value
public import Idealize.ShloMosaic.Lib.Pointwise.Index

@[expose] public section

set_option maxRecDepth 16384

noncomputable section

namespace Cert.KernelIdeal.Mm

open Cert.KernelIdeal Cert.KernelIdeal.Gen
open Idealize.ShloMosaic Idealize.ShloMosaic.TcCoe Idealize.ShloMosaic.Tactic

variable {F : FTy → Type} [FloatOps F]

/-- The zero offsets of a rank 2 block. -/
theorem hz2 : (![0, 0] : Fin 2 → Nat) = fun _ => 0 := funext fun a => by fin_cases a <;> rfl

section Step

variable (c : Dev nD) (i : grid0.Coords) (arg2 : Memref sig .tc .vmem S1024x4096 .f32) (harg2 : arg2.IsWhole) (arg3 : Memref sig .tc .vmem S4096x512 .f32) (harg3 : arg3.IsWhole) (arg4 : Memref sig .tc .vmem S1x512 .f32) (harg4 : arg4.IsWhole) (arg5 : Memref sig .tc .vmem S512x128 .f32) (harg5 : arg5.IsWhole) (arg6 : Memref sig .tc .vmem S1024x128 .f32) (harg6 : arg6.IsWhole)
  (x0 : Vec F S1024x4096 .f32) (x1 : Vec F S4096x512 .f32) (x2 : Vec F S1x512 .f32) (x3 : Vec F S512x128 .f32) (xo : Vec F S1024x128 .f32)

/-- A first point of a row block leaves its block product. -/
theorem step_A (hc0 : cond_0 i) (hc1 : ¬cond_1 i) :
    out_A_4 c i arg2 harg2 arg3 harg3 arg4 harg4 arg5 harg5 arg6 harg6 hc0 hc1 x0 x1 x2 x3 = k0_pay1 x0 x1 x2 x3 := by
  unfold out_A_4
  rw [View.read_writes_eq_canon _ _ _ (cover_A_4 c i arg2 harg2 arg3 harg3 arg4 harg4 arg5 harg5 arg6 harg6 hc0 hc1 x0 x1 x2 x3)]
  unfold kernelRun_A
  dsimp only
  sl_unfold_words
  rw [View.canon_unit_zero hz2]
  simp only [View.readAt_eq_ld, harg2.read_unread, harg3.read_unread, harg4.read_unread, harg5.read_unread, View.ld_unit_zero (S := S1024x4096) hz2, View.ld_unit_zero (S := S4096x512) hz2, View.ld_unit_zero (S := S1x512) hz2, View.ld_unit_zero (S := S512x128) hz2]

/-- A later point adds its block product to what the point before left. -/
theorem step_B (hc0 : ¬cond_0 i) (hc1 : cond_1 i) :
    out_B_4 c i arg2 harg2 arg3 harg3 arg4 harg4 arg5 harg5 arg6 harg6 hc0 hc1 x0 x1 x2 x3 xo = addf xo (k0_pay1 x0 x1 x2 x3) := by
  unfold out_B_4
  rw [View.read_writes_eq_canon _ _ _ (cover_B_4 c i arg2 harg2 arg3 harg3 arg4 harg4 arg5 harg5 arg6 harg6 hc0 hc1 x0 x1 x2 x3 xo)]
  unfold kernelRun_B
  dsimp only
  sl_unfold_words
  rw [View.canon_unit_zero hz2]
  unfold k0_pay2
  simp only [View.readAt_eq_ld, harg2.read_unread, harg3.read_unread, harg4.read_unread, harg5.read_unread, harg6.read_unread, View.ld_unit_zero (S := S1024x4096) hz2, View.ld_unit_zero (S := S4096x512) hz2, View.ld_unit_zero (S := S1x512) hz2, View.ld_unit_zero (S := S512x128) hz2, View.ld_unit_zero (S := S1024x128) hz2, shapeCast_self]

end Step

variable (V : (c : Dev nD) → (b : Ref sig .tc) → Buf (Elt F) ((c : Thread nD τ).loc b)) (c : Dev nD)

/-- The product of point `t`'s blocks. -/
def prod (t : Fin cfg0.N) : Vec F S1024x128 .f32 := k0_pay1 (iblk V c 0 t) (iblk V c 1 t) (iblk V c 2 t) (iblk V c 3 t)

/-- At the first inner point of a row block the output block is that point's product. -/
theorem outsAt_first (t : Fin cfg0.N) (h0 : t.val % 8 = 0) : outsAt V c t.val t.isLt = prod V c t := by
  rw [outsAt_A V c t h0 (by omega), step_A]
  rfl

/-- At every later inner point it is the block before plus that point's product. -/
theorem outsAt_next (t : Fin cfg0.N) (h0 : ¬t.val % 8 = 0) :
    outsAt V c t.val t.isLt = addf (outsAt V c (t.val - 1) (Nat.lt_of_le_of_lt (Nat.sub_le _ _) t.isLt)) (prod V c t) := by
  rw [outsAt_B V c t h0 (by omega), step_B]
  rfl

/-! ## The blocks, and the array they end in -/

/-- The block indices of the five windows at each point. -/
theorem index_facts : ∀ t : Fin cfg0.N,
    (win0_0.index t (0 : Fin 2) = t.val / 8 ∧ win0_0.index t (1 : Fin 2) = 0)
    ∧ (win0_1.index t (0 : Fin 2) = 0 ∧ win0_1.index t (1 : Fin 2) = t.val % 8)
    ∧ (win0_2.index t (0 : Fin 2) = 0 ∧ win0_2.index t (1 : Fin 2) = t.val % 8)
    ∧ (win0_3.index t (0 : Fin 2) = t.val % 8 ∧ win0_3.index t (1 : Fin 2) = 0)
    ∧ (win0_4.index t (0 : Fin 2) = t.val / 8 ∧ win0_4.index t (1 : Fin 2) = 0) :=
  (by decide +kernel : ∀ t : Fin grid0.N, _)

/-- The output block is written back at the last inner point of its row block. -/
theorem flush_iff : ∀ t : Fin cfg0.N, (cfg0.win 4).flush t = true ↔ t.val % 8 = 7 :=
  (by decide +kernel : ∀ t : Fin grid0.N, win0_4.flush t = true ↔ t.val % 8 = 7)

/-- The call has 16 points. -/
theorem hN : cfg0.N = 16 := N_0

/-- Block `t` of the token rows. -/
theorem iblk_0 (t : Fin cfg0.N) (r : Fin 1024) (k : Fin 4096) :
    (iblk V c 0 t : Vec F S1024x4096 .f32) (ix2 r k) = (V c (Pipeline.arrRef spec0 0) : Vec F S2048x4096 .f32)
      (ix2 ⟨t.val / 8 * 1024 + r.val, by have := t.isLt; have := hN; omega⟩ k) := by
  obtain ⟨⟨e0, e1⟩, -⟩ := index_facts t
  refine congrArg (V c (Pipeline.arrRef spec0 0)) (funext fun a => Fin.ext ?_)
  match a with
  | ⟨0, _⟩ => show win0_0.index t (0 : Fin 2) * 1024 + 1 * r.val = t.val / 8 * 1024 + r.val; rw [e0]; omega
  | ⟨1, _⟩ => show win0_0.index t (1 : Fin 2) * 4096 + 1 * k.val = k.val; rw [e1]; omega

/-- Block `t` of the first weights' columns. -/
theorem iblk_1 (t : Fin cfg0.N) (k : Fin 4096) (h : Fin 512) :
    (iblk V c 1 t : Vec F S4096x512 .f32) (ix2 k h) = (V c (Pipeline.arrRef spec0 1) : Vec F S4096x4096 .f32)
      (ix2 k ⟨t.val % 8 * 512 + h.val, by omega⟩) := by
  obtain ⟨-, ⟨e0, e1⟩, -⟩ := index_facts t
  refine congrArg (V c (Pipeline.arrRef spec0 1)) (funext fun a => Fin.ext ?_)
  match a with
  | ⟨0, _⟩ => show win0_1.index t (0 : Fin 2) * 4096 + 1 * k.val = k.val; rw [e0]; omega
  | ⟨1, _⟩ => show win0_1.index t (1 : Fin 2) * 512 + 1 * h.val = t.val % 8 * 512 + h.val; rw [e1]; omega

/-- Block `t` of the first bias. -/
theorem iblk_2 (t : Fin cfg0.N) (z : Fin 1) (h : Fin 512) :
    (iblk V c 2 t : Vec F S1x512 .f32) (ix2 z h) = (V c (Pipeline.arrRef spec0 2) : Vec F S1x4096 .f32)
      (ix2 z ⟨t.val % 8 * 512 + h.val, by omega⟩) := by
  obtain ⟨-, -, ⟨e0, e1⟩, -⟩ := index_facts t
  refine congrArg (V c (Pipeline.arrRef spec0 2)) (funext fun a => Fin.ext ?_)
  match a with
  | ⟨0, _⟩ => show win0_2.index t (0 : Fin 2) * 1 + 1 * z.val = z.val; rw [e0]; omega
  | ⟨1, _⟩ => show win0_2.index t (1 : Fin 2) * 512 + 1 * h.val = t.val % 8 * 512 + h.val; rw [e1]; omega

/-- Block `t` of the second weights' rows. -/
theorem iblk_3 (t : Fin cfg0.N) (h : Fin 512) (l : Fin 128) :
    (iblk V c 3 t : Vec F S512x128 .f32) (ix2 h l) = (V c (Pipeline.arrRef spec0 3) : Vec F S4096x128 .f32)
      (ix2 ⟨t.val % 8 * 512 + h.val, by omega⟩ l) := by
  obtain ⟨-, -, -, ⟨e0, e1⟩, -⟩ := index_facts t
  refine congrArg (V c (Pipeline.arrRef spec0 3)) (funext fun a => Fin.ext ?_)
  match a with
  | ⟨0, _⟩ => show win0_3.index t (0 : Fin 2) * 512 + 1 * h.val = t.val % 8 * 512 + h.val; rw [e0]; omega
  | ⟨1, _⟩ => show win0_3.index t (1 : Fin 2) * 128 + 1 * l.val = l.val; rw [e1]; omega

/-- The last grid point of row block `i`. -/
def lastPt (i : Nat) (h : i < 2) : Fin cfg0.N := ⟨8 * i + 7, by have := hN; omega⟩

/-- The logits array: the entry in row `r` is what the last point of row block `r / 1024` holds at row `r % 1024`. -/
def arrOf : Vec F S2048x128 .f32 := fun i =>
  (outsAt V c (lastPt ((i 0).val / 1024) (by have h : (i 0).val < 2048 := (i 0).isLt; omega)).val (lastPt _ _).isLt)
    (ix2 ⟨(i 0).val % 1024, Nat.mod_lt _ (by omega)⟩ (i 1 : Fin 128))

/-- An element of the result, by the point that writes it back. -/
theorem arrOf_at (i : S2048x128.Idx) (t : Fin cfg0.N) (y : S1024x128.Idx) (e : 8 * ((i 0).val / 1024) + 7 = t.val)
    (e0 : (i 0).val % 1024 = (y 0).val) (e1 : (i 1).val = (y 1).val) : arrOf V c i = outsAt V c t.val t.isLt y := by
  have ep : ∀ (t' : Fin cfg0.N) (z : S1024x128.Idx), t' = t → z = y → outsAt V c t'.val t'.isLt z = outsAt V c t.val t.isLt y := by
    rintro _ _ rfl rfl; rfl
  refine ep _ _ (Fin.ext e) (funext fun a => Fin.ext ?_)
  match a with
  | ⟨0, _⟩ => exact e0
  | ⟨1, _⟩ => exact e1

/-- Each flush of the output window writes its block of `arrOf`. -/
theorem flushed4 (t : Fin cfg0.N) (hf : (cfg0.win 4).flush t = true) :
    (dat V c).flushed 4 t = ((cfg0.win 4).blk t).view.read (Elt F) (arrOf V c) := by
  have h7 : t.val % 8 = 7 := (flush_iff t).1 hf
  obtain ⟨-, -, -, -, e0, e1⟩ := index_facts t
  have ht : t.val < 16 := hN ▸ t.isLt
  refine funext fun (y : S1024x128.Idx) => ?_
  have hy0 : (y 0).val < 1024 := (y 0).isLt
  have hb0 : (((cfg0.win 4).blk t).view.emb y (0 : Fin 2)).val = win0_4.index t (0 : Fin 2) * 1024 + 1 * (y 0).val := rfl
  have hb1 : (((cfg0.win 4).blk t).view.emb y (1 : Fin 2)).val = win0_4.index t (1 : Fin 2) * 128 + 1 * (y 1).val := rfl
  rw [e0] at hb0
  rw [e1] at hb1
  show (cfg0.win 4).cut (grid0.coords t) ((dat V c).after 4 t) y = arrOf V c (((cfg0.win 4).blk t).view.emb y)
  rw [after_4]
  exact (arrOf_at V c (((cfg0.win 4).blk t).view.emb y) t y (by omega) (by omega) (by omega)).symm

/-- The blocks flushed cover the array. -/
theorem covered4 : ∀ i : S2048x128.Idx, ∃ t, (cfg0.win 4).flush t = true ∧ i ∈ ((cfg0.win 4).blk t).view.set := by
  intro i
  have hi0 : (i 0).val < 2048 := (i 0).isLt
  have hi1 : (i 1).val < 128 := (i 1).isLt
  refine ⟨lastPt ((i 0).val / 1024) (by omega), (flush_iff _).2 (by show (8 * _ + 7) % 8 = 7; omega), ?_⟩
  obtain ⟨-, -, -, -, e0, e1⟩ := index_facts (lastPt ((i 0).val / 1024) (by omega))
  have h0 : win0_4.index (lastPt ((i 0).val / 1024) (by omega)) (0 : Fin 2) = (i 0).val / 1024 := by
    rw [e0]; show (8 * _ + 7) / 8 = _; omega
  unfold Pipeline.Window.blk
  rw [View.set_slice_whole, Rect.mem_set_unit]
  intro a
  match a with
  | ⟨0, _⟩ =>
    show win0_4.index _ (0 : Fin 2) * 1024 ≤ (i 0).val ∧ (i 0).val < win0_4.index _ (0 : Fin 2) * 1024 + 1024
    omega
  | ⟨1, _⟩ =>
    show win0_4.index _ (1 : Fin 2) * 128 ≤ (i 1).val ∧ (i 1).val < win0_4.index _ (1 : Fin 2) * 128 + 128
    omega

/-- The array the call leaves is the array of the written blocks. -/
theorem arr4 : (dat V c).arrAt 4 cfg0.N = arrOf V c :=
  (dat V c).arrAt_eq_of_cover 4 _ (flushed4 V c) covered4

end Cert.KernelIdeal.Mm
-- ==== Proof.Spec.lean ====
/-
The router's mathematics, free of both programs: softmax over eight experts, the two best experts of a token, and the
queue position a token takes in its expert.
-/
module

public import Idealize.ShloMosaic.Lib.SortFacts
public import Idealize.ShloMosaic.PureOps.Ideal
public import Idealize.ShloMosaic.PureOps.Ideal.Laws

@[expose] public section

noncomputable section

namespace Cert.Router

open Idealize.ShloMosaic

/-! ## Extended reals that are reals -/

/-- A finite sum of reals, taken in the extended reals. -/
theorem esum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A fold of `max` from below is the value at an index that bounds all the others. -/
theorem foldMax_eq {ι : Type} [Fintype ι] (w : ι → EReal) (a : ι) (h : ∀ k, w k ≤ w a) :
    (Finset.univ : Finset ι).fold max ⊥ w = w a :=
  le_antisymm (Finset.fold_max_le (w a) |>.2 ⟨bot_le, fun k _ => h k⟩) (Finset.le_fold_max (w a) |>.2 (Or.inr ⟨a, Finset.mem_univ a, le_rfl⟩))

/-- The fold of `max` of finitely many reals is a real. -/
theorem foldMax_real {ι : Type} [Fintype ι] [Nonempty ι] (w : ι → EReal) (f : ι → ℝ) (h : ∀ k, w k = (f k : ℝ)) :
    ∃ r : ℝ, (Finset.univ : Finset ι).fold max ⊥ w = (r : EReal) := by
  obtain ⟨a, ha⟩ := Finite.exists_max f
  exact ⟨f a, (foldMax_eq w a fun k => by rw [h, h]; exact EReal.coe_le_coe_iff.2 (ha k)).trans (h a)⟩

/-- Division of reals by a nonzero real. -/
theorem div_coe (x y : ℝ) (h : y ≠ 0) : Ideal.div (x : EReal) (y : EReal) = ((x / y : ℝ) : EReal) := by
  unfold Ideal.div
  rw [if_neg (by simpa using h), ← EReal.coe_inv, ← EReal.coe_mul, div_eq_mul_inv]

/-- The exponential of a real. -/
theorem exp_coe (x : ℝ) : Ideal.exp (x : EReal) = ((Real.exp x : ℝ) : EReal) := rfl

/-! ## Softmax -/

/-- Softmax of eight logits. -/
def sm (L : Fin 8 → ℝ) (e : Fin 8) : ℝ := Real.exp (L e) / ∑ e', Real.exp (L e')

/-- The sum of exponentials is positive. -/
theorem expSum_pos (L : Fin 8 → ℝ) : 0 < ∑ e', Real.exp (L e') :=
  Finset.sum_pos (fun _ _ => Real.exp_pos _) ⟨0, Finset.mem_univ _⟩

/-- A softmax is positive. -/
theorem sm_pos (L : Fin 8 → ℝ) (e : Fin 8) : 0 < sm L e := div_pos (Real.exp_pos _) (expSum_pos L)

/-- Any shift of the logits leaves the softmax unchanged. -/
theorem sm_shift (L : Fin 8 → ℝ) (m : ℝ) (e : Fin 8) :
    Real.exp (L e - m) / ∑ e', Real.exp (L e' - m) = sm L e := by
  unfold sm
  simp only [Real.exp_sub]
  rw [← Finset.sum_div]
  exact div_div_div_cancel_right₀ (Real.exp_pos m).ne' _ _

/-- The softmax as the extended reals compute it, from the shift `m`. -/
theorem sm_ideal (L : Fin 8 → ℝ) (m : ℝ) (e : Fin 8) :
    Ideal.div (Ideal.exp ((L e : EReal) - (m : EReal))) (∑ e' : Fin 8, Ideal.exp ((L e' : EReal) - (m : EReal))) = (sm L e : EReal) := by
  simp only [← EReal.coe_sub, exp_coe]
  rw [esum, div_coe, sm_shift]
  exact (expSum_pos fun e => L e - m).ne'

/-! ## The two best experts -/

/-- `a` comes before `k`: a greater value, or the same at a lesser index. -/
def Bt {n : Nat} (v : Fin n → ℝ) (a k : Fin n) : Prop := v k < v a ∨ (v k = v a ∧ a < k)

/-- `a` is the first greatest entry, `b` the first greatest of the others. -/
structure Top2 {n : Nat} (v : Fin n → ℝ) (a b : Fin n) : Prop where
  first : ∀ k, k ≠ a → Bt v a k
  ne : b ≠ a
  second : ∀ k, k ≠ a → k ≠ b → Bt v b k

/-- Coming before is asymmetric. -/
theorem Bt.asymm {n : Nat} {v : Fin n → ℝ} {a b : Fin n} (h : Bt v a b) (h' : Bt v b a) : False := by
  rcases h with h | ⟨h, i⟩ <;> rcases h' with h' | ⟨h', i'⟩
  · exact lt_asymm h h'
  · exact absurd h' h.ne'
  · exact absurd h h'.ne'
  · exact lt_asymm i i'

/-- The best two are determined. -/
theorem Top2.unique {n : Nat} {v : Fin n → ℝ} {a b a' b' : Fin n} (h : Top2 v a b) (h' : Top2 v a' b') : a = a' ∧ b = b' := by
  have e : a = a' := by
    by_contra hne
    exact (h.first a' (Ne.symm hne)).asymm (h'.first a hne)
  subst e
  refine ⟨rfl, ?_⟩
  by_contra hne
  exact (h.second b' h'.ne (Ne.symm hne)).asymm (h'.second b h.ne hne)

/-- Inserting an earlier index into a sorted list keeps it sorted. -/
theorem insertBefore_pairwise {n : Nat} (v : Fin n → ℝ) (before : Fin n → Fin n → Bool) (hb : ∀ k k', before k k' = true ↔ v k' < v k)
    (a : Fin n) : ∀ l : List (Fin n), l.Pairwise (Bt v) → (∀ x ∈ l, a < x) → (insertBefore before a l).Pairwise (Bt v)
  | [], _, _ => List.pairwise_singleton _ _
  | b :: l, h, hl => by
    obtain ⟨h1, h2⟩ := List.pairwise_cons.1 h
    unfold insertBefore
    split
    · rename_i hba
      refine List.pairwise_cons.2 ⟨fun x hx => ?_, insertBefore_pairwise v before hb a l h2 fun x hx => hl x (List.mem_cons_of_mem _ hx)⟩
      rcases List.mem_cons.1 ((perm_insertBefore before a l).mem_iff.1 hx) with rfl | hx
      · exact Or.inl ((hb _ _).1 hba)
      · exact h1 x hx
    · rename_i hba
      have hle : v b ≤ v a := not_lt.1 fun q => hba ((hb _ _).2 q)
      refine List.pairwise_cons.2 ⟨fun x hx => ?_, h⟩
      have hx' : v x ≤ v a := by
        rcases List.mem_cons.1 hx with rfl | hx
        · exact hle
        · rcases h1 x hx with q | ⟨q, -⟩
          · exact q.le.trans hle
          · exact q.le.trans hle
      rcases hx'.lt_or_eq with q | q
      · exact Or.inl q
      · exact Or.inr ⟨q, hl x hx⟩

/-- Sorting a list of increasing indices stably by descending value puts it in order. -/
theorem stableSort_pairwise {n : Nat} (v : Fin n → ℝ) (before : Fin n → Fin n → Bool) (hb : ∀ k k', before k k' = true ↔ v k' < v k) :
    ∀ l : List (Fin n), l.Pairwise (· < ·) → (stableSort before l).Pairwise (Bt v)
  | [], _ => List.Pairwise.nil
  | a :: l, h => by
    obtain ⟨h1, h2⟩ := List.pairwise_cons.1 h
    unfold stableSort
    exact insertBefore_pairwise v before hb a _ (stableSort_pairwise v before hb l h2) fun x hx => h1 x ((perm_stableSort before l).mem_iff.1 hx)

/-- Of two positions of the stable descending sort the earlier comes before the later. -/
theorem sortedFrom_bt {n : Nat} (v : Fin n → ℝ) (before : Fin n → Fin n → Bool) (hb : ∀ k k', before k k' = true ↔ v k' < v k)
    (i j : Fin n) (h : i < j) : Bt v (sortedFrom before i) (sortedFrom before j) := by
  unfold sortedFrom
  exact List.pairwise_iff_get.1 (stableSort_pairwise v before hb (List.finRange n) (List.pairwise_lt_finRange n)) _ _ h

/-- The first two positions of the stable descending sort are the two best entries. -/
theorem top2_sorted (v : Fin 8 → ℝ) (before : Fin 8 → Fin 8 → Bool) (hb : ∀ k k', before k k' = true ↔ v k' < v k) :
    Top2 v (sortedFrom before 0) (sortedFrom before 1) where
  first k hk := by
    obtain ⟨j, rfl⟩ := sortedFrom_surjective before k
    exact sortedFrom_bt v before hb 0 j (Fin.pos_of_ne_zero fun q => hk (by rw [q]))
  ne q := absurd (sortedFrom_injective before q) (by decide)
  second k hk hk' := by
    obtain ⟨j, rfl⟩ := sortedFrom_surjective before k
    refine sortedFrom_bt v before hb 1 j ?_
    have h0 : j ≠ 0 := fun q => hk (by rw [q])
    have h1 : j ≠ 1 := fun q => hk' (by rw [q])
    have h0' : j.val ≠ 0 := fun q => h0 (Fin.ext q)
    have h1' : j.val ≠ 1 := fun q => h1 (Fin.ext q)
    exact Fin.lt_def.2 (by show 1 < j.val; omega)

/-- The best two exist. -/
theorem exists_top2 (v : Fin 8 → ℝ) : ∃ a b, Top2 v a b :=
  ⟨_, _, top2_sorted v (fun k k' => @decide (v k' < v k) (Classical.propDecidable _)) fun _ _ => by simp⟩

/-- The best expert. -/
def best (v : Fin 8 → ℝ) : Fin 8 := (exists_top2 v).choose
/-- The second best. -/
def next (v : Fin 8 → ℝ) : Fin 8 := (exists_top2 v).choose_spec.choose
/-- `best` and `next` are the best two. -/
theorem best_next (v : Fin 8 → ℝ) : Top2 v (best v) (next v) := (exists_top2 v).choose_spec.choose_spec

/-- No value is above the best. -/
theorem le_best (v : Fin 8 → ℝ) (k : Fin 8) : v k ≤ v (best v) := by
  by_cases h : k = best v
  · rw [h]
  · rcases (best_next v).first k h with q | ⟨q, -⟩
    · exact q.le
    · exact q.le

/-- No value but the best is above the second best. -/
theorem le_next (v : Fin 8 → ℝ) (k : Fin 8) (hk : k ≠ best v) : v k ≤ v (next v) := by
  by_cases h : k = next v
  · rw [h]
  · rcases (best_next v).second k hk h with q | ⟨q, -⟩
    · exact q.le
    · exact q.le

/-! ## Queue positions -/

variable (P : Fin 2048 → Fin 8 → ℝ)

/-- How many of token `n`'s two choices are expert `e` (none past the last token). -/
def uses (n : ℕ) (e : Fin 8) : ℕ :=
  if h : n < 2048 then (if best (P ⟨n, h⟩) = e then 1 else 0) + (if next (P ⟨n, h⟩) = e then 1 else 0) else 0

/-- How many choices of the first `n` tokens are expert `e`: the position token `n` takes in `e`'s queue. -/
def cnt (n : ℕ) (e : Fin 8) : ℕ := ∑ i ∈ Finset.range n, uses P i e

/-- A token chooses an expert at most once. -/
theorem uses_le (n : ℕ) (e : Fin 8) : uses P n e ≤ 1 := by
  unfold uses
  split
  · rename_i h
    have := (best_next (P ⟨n, h⟩)).ne
    split <;> split <;> first | omega | (exfalso; simp_all)
  · omega

/-- Of `n` tokens at most `n` choose `e`. -/
theorem cnt_le (n : ℕ) (e : Fin 8) : cnt P n e ≤ n := by
  unfold cnt
  exact (Finset.sum_le_card_nsmul _ _ 1 fun i _ => uses_le P i e).trans (by simp)

/-- No token comes before the first. -/
theorem cnt_zero (e : Fin 8) : cnt P 0 e = 0 := rfl

/-- The count after one more token. -/
theorem cnt_succ (n : ℕ) (e : Fin 8) : cnt P (n + 1) e = cnt P n e + uses P n e := Finset.sum_range_succ _ _

/-- The count after `k` more tokens. -/
theorem cnt_add (n k : ℕ) (e : Fin 8) : cnt P (n + k) e = cnt P n e + ∑ i ∈ Finset.range k, uses P (n + i) e :=
  Finset.sum_range_add _ _ _

end Cert.Router
-- ==== Proof.Logits.lean ====
/-
The router's logits as one function of the five arguments' entries, real when the arguments are; sums over 4096 in eight
blocks of 512.
-/
module

public import proofs.«01_k».proof.Proof.Spec

@[expose] public section

noncomputable section

namespace Cert.Router

open Idealize.ShloMosaic

/-- A sum over `n * w` terms, by `n` blocks of `w`. -/
theorem sum_blocks {M : Type} [AddCommMonoid M] (f : ℕ → M) (w : ℕ) : ∀ n : ℕ,
    ∑ k ∈ Finset.range (n * w), f k = ∑ j ∈ Finset.range n, ∑ h ∈ Finset.range w, f (j * w + h)
  | 0 => by simp
  | n + 1 => by rw [Nat.succ_mul, Finset.sum_range_add, sum_blocks f w n, Finset.sum_range_succ]

/-- The same with the block `t`'s terms indexed by `Fin 512`. -/
theorem sum_4096 {M : Type} [AddCommMonoid M] (f : Fin 4096 → M) (g : Fin 8 → Fin 512 → M)
    (h : ∀ (j : Fin 8) (i : Fin 512), g j i = f ⟨j.val * 512 + i.val, by omega⟩) : ∑ j, ∑ i, g j i = ∑ k, f k := by
  have e := sum_blocks (fun k => if hk : k < 4096 then f ⟨k, hk⟩ else 0) 512 8
  rw [Finset.sum_range] at e
  have es : ∑ k, f k = ∑ k : Fin (8 * 512), if hk : k.val < 4096 then f ⟨k.val, hk⟩ else 0 :=
    Finset.sum_congr rfl fun k _ => by rw [dif_pos (show k.val < 4096 from k.isLt)]
  rw [es, e, Finset.sum_range]
  refine Finset.sum_congr rfl fun j _ => ?_
  rw [Finset.sum_range]
  exact Finset.sum_congr rfl fun i _ => by rw [h j i, dif_pos (show j.val * 512 + i.val < 4096 by omega)]

variable (x : Fin 2048 → Fin 4096 → EReal) (w1 : Fin 4096 → Fin 4096 → EReal) (b1 : Fin 4096 → EReal)
  (w2 : Fin 4096 → Fin 8 → EReal) (b2 : Fin 8 → EReal)

/-- The hidden layer. -/
def hid (n : Fin 2048) (h : Fin 4096) : EReal := max (∑ k, x n k * w1 k h + b1 h) 0

/-- The logits. -/
def lg (n : Fin 2048) (e : Fin 8) : EReal := ∑ h, hid x w1 b1 n h * w2 h e + b2 e

/-- Of real arguments the logits are real. -/
theorem lg_real (hx : ∀ n k, ∃ r : ℝ, x n k = r) (hw1 : ∀ k h, ∃ r : ℝ, w1 k h = r) (hb1 : ∀ h, ∃ r : ℝ, b1 h = r)
    (hw2 : ∀ h e, ∃ r : ℝ, w2 h e = r) (hb2 : ∀ e, ∃ r : ℝ, b2 e = r) :
    ∃ L : Fin 2048 → Fin 8 → ℝ, ∀ n e, lg x w1 b1 w2 b2 n e = ((L n e : ℝ) : EReal) := by
  choose x' hx using hx
  choose w1' hw1 using hw1
  choose b1' hb1 using hb1
  choose w2' hw2 using hw2
  choose b2' hb2 using hb2
  have hh : ∀ n h, hid x w1 b1 n h = ((max (∑ k, x' n k * w1' k h + b1' h) 0 : ℝ) : EReal) := fun n h => by
    unfold hid
    simp only [hx, hw1, hb1, ← EReal.coe_mul]
    rw [esum, ← EReal.coe_add, ← EReal.coe_zero]
    exact (EReal.coe_strictMono.monotone.map_max).symm
  refine ⟨fun n e => ∑ h, max (∑ k, x' n k * w1' k h + b1' h) 0 * w2' h e + b2' e, fun n e => ?_⟩
  unfold lg
  simp only [hh, hw2, hb2, ← EReal.coe_mul]
  rw [esum, ← EReal.coe_add]

end Cert.Router
-- ==== Proof.Words.lean ====
/-
Words and lanes: the small facts on 32-bit index words, one-bit masks and rows of 128 lanes that both programs need.
-/
module

public import proofs.«01_k».proof.Proof.Spec
public import Idealize.ShloMosaic.Lib.Pointwise

@[expose] public section

noncomputable section

namespace Cert.Router

open Idealize.ShloMosaic

/-! ## Words -/

/-- Words of small numbers are equal when the numbers are. -/
theorem ofNat_inj {a b : ℕ} (ha : a < 2 ^ 32) (hb : b < 2 ^ 32) : BitVec.ofNat 32 a = BitVec.ofNat 32 b ↔ a = b := by
  constructor
  · intro h
    have := congrArg BitVec.toNat h
    rw [BitVec.toNat_ofNat, BitVec.toNat_ofNat, Nat.mod_eq_of_lt ha, Nat.mod_eq_of_lt hb] at this
    exact this
  · rintro rfl; rfl

/-- A small number's word, read signed. -/
theorem toInt_ofNat {a : ℕ} (ha : a < 2 ^ 31) : (BitVec.ofNat 32 a).toInt = a := by
  rw [BitVec.toInt_eq_toNat_of_lt (by rw [BitVec.toNat_ofNat]; omega), BitVec.toNat_ofNat]
  have : a % 2 ^ 32 = a := by omega
  rw [this]

/-- Selecting by equality of words. -/
theorem select_eq {α : Type} (x y : BitVec 32) (a b : α) :
    Scalar.select (IntOp.cmpi CmpIPredicate.eq x y) a b = if x = y then a else b := by
  by_cases h : x = y
  · simp [Scalar.select, IntOp.cmpi, h]
  · have hb : (x == y) = false := by simpa using h
    simp [Scalar.select, IntOp.cmpi, h, hb]

/-- A set bit, converted, is one. -/
theorem bit_one : (((BitVec.setWidth 32 (BitVec.ofBool true)).toInt : ℝ) : EReal) = 1 := by
  rw [show (BitVec.setWidth 32 (BitVec.ofBool true)).toInt = 1 by decide]; norm_num
/-- A clear bit, converted, is zero. -/
theorem bit_zero : (((BitVec.setWidth 32 (BitVec.ofBool false)).toInt : ℝ) : EReal) = 0 := by
  rw [show (BitVec.setWidth 32 (BitVec.ofBool false)).toInt = 0 by decide]; norm_num

/-- Selecting by order of small numbers' words. -/
theorem select_slt {α : Type} (m n : ℕ) (hm : m < 2 ^ 31) (hn : n < 2 ^ 31) (a b : α) :
    Scalar.select (IntOp.cmpi CmpIPredicate.slt (BitVec.ofNat 32 m) (BitVec.ofNat 32 n)) a b = if m < n then a else b := by
  have e : (BitVec.ofNat 32 m).slt (BitVec.ofNat 32 n) = decide (m < n) := by
    rw [BitVec.slt, toInt_ofNat hm, toInt_ofNat hn]
    simp
  by_cases h : m < n <;> simp [Scalar.select, IntOp.cmpi, e, h]

/-- A comparison widened to a word and converted to a float is 1 or 0. -/
theorem mask_eq (x y : BitVec 32) :
    (FloatOps.sitofp FTy.f32 (BitVec.setWidth 32 (IntOp.cmpi CmpIPredicate.eq x y)) : Ideal .f32) = if x = y then (1 : EReal) else 0 := by
  show (((BitVec.setWidth 32 (BitVec.ofBool (x == y))).toInt : ℝ) : EReal) = _
  by_cases h : x = y
  · rw [if_pos h, beq_iff_eq.2 h, bit_one]
  · rw [if_neg h, beq_eq_false_iff_ne.2 h, bit_zero]

/-- The order of small numbers' words, converted. -/
theorem mask_slt (m n : ℕ) (hm : m < 2 ^ 31) (hn : n < 2 ^ 31) :
    (FloatOps.sitofp FTy.f32 (BitVec.setWidth 32 (IntOp.cmpi CmpIPredicate.slt (BitVec.ofNat 32 m) (BitVec.ofNat 32 n))) : Ideal .f32)
      = if m < n then (1 : EReal) else 0 := by
  have e : (BitVec.ofNat 32 m).slt (BitVec.ofNat 32 n) = decide (m < n) := by
    rw [BitVec.slt, toInt_ofNat hm, toInt_ofNat hn]
    simp
  show (((BitVec.setWidth 32 (BitVec.ofBool ((BitVec.ofNat 32 m).slt (BitVec.ofNat 32 n)))).toInt : ℝ) : EReal) = _
  rw [e]
  by_cases h : m < n
  · rw [decide_eq_true h, if_pos h, bit_one]
  · rw [decide_eq_false h, if_neg h, bit_zero]

/-- A natural number converted to a word. -/
theorem fptosi_nat (n : ℕ) (h : n < 2 ^ 31) : (FloatOps.fptosi (F := Ideal) (φ := .f32) 32 (((n : ℝ)) : EReal)) = BitVec.ofNat 32 n := by
  show Ideal.fptosi 32 ((n : ℝ) : EReal) = _
  have h0 : (0 : ℝ) ≤ (n : ℝ) := Nat.cast_nonneg n
  show BitVec.ofInt 32 (max (-((2 ^ (32 - 1) : ℕ) : ℤ)) (min (((2 ^ (32 - 1) : ℕ) : ℤ) - 1) (if 0 ≤ (n : ℝ) then ⌊(n : ℝ)⌋ else ⌈(n : ℝ)⌉))) = _
  rw [if_pos h0, Int.floor_natCast]
  have e : max (-((2 ^ (32 - 1) : ℕ) : ℤ)) (min (((2 ^ (32 - 1) : ℕ) : ℤ) - 1) (n : ℤ)) = (n : ℤ) := by
    norm_num at h ⊢
    omega
  rw [e]
  exact BitVec.ofInt_natCast _ _

/-! ## Constants -/

/-- The pattern of minus infinity. -/
theorem neg_inf : Ideal.ofBits .f32 0xFF800000#32 = ⊥ := by simp [Ideal.ofBits, Ideal.ieee]
/-- The pattern of plus infinity. -/
theorem pos_inf : Ideal.ofBits .f32 0x7F800000#32 = ⊤ := by simp [Ideal.ofBits, Ideal.ieee]
/-- The padding lanes' constant is a real. -/
theorem mask_real : ∃ r : ℝ, Ideal.ofBits .f32 0xF149F2CA#32 = (r : EReal) := ⟨_, by simp [Ideal.ofBits, Ideal.ieee]; rfl⟩
/-- The pattern of -1. -/
theorem minus_one : Ideal.ofBits .f32 0xBF800000#32 = ((-1 : ℝ) : EReal) := by
  simp [Ideal.ofBits, Ideal.ieee, -EReal.coe_mul]
  norm_num
/-- The pattern of 4096. -/
theorem c4096 : Ideal.ofBits .f32 0x45800000#32 = ((4096 : ℝ) : EReal) := by
  simp [Ideal.ofBits, Ideal.ieee, -EReal.coe_mul]
  norm_num
/-- The pattern of 2048. -/
theorem c2048 : Ideal.ofBits .f32 0x45000000#32 = ((2048 : ℝ) : EReal) := by
  simp [Ideal.ofBits, Ideal.ieee, -EReal.coe_mul]
  norm_num

/-! ## Rows of 128 lanes -/

/-- The lane of expert `e`. -/
def lane (e : Fin 8) : Fin 128 := ⟨e.val, by omega⟩

/-- Different experts have different lanes. -/
theorem lane_inj {a b : Fin 8} : lane a = lane b ↔ a = b := by
  constructor
  · intro h; exact Fin.ext (by simpa [lane] using h)
  · rintro rfl; rfl

/-- Eight values on 128 lanes, zero past them. -/
def pad8 {M : Type} [Zero M] (g : Fin 8 → M) (l : Fin 128) : M := if h : l.val < 8 then g ⟨l.val, h⟩ else 0

/-- A padded row at an expert's lane. -/
theorem pad8_lane {M : Type} [Zero M] (g : Fin 8 → M) (e : Fin 8) : pad8 g (lane e) = g e := dif_pos e.isLt

/-- The lanes past the eighth add nothing to a sum. -/
theorem sum_pad8 {M : Type} [AddCommMonoid M] (g : Fin 8 → M) : ∑ l : Fin 128, pad8 g l = ∑ e : Fin 8, g e := by
  have h := Fin.sum_univ_add (a := 8) (b := 120) (fun l : Fin 128 => pad8 g l)
  refine h.trans ?_
  have h2 : ∑ i : Fin 120, pad8 g (Fin.natAdd 8 i) = 0 := Finset.sum_eq_zero fun i _ => by
    unfold pad8
    rw [dif_neg]
    show ¬(8 + i.val < 8)
    omega
  rw [h2, add_zero]
  exact Finset.sum_congr rfl fun e _ => pad8_lane g e

/-- The least lane where a condition holds, as the fold of the signed minimum finds it. -/
theorem foldMin_first (Q : Fin 128 → Prop) [DecidablePred Q] (a : Fin 128) (ha : Q a) (h : ∀ k, Q k → a ≤ k) :
    Finset.fold IntOp.minsi 2147483647#32 (fun x : Fin 128 => if Q x then BitVec.ofNat 32 x.val else 127#32) Finset.univ = BitVec.ofNat 32 a.val := by
  apply BitVec.eq_of_toInt_eq
  have hm : ∀ x y : BitVec 32, (IntOp.minsi x y).toInt = min x.toInt y.toInt := fun x y => by
    unfold IntOp.minsi
    rw [BitVec.slt]
    by_cases q : x.toInt < y.toInt
    · simp [q, min_eq_left q.le]
    · simp [q, min_eq_right (not_lt.1 q)]
  rw [← Finset.fold_hom (op' := min) (m := BitVec.toInt) hm, toInt_ofNat (a := a.val) (by omega)]
  have hv : ∀ x : Fin 128, (if Q x then BitVec.ofNat 32 x.val else 127#32).toInt = if Q x then (x.val : ℤ) else 127 := fun x => by
    split
    · exact toInt_ofNat (by omega)
    · rfl
  apply le_antisymm
  · exact Finset.fold_min_le _ |>.2 (Or.inr ⟨a, Finset.mem_univ _, by rw [hv, if_pos ha]⟩)
  · refine Finset.le_fold_min _ |>.2 ⟨by have := a.isLt; show (a.val : ℤ) ≤ 2147483647; omega, fun x _ => ?_⟩
    rw [hv]
    split
    · rename_i q
      have := Fin.le_def.1 (h x q)
      omega
    · omega

/-- A sum over a range's beginning, as a masked sum over the whole. -/
theorem sum_mask {n : ℕ} (r : ℕ) (hr : r ≤ n) (f : ℕ → ℕ) : ∑ i : Fin n, (if i.val < r then f i.val else 0) = ∑ i ∈ Finset.range r, f i := by
  rw [← Finset.sum_range (fun i => if i < r then f i else 0), ← Finset.sum_filter]
  refine Finset.sum_congr (Finset.ext fun i => ?_) fun _ _ => rfl
  simp only [Finset.mem_filter, Finset.mem_range]
  omega

/-- A finite sum of naturals, taken in the extended reals. -/
theorem nsum {ι : Type} (s : Finset ι) (f : ι → ℕ) : ∑ i ∈ s, (((f i : ℕ) : ℝ) : EReal) = (((∑ i ∈ s, f i : ℕ) : ℝ) : EReal) := by
  rw [esum, Nat.cast_sum]

end Cert.Router
-- ==== Proof.KLogits.lean ====
/-
The first call's array at the extended reals: the logits without their last bias, from the arguments.
-/
module

public import proofs.«01_k».proof.Proof.MmStep
public import proofs.«01_k».proof.Proof.Logits
public import proofs.«01_k».proof.Proof.Words

@[expose] public section

set_option maxRecDepth 16384

noncomputable section

namespace Cert.KernelIdeal.Mm

open Cert.KernelIdeal Cert.KernelIdeal.Gen Cert.Router
open Idealize.ShloMosaic Idealize.ShloMosaic.TcCoe

/-- One block's product at an entry. -/
theorem pay1_at (x0 : Vec Ideal S1024x4096 .f32) (x1 : Vec Ideal S4096x512 .f32) (x2 : Vec Ideal S1x512 .f32)
    (x3 : Vec Ideal S512x128 .f32) (r : Fin 1024) (l : Fin 128) : k0_pay1 x0 x1 x2 x3 (ix2 r l)
      = ∑ i : Fin 512, max (∑ k : Fin 4096, x0 (ix2 r k) * x1 (ix2 k i) + x2 (ix2 0 i)) 0 * x3 (ix2 i l) := by
  pointwise [k0_pay1]

variable (V : (c : Dev nD) → (b : Ref sig .tc) → Buf (Elt Ideal) ((c : Thread nD τ).loc b)) (c : Dev nD)

/-- The point of row block `i` and step `j`. -/
def pt (i : Fin 2) (j : Fin 8) : Fin cfg0.N := ⟨8 * i.val + j.val, by have := hN; omega⟩

/-- After step `j` the row block holds the sum of the products so far. -/
theorem outsAt_sum (i : Fin 2) (y : S1024x128.Idx) : ∀ (j : ℕ) (hj : j < 8),
    outsAt V c (pt i ⟨j, hj⟩).val (pt i ⟨j, hj⟩).isLt y = ∑ k : Fin (j + 1), prod V c (pt i ⟨k.val, by omega⟩) y
  | 0, hj => by
    rw [outsAt_first V c (pt i ⟨0, hj⟩) (by show (8 * i.val + 0) % 8 = 0; omega), Fin.sum_univ_one]
    rfl
  | j + 1, hj => by
    rw [outsAt_next V c (pt i ⟨j + 1, hj⟩) (by show ¬(8 * i.val + (j + 1)) % 8 = 0; omega), Fin.sum_univ_castSucc]
    have ih := outsAt_sum i y j (by omega)
    show outsAt V c (8 * i.val + (j + 1) - 1) _ y + _ = _
    refine congrArg₂ (· + ·) (Eq.trans ?_ ih) rfl
    rfl

variable (x : Fin 2048 → Fin 4096 → EReal) (w1 : Fin 4096 → Fin 4096 → EReal) (b1 : Fin 4096 → EReal)
  (w2 : Fin 4096 → Fin 8 → EReal)

/-- The four arrays the call is entered with hold the arguments' entries. -/
structure Entry : Prop where
  x : ∀ n k, (V c (Pipeline.arrRef spec0 0) : Vec Ideal S2048x4096 .f32) (ix2 n k) = x n k
  w1 : ∀ k h, (V c (Pipeline.arrRef spec0 1) : Vec Ideal S4096x4096 .f32) (ix2 k h) = w1 k h
  b1 : ∀ h, (V c (Pipeline.arrRef spec0 2) : Vec Ideal S1x4096 .f32) (ix2 0 h) = b1 h
  w2 : ∀ h e, (V c (Pipeline.arrRef spec0 3) : Vec Ideal S4096x128 .f32) (ix2 h (lane e)) = w2 h e

/-- A block's product at an entry, from the arguments. -/
theorem prod_at (E : Entry V c x w1 b1 w2) (i : Fin 2) (j : Fin 8) (r : Fin 1024) (e : Fin 8) : prod V c (pt i j) (ix2 r (lane e))
    = ∑ z : Fin 512, hid x w1 b1 ⟨i.val * 1024 + r.val, by omega⟩ ⟨j.val * 512 + z.val, by omega⟩ * w2 ⟨j.val * 512 + z.val, by omega⟩ e := by
  have e0 : (pt i j).val / 8 = i.val := by show (8 * i.val + j.val) / 8 = i.val; omega
  have e1 : (pt i j).val % 8 = j.val := by show (8 * i.val + j.val) % 8 = j.val; omega
  unfold prod
  rw [pay1_at]
  refine Finset.sum_congr rfl fun z _ => ?_
  unfold hid
  refine congrArg₂ (· * ·) (congrArg (max · 0) (congrArg₂ (· + ·) (Finset.sum_congr rfl fun k _ => congrArg₂ (· * ·) ?_ ?_) ?_)) ?_
  · rw [iblk_0, E.x]; simp only [e0]
  · rw [iblk_1, E.w1]; simp only [e1]
  · rw [iblk_2, E.b1]; simp only [e1]
  · rw [iblk_3, E.w2]; simp only [e1]

/-- The array the call leaves. -/
theorem arrOf_eq (E : Entry V c x w1 b1 w2) (n : Fin 2048) (e : Fin 8) : arrOf V c (ix2 n (lane e)) = ∑ h, hid x w1 b1 n h * w2 h e := by
  have hi : n.val / 1024 < 2 := by omega
  have hn : n = ⟨n.val / 1024 * 1024 + n.val % 1024, by omega⟩ := Fin.ext (show n.val = n.val / 1024 * 1024 + n.val % 1024 by omega)
  rw [arrOf_at V c (ix2 n (lane e)) (pt ⟨n.val / 1024, hi⟩ ⟨7, by norm_num⟩) (ix2 ⟨n.val % 1024, Nat.mod_lt _ (by norm_num)⟩ (lane e)) rfl rfl rfl]
  rw [outsAt_sum V c ⟨n.val / 1024, hi⟩ _ 7 (by norm_num)]
  have hp := fun j => prod_at V c x w1 b1 w2 E ⟨n.val / 1024, hi⟩ j ⟨n.val % 1024, Nat.mod_lt _ (by norm_num)⟩ e
  refine (Finset.sum_congr rfl fun (k : Fin 8) _ => hp k).trans ?_
  refine sum_4096 _ _ fun j z => ?_
  rw [← hn]

end Cert.KernelIdeal.Mm
-- ==== Proof.RouteStep.lean ====
/-
The second call (`_route_kernel`): what one grid point leaves, as functions of its logits block, the padded bias and the two carried rows.
-/
module

public import proofs.«01_k».proof.Proof.RouteRegion
public import Idealize.ShloMosaic.Lib.Pipeline.Value

@[expose] public section

set_option maxRecDepth 16384

noncomputable section

namespace Cert.KernelIdeal.Route

open Cert.KernelIdeal Cert.KernelIdeal.Gen
open Idealize.ShloMosaic Idealize.ShloMosaic.TcCoe Idealize.ShloMosaic.Tactic

variable {F : FTy → Type} [FloatOps F]

/-- The zero offsets of a rank 2 block. -/
theorem hz2 : (![0, 0] : Fin 2 → Nat) = fun _ => 0 := funext fun a => by fin_cases a <;> rfl
/-- The zero offsets of a rank 4 block. -/
theorem hz4 : (![0, 0, 0, 0] : Fin 4 → Nat) = fun _ => 0 := funext fun a => by fin_cases a <;> rfl

/-- The lane number at every place of a block of rows. -/
abbrev lanes : IVec S256x128 32 := iota .tc S256x128 32 [1] iota_S256x128_d1_w32

/-- The first chosen expert of each row of the block. -/
def bI0 (x0 : Vec F S256x128 .f32) (x1 : Vec F S1x128 .f32) : IVec S256x1 32 := k1_pay7 x0 x1
/-- The second chosen expert of each row of the block. -/
def bI1 (x0 : Vec F S256x128 .f32) (x1 : Vec F S1x128 .f32) : IVec S256x1 32 := k1_pay11 lanes (k1_pay8 x0 x1) (k1_pay9 x0 x1)
/-- The position of each row in its first expert's queue, from the counts `s` carried in. -/
def bQ0 (x0 : Vec F S256x128 .f32) (x1 s : Vec F S1x128 .f32) : IVec S256x1 32 := k1_pay19 lanes (bI0 x0 x1) (k1_pay8 x0 x1) (k1_pay9 x0 x1) s
/-- The position of each row in its second expert's queue, from the counts `s` carried in. -/
def bQ1 (x0 : Vec F S256x128 .f32) (x1 s : Vec F S1x128 .f32) : IVec S256x1 32 := k1_pay20 lanes (bI0 x0 x1) (k1_pay8 x0 x1) (k1_pay9 x0 x1) s
/-- The block of the dispatch mask. -/
def bDisp (x0 : Vec F S256x128 .f32) (x1 s : Vec F S1x128 .f32) : Vec F S1x256x8x768 .f32 :=
  k1_pay27 (bI0 x0 x1) (bI1 x0 x1) (bQ0 x0 x1 s) (bQ1 x0 x1 s)
/-- The block of the combine weights. -/
def bComb (x0 : Vec F S256x128 .f32) (x1 s : Vec F S1x128 .f32) : Vec F S1x256x8x768 .f32 :=
  k1_pay1 (k1_pay25 (bI0 x0 x1) (bI1 x0 x1) (k1_pay13 (k1_pay6 x0 x1) (k1_pay9 x0 x1)) (k1_pay14 (k1_pay6 x0 x1) (k1_pay9 x0 x1)))
    (k1_pay26 (bI0 x0 x1) (bI1 x0 x1) (bQ0 x0 x1 s) (bQ1 x0 x1 s))
/-- The counts handed on. -/
def bCarry (x0 : Vec F S256x128 .f32) (x1 s : Vec F S1x128 .f32) : Vec F S1x128 .f32 :=
  k1_pay21 lanes (bI0 x0 x1) (k1_pay8 x0 x1) (k1_pay9 x0 x1) s
/-- The sums of probabilities handed on. -/
def bPsum (x0 : Vec F S256x128 .f32) (x1 s : Vec F S1x128 .f32) : Vec F S1x128 .f32 :=
  k1_pay22 (k1_pay5 x0 x1) s

section Step

variable (c : Dev nD) (i : grid1.Coords) (arg1 : Memref sig .tc .vmem S256x128 .f32) (harg1 : arg1.IsWhole) (arg2 : Memref sig .tc .vmem S1x128 .f32) (harg2 : arg2.IsWhole) (arg3 : Memref sig .tc .vmem S256x128 .f32) (harg3 : arg3.IsWhole) (arg4 : Memref sig .tc .vmem S1x256x8x768 .f32) (harg4 : arg4.IsWhole) (arg5 : Memref sig .tc .vmem S1x256x8x768 .f32) (harg5 : arg5.IsWhole) (arg6 : Memref sig .tc .vmem S1x1 .f32) (harg6 : arg6.IsWhole) (arg7 : Memref sig .tc .vmem S1x128 .f32) (harg7 : arg7.IsWhole) (arg8 : Memref sig .tc .vmem S1x128 .f32) (harg8 : arg8.IsWhole)
  (x0 : Vec F S256x128 .f32) (x1 s0 s1 : Vec F S1x128 .f32)

/-- The first point (the carried rows reset to zero): what each result's block and each carried row holds after it. -/
theorem step_A (hc0 : cond_0 i) (hc1 : ¬cond_1 i) :
    out_A_2 c i arg1 harg1 arg2 harg2 arg3 harg3 arg4 harg4 arg5 harg5 arg6 harg6 arg7 harg7 arg8 harg8 hc0 hc1 x0 x1 = k1_pay5 x0 x1
    ∧ out_A_3 c i arg1 harg1 arg2 harg2 arg3 harg3 arg4 harg4 arg5 harg5 arg6 harg6 arg7 harg7 arg8 harg8 hc0 hc1 x0 x1 = bDisp x0 x1 k1_pay3
    ∧ out_A_4 c i arg1 harg1 arg2 harg2 arg3 harg3 arg4 harg4 arg5 harg5 arg6 harg6 arg7 harg7 arg8 harg8 hc0 hc1 x0 x1 = bComb x0 x1 k1_pay3
    ∧ sout_A_0 c i arg1 harg1 arg2 harg2 arg3 harg3 arg4 harg4 arg5 harg5 arg6 harg6 arg7 harg7 arg8 harg8 hc0 hc1 x0 x1 = bCarry x0 x1 k1_pay3
    ∧ sout_A_1 c i arg1 harg1 arg2 harg2 arg3 harg3 arg4 harg4 arg5 harg5 arg6 harg6 arg7 harg7 arg8 harg8 hc0 hc1 x0 x1 = bPsum x0 x1 k1_pay4 := by
  refine ⟨?_, ?_, ?_, ?_, ?_⟩
  · unfold out_A_2
    rw [View.read_writes_eq_canon _ _ _ (cover_A_2 c i arg1 harg1 arg2 harg2 arg3 harg3 arg4 harg4 arg5 harg5 arg6 harg6 arg7 harg7 arg8 harg8 hc0 hc1 x0 x1)]
    unfold kernelRun_A
    dsimp only
    sl_unfold_words
    rw [View.canon_unit_zero hz2]
    simp only [View.readAt_eq_ld, harg1.read_unread, harg2.read_unread, View.ld_unit_zero (S := S256x128) hz2, View.ld_unit_zero (S := S1x128) hz2, View.readCov_unit_zero (S := S1x128) _ hz2]
    first | done | rfl
  · unfold out_A_3
    rw [View.read_writes_eq_canon _ _ _ (cover_A_3 c i arg1 harg1 arg2 harg2 arg3 harg3 arg4 harg4 arg5 harg5 arg6 harg6 arg7 harg7 arg8 harg8 hc0 hc1 x0 x1)]
    unfold kernelRun_A
    dsimp only
    sl_unfold_words
    rw [View.canon_unit_zero hz4]
    simp only [View.readAt_eq_ld, harg1.read_unread, harg2.read_unread, View.ld_unit_zero (S := S256x128) hz2, View.ld_unit_zero (S := S1x128) hz2, View.readCov_unit_zero (S := S1x128) _ hz2]
    first | done | rfl
  · unfold out_A_4
    rw [View.read_writes_eq_canon _ _ _ (cover_A_4 c i arg1 harg1 arg2 harg2 arg3 harg3 arg4 harg4 arg5 harg5 arg6 harg6 arg7 harg7 arg8 harg8 hc0 hc1 x0 x1)]
    unfold kernelRun_A
    dsimp only
    sl_unfold_words
    rw [View.canon_unit_zero hz4]
    simp only [View.readAt_eq_ld, harg1.read_unread, harg2.read_unread, View.ld_unit_zero (S := S256x128) hz2, View.ld_unit_zero (S := S1x128) hz2, View.readCov_unit_zero (S := S1x128) _ hz2]
    first | done | rfl
  · unfold sout_A_0
    rw [View.read_writes_eq_canon _ _ _ (scover_A_0 c i arg1 harg1 arg2 harg2 arg3 harg3 arg4 harg4 arg5 harg5 arg6 harg6 arg7 harg7 arg8 harg8 hc0 hc1 x0 x1)]
    unfold kernelRun_A
    dsimp only
    sl_unfold_words
    rw [View.canon_cons_unit_zero (S := S1x128) hz2]
    simp only [View.readAt_eq_ld, harg1.read_unread, harg2.read_unread, View.ld_unit_zero (S := S256x128) hz2, View.ld_unit_zero (S := S1x128) hz2, View.readCov_unit_zero (S := S1x128) _ hz2]
    first | done | rfl
  · unfold sout_A_1
    rw [View.read_writes_eq_canon _ _ _ (scover_A_1 c i arg1 harg1 arg2 harg2 arg3 harg3 arg4 harg4 arg5 harg5 arg6 harg6 arg7 harg7 arg8 harg8 hc0 hc1 x0 x1)]
    unfold kernelRun_A
    dsimp only
    sl_unfold_words
    rw [View.canon_cons_unit_zero (S := S1x128) hz2]
    simp only [View.readAt_eq_ld, harg1.read_unread, harg2.read_unread, View.ld_unit_zero (S := S256x128) hz2, View.ld_unit_zero (S := S1x128) hz2, View.readCov_unit_zero (S := S1x128) _ hz2]
    first | done | rfl

/-- A middle point (the carried rows at `s0`, `s1`): what each result's block and each carried row holds after it. -/
theorem step_B (hc0 : ¬cond_0 i) (hc1 : ¬cond_1 i) :
    out_B_2 c i arg1 harg1 arg2 harg2 arg3 harg3 arg4 harg4 arg5 harg5 arg6 harg6 arg7 harg7 arg8 harg8 hc0 hc1 x0 x1 s0 s1 = k1_pay5 x0 x1
    ∧ out_B_3 c i arg1 harg1 arg2 harg2 arg3 harg3 arg4 harg4 arg5 harg5 arg6 harg6 arg7 harg7 arg8 harg8 hc0 hc1 x0 x1 s0 s1 = bDisp x0 x1 s0
    ∧ out_B_4 c i arg1 harg1 arg2 harg2 arg3 harg3 arg4 harg4 arg5 harg5 arg6 harg6 arg7 harg7 arg8 harg8 hc0 hc1 x0 x1 s0 s1 = bComb x0 x1 s0
    ∧ sout_B_0 c i arg1 harg1 arg2 harg2 arg3 harg3 arg4 harg4 arg5 harg5 arg6 harg6 arg7 harg7 arg8 harg8 hc0 hc1 x0 x1 s0 s1 = bCarry x0 x1 s0
    ∧ sout_B_1 c i arg1 harg1 arg2 harg2 arg3 harg3 arg4 harg4 arg5 harg5 arg6 harg6 arg7 harg7 arg8 harg8 hc0 hc1 x0 x1 s0 s1 = bPsum x0 x1 s1 := by
  refine ⟨?_, ?_, ?_, ?_, ?_⟩
  · unfold out_B_2
    rw [View.read_writes_eq_canon _ _ _ (cover_B_2 c i arg1 harg1 arg2 harg2 arg3 harg3 arg4 harg4 arg5 harg5 arg6 harg6 arg7 harg7 arg8 harg8 hc0 hc1 x0 x1 s0 s1)]
    unfold kernelRun_B
    dsimp only
    sl_unfold_words
    rw [View.canon_unit_zero hz2]
    simp only [View.readAt_eq_ld, harg1.read_unread, harg2.read_unread, harg7.read_unread, harg8.read_unread, View.ld_unit_zero (S := S256x128) hz2, View.ld_unit_zero (S := S1x128) hz2, View.readCov_unit_zero (S := S1x128) _ hz2]
    first | done | rfl
  · unfold out_B_3
    rw [View.read_writes_eq_canon _ _ _ (cover_B_3 c i arg1 harg1 arg2 harg2 arg3 harg3 arg4 harg4 arg5 harg5 arg6 harg6 arg7 harg7 arg8 harg8 hc0 hc1 x0 x1 s0 s1)]
    unfold kernelRun_B
    dsimp only
    sl_unfold_words
    rw [View.canon_unit_zero hz4]
    simp only [View.readAt_eq_ld, harg1.read_unread, harg2.read_unread, harg7.read_unread, harg8.read_unread, View.ld_unit_zero (S := S256x128) hz2, View.ld_unit_zero (S := S1x128) hz2, View.readCov_unit_zero (S := S1x128) _ hz2]
    first | done | rfl
  · unfold out_B_4
    rw [View.read_writes_eq_canon _ _ _ (cover_B_4 c i arg1 harg1 arg2 harg2 arg3 harg3 arg4 harg4 arg5 harg5 arg6 harg6 arg7 harg7 arg8 harg8 hc0 hc1 x0 x1 s0 s1)]
    unfold kernelRun_B
    dsimp only
    sl_unfold_words
    rw [View.canon_unit_zero hz4]
    simp only [View.readAt_eq_ld, harg1.read_unread, harg2.read_unread, harg7.read_unread, harg8.read_unread, View.ld_unit_zero (S := S256x128) hz2, View.ld_unit_zero (S := S1x128) hz2, View.readCov_unit_zero (S := S1x128) _ hz2]
    first | done | rfl
  · unfold sout_B_0
    rw [View.read_writes_eq_canon _ _ _ (scover_B_0 c i arg1 harg1 arg2 harg2 arg3 harg3 arg4 harg4 arg5 harg5 arg6 harg6 arg7 harg7 arg8 harg8 hc0 hc1 x0 x1 s0 s1)]
    unfold kernelRun_B
    dsimp only
    sl_unfold_words
    rw [View.canon_unit_zero hz2]
    simp only [View.readAt_eq_ld, harg1.read_unread, harg2.read_unread, harg7.read_unread, harg8.read_unread, View.ld_unit_zero (S := S256x128) hz2, View.ld_unit_zero (S := S1x128) hz2, View.readCov_unit_zero (S := S1x128) _ hz2]
    first | done | rfl
  · unfold sout_B_1
    rw [View.read_writes_eq_canon _ _ _ (scover_B_1 c i arg1 harg1 arg2 harg2 arg3 harg3 arg4 harg4 arg5 harg5 arg6 harg6 arg7 harg7 arg8 harg8 hc0 hc1 x0 x1 s0 s1)]
    unfold kernelRun_B
    dsimp only
    sl_unfold_words
    rw [View.canon_unit_zero hz2]
    simp only [View.readAt_eq_ld, harg1.read_unread, harg2.read_unread, harg7.read_unread, harg8.read_unread, View.ld_unit_zero (S := S256x128) hz2, View.ld_unit_zero (S := S1x128) hz2, View.readCov_unit_zero (S := S1x128) _ hz2]
    first | done | rfl

/-- The last point: as a middle one, and the scalar result from the two carried rows after it. -/
theorem step_C (hc0 : ¬cond_0 i) (hc1 : cond_1 i) :
    out_C_2 c i arg1 harg1 arg2 harg2 arg3 harg3 arg4 harg4 arg5 harg5 arg6 harg6 arg7 harg7 arg8 harg8 hc0 hc1 x0 x1 s0 s1 = k1_pay5 x0 x1
    ∧ out_C_3 c i arg1 harg1 arg2 harg2 arg3 harg3 arg4 harg4 arg5 harg5 arg6 harg6 arg7 harg7 arg8 harg8 hc0 hc1 x0 x1 s0 s1 = bDisp x0 x1 s0
    ∧ out_C_4 c i arg1 harg1 arg2 harg2 arg3 harg3 arg4 harg4 arg5 harg5 arg6 harg6 arg7 harg7 arg8 harg8 hc0 hc1 x0 x1 s0 s1 = bComb x0 x1 s0
    ∧ out_C_5 c i arg1 harg1 arg2 harg2 arg3 harg3 arg4 harg4 arg5 harg5 arg6 harg6 arg7 harg7 arg8 harg8 hc0 hc1 x0 x1 s0 s1 = k1_pay2 (bCarry x0 x1 s0) (bPsum x0 x1 s1)
    ∧ sout_C_0 c i arg1 harg1 arg2 harg2 arg3 harg3 arg4 harg4 arg5 harg5 arg6 harg6 arg7 harg7 arg8 harg8 hc0 hc1 x0 x1 s0 s1 = bCarry x0 x1 s0
    ∧ sout_C_1 c i arg1 harg1 arg2 harg2 arg3 harg3 arg4 harg4 arg5 harg5 arg6 harg6 arg7 harg7 arg8 harg8 hc0 hc1 x0 x1 s0 s1 = bPsum x0 x1 s1 := by
  refine ⟨?_, ?_, ?_, ?_, ?_, ?_⟩
  · unfold out_C_2
    rw [View.read_writes_eq_canon _ _ _ (cover_C_2 c i arg1 harg1 arg2 harg2 arg3 harg3 arg4 harg4 arg5 harg5 arg6 harg6 arg7 harg7 arg8 harg8 hc0 hc1 x0 x1 s0 s1)]
    unfold kernelRun_C
    dsimp only
    sl_unfold_words
    rw [View.canon_unit_zero hz2]
    simp only [View.readAt_eq_ld, harg1.read_unread, harg2.read_unread, harg7.read_unread, harg8.read_unread, View.ld_unit_zero (S := S256x128) hz2, View.ld_unit_zero (S := S1x128) hz2, View.readCov_unit_zero (S := S1x128) _ hz2]
    first | done | rfl
  · unfold out_C_3
    rw [View.read_writes_eq_canon _ _ _ (cover_C_3 c i arg1 harg1 arg2 harg2 arg3 harg3 arg4 harg4 arg5 harg5 arg6 harg6 arg7 harg7 arg8 harg8 hc0 hc1 x0 x1 s0 s1)]
    unfold kernelRun_C
    dsimp only
    sl_unfold_words
    rw [View.canon_unit_zero hz4]
    simp only [View.readAt_eq_ld, harg1.read_unread, harg2.read_unread, harg7.read_unread, harg8.read_unread, View.ld_unit_zero (S := S256x128) hz2, View.ld_unit_zero (S := S1x128) hz2, View.readCov_unit_zero (S := S1x128) _ hz2]
    first | done | rfl
  · unfold out_C_4
    rw [View.read_writes_eq_canon _ _ _ (cover_C_4 c i arg1 harg1 arg2 harg2 arg3 harg3 arg4 harg4 arg5 harg5 arg6 harg6 arg7 harg7 arg8 harg8 hc0 hc1 x0 x1 s0 s1)]
    unfold kernelRun_C
    dsimp only
    sl_unfold_words
    rw [View.canon_unit_zero hz4]
    simp only [View.readAt_eq_ld, harg1.read_unread, harg2.read_unread, harg7.read_unread, harg8.read_unread, View.ld_unit_zero (S := S256x128) hz2, View.ld_unit_zero (S := S1x128) hz2, View.readCov_unit_zero (S := S1x128) _ hz2]
    first | done | rfl
  · unfold out_C_5
    rw [View.read_writes_eq_canon _ _ _ (cover_C_5 c i arg1 harg1 arg2 harg2 arg3 harg3 arg4 harg4 arg5 harg5 arg6 harg6 arg7 harg7 arg8 harg8 hc0 hc1 x0 x1 s0 s1)]
    unfold kernelRun_C
    dsimp only
    sl_unfold_words
    rw [View.canon_unit_zero hz2]
    simp only [View.readAt_eq_ld, harg1.read_unread, harg2.read_unread, harg7.read_unread, harg8.read_unread, View.ld_unit_zero (S := S256x128) hz2, View.ld_unit_zero (S := S1x128) hz2, View.readCov_unit_zero (S := S1x128) _ hz2]
    first | done | rfl
  · unfold sout_C_0
    rw [View.read_writes_eq_canon _ _ _ (scover_C_0 c i arg1 harg1 arg2 harg2 arg3 harg3 arg4 harg4 arg5 harg5 arg6 harg6 arg7 harg7 arg8 harg8 hc0 hc1 x0 x1 s0 s1)]
    unfold kernelRun_C
    dsimp only
    sl_unfold_words
    rw [View.canon_unit_zero hz2]
    simp only [View.readAt_eq_ld, harg1.read_unread, harg2.read_unread, harg7.read_unread, harg8.read_unread, View.ld_unit_zero (S := S256x128) hz2, View.ld_unit_zero (S := S1x128) hz2, View.readCov_unit_zero (S := S1x128) _ hz2]
    first | done | rfl
  · unfold sout_C_1
    rw [View.read_writes_eq_canon _ _ _ (scover_C_1 c i arg1 harg1 arg2 harg2 arg3 harg3 arg4 harg4 arg5 harg5 arg6 harg6 arg7 harg7 arg8 harg8 hc0 hc1 x0 x1 s0 s1)]
    unfold kernelRun_C
    dsimp only
    sl_unfold_words
    rw [View.canon_unit_zero hz2]
    simp only [View.readAt_eq_ld, harg1.read_unread, harg2.read_unread, harg7.read_unread, harg8.read_unread, View.ld_unit_zero (S := S256x128) hz2, View.ld_unit_zero (S := S1x128) hz2, View.readCov_unit_zero (S := S1x128) _ hz2]
    first | done | rfl

end Step

variable (V : (c : Dev nD) → (b : Ref sig .tc) → Buf (Elt F) ((c : Thread nD τ).loc b)) (c : Dev nD)

/-- The two carried rows (counts, sums of probabilities) before point `n`: zero before the first, then one step per point. -/
def car : (n : ℕ) → n ≤ cfg1.N → Vec F S1x128 .f32 × Vec F S1x128 .f32
  | 0, _ => (k1_pay3, k1_pay4)
  | n + 1, h => (bCarry (iblk V c 0 ⟨n, h⟩) (iblk V c 1 ⟨n, h⟩) (car n (Nat.le_of_succ_le h)).1,
      bPsum (iblk V c 0 ⟨n, h⟩) (iblk V c 1 ⟨n, h⟩) (car n (Nat.le_of_succ_le h)).2)

/-- Before the first point the carried rows are zero. -/
theorem car_zero (h : 0 ≤ cfg1.N) : car V c 0 h = (k1_pay3, k1_pay4) := rfl

/-- One point's step of the carried rows. -/
theorem car_succ (n : ℕ) (h : n + 1 ≤ cfg1.N) : car V c (n + 1) h
    = (bCarry (iblk V c 0 ⟨n, h⟩) (iblk V c 1 ⟨n, h⟩) (car V c n (Nat.le_of_succ_le h)).1,
      bPsum (iblk V c 0 ⟨n, h⟩) (iblk V c 1 ⟨n, h⟩) (car V c n (Nat.le_of_succ_le h)).2) := rfl

/-- What every point leaves, from the carried rows before it. -/
theorem outsAt_eq : ∀ (n : ℕ) (h : n < cfg1.N),
    (outsAt V c n h).1 = k1_pay5 (iblk V c 0 ⟨n, h⟩) (iblk V c 1 ⟨n, h⟩)
    ∧ (outsAt V c n h).2.1 = bDisp (iblk V c 0 ⟨n, h⟩) (iblk V c 1 ⟨n, h⟩) (car V c n h.le).1
    ∧ (outsAt V c n h).2.2.1 = bComb (iblk V c 0 ⟨n, h⟩) (iblk V c 1 ⟨n, h⟩) (car V c n h.le).1
    ∧ (outsAt V c n h).2.2.2.2 = car V c (n + 1) h
    ∧ (n = 7 → (outsAt V c n h).2.2.2.1 = k1_pay2 (car V c (n + 1) h).1 (car V c (n + 1) h).2)
  | 0, h => by
    have e := outsAt_A V c ⟨0, h⟩ (Nat.zero_mod _) (fun q => by have q' : 0 % 8 = 7 := q; omega)
    dsimp only at e
    rw [e]
    dsimp only
    obtain ⟨e0, e1, e2, e3, e4⟩ := step_A c (grid1.coords ⟨0, h⟩) (ms_0 ⟨0, h⟩) (hs_0 ⟨0, h⟩) (ms_1 ⟨0, h⟩) (hs_1 ⟨0, h⟩) (ms_2 ⟨0, h⟩) (hs_2 ⟨0, h⟩) (ms_3 ⟨0, h⟩) (hs_3 ⟨0, h⟩) (ms_4 ⟨0, h⟩) (hs_4 ⟨0, h⟩) (ms_5 ⟨0, h⟩) (hs_5 ⟨0, h⟩) scM_0 (Memref.isWhole_whole _) scM_1 (Memref.isWhole_whole _) (iblk V c 0 ⟨0, h⟩) (iblk V c 1 ⟨0, h⟩)
      ((hcond_0 ⟨0, h⟩).mpr (Nat.zero_mod _)) (fun q => by have q' : 0 % 8 = 7 := (hcond_1 ⟨0, h⟩).mp q; omega)
    rw [car_succ, car_zero]
    exact ⟨e0, e1, e2, congrArg₂ Prod.mk e3 e4, fun q => absurd q (by decide)⟩
  | n + 1, h => by
    have hN : cfg1.N = 8 := N_1
    obtain ⟨-, -, -, ih, -⟩ := outsAt_eq n (Nat.lt_of_succ_lt h)
    have ih' : ∀ hb, (outsAt V c (n + 1 - 1) hb).2.2.2.2 = car V c (n + 1) h.le := fun _ => ih
    have h0 : ¬(⟨n + 1, h⟩ : Fin cfg1.N).val % 8 = 0 := by dsimp only; omega
    by_cases h1 : (⟨n + 1, h⟩ : Fin cfg1.N).val % 8 = 7
    · have e := outsAt_C V c ⟨n + 1, h⟩ h0 h1
      dsimp only at e
      simp only [ih'] at e
      rw [e]
      dsimp only
      obtain ⟨e0, e1, e2, e5, e3, e4⟩ := step_C c (grid1.coords ⟨n + 1, h⟩) (ms_0 ⟨n + 1, h⟩) (hs_0 ⟨n + 1, h⟩) (ms_1 ⟨n + 1, h⟩) (hs_1 ⟨n + 1, h⟩) (ms_2 ⟨n + 1, h⟩) (hs_2 ⟨n + 1, h⟩) (ms_3 ⟨n + 1, h⟩) (hs_3 ⟨n + 1, h⟩) (ms_4 ⟨n + 1, h⟩) (hs_4 ⟨n + 1, h⟩) (ms_5 ⟨n + 1, h⟩) (hs_5 ⟨n + 1, h⟩) scM_0 (Memref.isWhole_whole _) scM_1 (Memref.isWhole_whole _) (iblk V c 0 ⟨n + 1, h⟩) (iblk V c 1 ⟨n + 1, h⟩)
        (car V c (n + 1) h.le).1 (car V c (n + 1) h.le).2 (fun q => h0 ((hcond_0 ⟨n + 1, h⟩).mp q)) ((hcond_1 ⟨n + 1, h⟩).mpr h1)
      rw [car_succ V c (n + 1)]
      dsimp only
      exact ⟨e0, e1, e2, congrArg₂ Prod.mk e3 e4, fun _ => e5⟩
    · have e := outsAt_B V c ⟨n + 1, h⟩ h0 h1
      dsimp only at e
      simp only [ih'] at e
      rw [e]
      dsimp only
      obtain ⟨e0, e1, e2, e3, e4⟩ := step_B c (grid1.coords ⟨n + 1, h⟩) (ms_0 ⟨n + 1, h⟩) (hs_0 ⟨n + 1, h⟩) (ms_1 ⟨n + 1, h⟩) (hs_1 ⟨n + 1, h⟩) (ms_2 ⟨n + 1, h⟩) (hs_2 ⟨n + 1, h⟩) (ms_3 ⟨n + 1, h⟩) (hs_3 ⟨n + 1, h⟩) (ms_4 ⟨n + 1, h⟩) (hs_4 ⟨n + 1, h⟩) (ms_5 ⟨n + 1, h⟩) (hs_5 ⟨n + 1, h⟩) scM_0 (Memref.isWhole_whole _) scM_1 (Memref.isWhole_whole _) (iblk V c 0 ⟨n + 1, h⟩) (iblk V c 1 ⟨n + 1, h⟩)
        (car V c (n + 1) h.le).1 (car V c (n + 1) h.le).2 (fun q => h0 ((hcond_0 ⟨n + 1, h⟩).mp q)) (fun q => h1 ((hcond_1 ⟨n + 1, h⟩).mp q))
      rw [car_succ V c (n + 1)]
      dsimp only
      exact ⟨e0, e1, e2, congrArg₂ Prod.mk e3 e4, fun q => absurd q (by intro q; apply h1; dsimp only; omega)⟩

end Cert.KernelIdeal.Route
-- ==== Proof.RouteArr.lean ====
/-
The second call (`_route_kernel`): its operands' blocks, and the arrays its results end in, block by block.
-/
module

public import proofs.«01_k».proof.Proof.RouteStep
public import Idealize.ShloMosaic.Lib.Pointwise.Index

@[expose] public section

set_option maxRecDepth 16384

noncomputable section

namespace Cert.KernelIdeal.Route

open Cert.KernelIdeal Cert.KernelIdeal.Gen
open Idealize.ShloMosaic Idealize.ShloMosaic.TcCoe Idealize.ShloMosaic.Tactic

variable {F : FTy → Type} [FloatOps F]
variable (V : (c : Dev nD) → (b : Ref sig .tc) → Buf (Elt F) ((c : Thread nD τ).loc b)) (c : Dev nD)

/-- The call has 8 points. -/
theorem hN : cfg1.N = 8 := N_1

/-- The block indices of the windows at each point. -/
theorem index_facts : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = t.val ∧ win1_2.index t (1 : Fin 2) = 0)
    ∧ (win1_3.index t (0 : Fin 4) = 0 ∧ win1_3.index t (1 : Fin 4) = t.val ∧ win1_3.index t (2 : Fin 4) = 0 ∧ win1_3.index t (3 : Fin 4) = 0)
    ∧ (win1_4.index t (0 : Fin 4) = 0 ∧ win1_4.index t (1 : Fin 4) = t.val ∧ win1_4.index t (2 : Fin 4) = 0 ∧ win1_4.index t (3 : Fin 4) = 0)
    ∧ (win1_5.index t (0 : Fin 2) = 0 ∧ win1_5.index t (1 : Fin 2) = 0) :=
  (by decide +kernel : ∀ t : Fin grid1.N, _)

/-- The first three results are written back at every point, the fourth at the last. -/
theorem flush_facts : ∀ t : Fin cfg1.N, (cfg1.win 2).flush t = true ∧ (cfg1.win 3).flush t = true ∧ (cfg1.win 4).flush t = true ∧ ((cfg1.win 5).flush t = true ↔ t.val = 7) :=
  (by decide +kernel : ∀ t : Fin grid1.N, win1_2.flush t = true ∧ win1_3.flush t = true ∧ win1_4.flush t = true ∧ (win1_5.flush t = true ↔ t.val = 7))

/-- Block `t` of the logits' rows. -/
theorem iblk_0 (t : Fin cfg1.N) (r : Fin 256) (l : Fin 128) :
    (iblk V c 0 t : Vec F S256x128 .f32) (ix2 r l) = (V c (Pipeline.arrRef spec1 0) : Vec F S2048x128 .f32)
      (ix2 ⟨t.val * 256 + r.val, by have := t.isLt; have := hN; omega⟩ l) := by
  obtain ⟨⟨e0, e1⟩, -⟩ := index_facts t
  refine congrArg (V c (Pipeline.arrRef spec1 0)) (funext fun a => Fin.ext ?_)
  match a with
  | ⟨0, _⟩ => show win1_0.index t (0 : Fin 2) * 256 + 1 * r.val = t.val * 256 + r.val; rw [e0]; omega
  | ⟨1, _⟩ => show win1_0.index t (1 : Fin 2) * 128 + 1 * l.val = l.val; rw [e1]; omega

/-- The second bias, the same at every point. -/
theorem iblk_1 (t : Fin cfg1.N) (z : Fin 1) (l : Fin 128) :
    (iblk V c 1 t : Vec F S1x128 .f32) (ix2 z l) = (V c (Pipeline.arrRef spec1 1) : Vec F S1x128 .f32) (ix2 z l) := by
  obtain ⟨-, ⟨e0, e1⟩, -⟩ := index_facts t
  refine congrArg (V c (Pipeline.arrRef spec1 1)) (funext fun a => Fin.ext ?_)
  match a with
  | ⟨0, _⟩ => show win1_1.index t (0 : Fin 2) * 1 + 1 * z.val = z.val; rw [e0]; omega
  | ⟨1, _⟩ => show win1_1.index t (1 : Fin 2) * 128 + 1 * l.val = l.val; rw [e1]; omega

/-- The grid point of row block `b`. -/
def blkPt (b : Nat) (h : b < 8) : Fin cfg1.N := ⟨b, by have := hN; omega⟩

/-! ## Window 2 -/

/-- The array of the probabilities: the entry in row `r` is what point `r / 256` leaves at row `r % 256`. -/
def arrOf2 : Vec F S2048x128 .f32 := fun i =>
  (outsAt V c (blkPt ((i 0).val / 256) (by have h : (i 0).val < 2048 := (i 0).isLt; omega)).val (blkPt _ _).isLt).1
    (ix2 ⟨(i 0).val % 256, Nat.mod_lt _ (by omega)⟩ (i 1 : Fin 128))

/-- An element of the first result, by the point that writes it. -/
theorem arrOf2_at (i : S2048x128.Idx) (t : Fin cfg1.N) (y : S256x128.Idx) (e : (i 0).val / 256 = t.val)
    (e0 : (i 0).val % 256 = (y 0).val) (e1 : (i 1).val = (y 1).val) : arrOf2 V c i = (outsAt V c t.val t.isLt).1 y := by
  have ep : ∀ (t' : Fin cfg1.N) (z : S256x128.Idx), t' = t → z = y → (outsAt V c t'.val t'.isLt).1 z = (outsAt V c t.val t.isLt).1 y := by
    rintro _ _ rfl rfl; rfl
  refine ep _ _ (Fin.ext e) (funext fun a => Fin.ext ?_)
  match a with
  | ⟨0, _⟩ => exact e0
  | ⟨1, _⟩ => exact e1

/-- Each point writes its block of that array. -/
theorem flushed2 (t : Fin cfg1.N) : (dat V c).flushed 2 t = ((cfg1.win 2).blk t).view.read (Elt F) (arrOf2 V c) := by
  obtain ⟨-, -, ⟨e0, e1⟩, -⟩ := index_facts t
  refine funext fun (y : S256x128.Idx) => ?_
  have hy0 : (y 0).val < 256 := (y 0).isLt
  have hy1 : (y 1).val < 128 := (y 1).isLt
  have hb0 : (((cfg1.win 2).blk t).view.emb y (0 : Fin 2)).val = win1_2.index t (0 : Fin 2) * 256 + 1 * (y 0).val := rfl
  rw [e0] at hb0
  have hb1 : (((cfg1.win 2).blk t).view.emb y (1 : Fin 2)).val = win1_2.index t (1 : Fin 2) * 128 + 1 * (y 1).val := rfl
  rw [e1] at hb1
  show (cfg1.win 2).cut (grid1.coords t) ((dat V c).after 2 t) y = arrOf2 V c (((cfg1.win 2).blk t).view.emb y)
  rw [after_2]
  exact (arrOf2_at V c (((cfg1.win 2).blk t).view.emb y) t y (by omega) (by omega) (by omega)).symm

/-- Those blocks cover it. -/
theorem covered2 : ∀ i : S2048x128.Idx, ∃ t, (cfg1.win 2).flush t = true ∧ i ∈ ((cfg1.win 2).blk t).view.set := by
  intro i
  have hi0 : (i 0).val < 2048 := (i 0).isLt
  have hi1 : (i 1).val < 128 := (i 1).isLt
  refine ⟨blkPt ((i 0).val / 256) (by omega), by first | exact (flush_facts _).1 | exact (flush_facts _).2.1 | exact (flush_facts _).2.2.1, ?_⟩
  obtain ⟨-, -, ⟨e0, e1⟩, -⟩ := index_facts (blkPt ((i 0).val / 256) (by omega))
  have h0 : win1_2.index (blkPt ((i 0).val / 256) (by omega)) (0 : Fin 2) = (i 0).val / 256 := e0
  unfold Pipeline.Window.blk
  rw [View.set_slice_whole, Rect.mem_set_unit]
  intro a
  match a with
  | ⟨0, _⟩ =>
    show win1_2.index _ (0 : Fin 2) * 256 ≤ (i 0).val ∧ (i 0).val < win1_2.index _ (0 : Fin 2) * 256 + 256
    omega
  | ⟨1, _⟩ =>
    show win1_2.index _ (1 : Fin 2) * 128 ≤ (i 1).val ∧ (i 1).val < win1_2.index _ (1 : Fin 2) * 128 + 128
    omega

/-- The first result's array is the array of the written blocks. -/
theorem arr2 : (dat V c).arrAt 2 cfg1.N = arrOf2 V c :=
  (dat V c).arrAt_eq_of_cover 2 _ (fun t _ => flushed2 V c t) covered2

/-! ## Window 3 -/

/-- The array of the dispatch mask: the entry in row `r` is what point `r / 256` leaves at row `r % 256`. -/
def arrOf3 : Vec F S1x2048x8x768 .f32 := fun i =>
  (outsAt V c (blkPt ((i 1).val / 256) (by have h : (i 1).val < 2048 := (i 1).isLt; omega)).val (blkPt _ _).isLt).2.1
    (ix4 (i 0 : Fin 1) ⟨(i 1).val % 256, Nat.mod_lt _ (by omega)⟩ (i 2 : Fin 8) (i 3 : Fin 768))

/-- An element of the second result, by the point that writes it. -/
theorem arrOf3_at (i : S1x2048x8x768.Idx) (t : Fin cfg1.N) (y : S1x256x8x768.Idx) (e : (i 1).val / 256 = t.val)
    (e0 : (i 0).val = (y 0).val) (e1 : (i 1).val % 256 = (y 1).val) (e2 : (i 2).val = (y 2).val) (e3 : (i 3).val = (y 3).val) : arrOf3 V c i = (outsAt V c t.val t.isLt).2.1 y := by
  have ep : ∀ (t' : Fin cfg1.N) (z : S1x256x8x768.Idx), t' = t → z = y → (outsAt V c t'.val t'.isLt).2.1 z = (outsAt V c t.val t.isLt).2.1 y := by
    rintro _ _ rfl rfl; rfl
  refine ep _ _ (Fin.ext e) (funext fun a => Fin.ext ?_)
  match a with
  | ⟨0, _⟩ => exact e0
  | ⟨1, _⟩ => exact e1
  | ⟨2, _⟩ => exact e2
  | ⟨3, _⟩ => exact e3

/-- Each point writes its block of that array. -/
theorem flushed3 (t : Fin cfg1.N) : (dat V c).flushed 3 t = ((cfg1.win 3).blk t).view.read (Elt F) (arrOf3 V c) := by
  obtain ⟨-, -, -, ⟨e0, e1, e2, e3⟩, -⟩ := index_facts t
  refine funext fun (y : S1x256x8x768.Idx) => ?_
  have hy0 : (y 0).val < 1 := (y 0).isLt
  have hy1 : (y 1).val < 256 := (y 1).isLt
  have hy2 : (y 2).val < 8 := (y 2).isLt
  have hy3 : (y 3).val < 768 := (y 3).isLt
  have hb0 : (((cfg1.win 3).blk t).view.emb y (0 : Fin 4)).val = win1_3.index t (0 : Fin 4) * 1 + 1 * (y 0).val := rfl
  rw [e0] at hb0
  have hb1 : (((cfg1.win 3).blk t).view.emb y (1 : Fin 4)).val = win1_3.index t (1 : Fin 4) * 256 + 1 * (y 1).val := rfl
  rw [e1] at hb1
  have hb2 : (((cfg1.win 3).blk t).view.emb y (2 : Fin 4)).val = win1_3.index t (2 : Fin 4) * 8 + 1 * (y 2).val := rfl
  rw [e2] at hb2
  have hb3 : (((cfg1.win 3).blk t).view.emb y (3 : Fin 4)).val = win1_3.index t (3 : Fin 4) * 768 + 1 * (y 3).val := rfl
  rw [e3] at hb3
  show (cfg1.win 3).cut (grid1.coords t) ((dat V c).after 3 t) y = arrOf3 V c (((cfg1.win 3).blk t).view.emb y)
  rw [after_3]
  exact (arrOf3_at V c (((cfg1.win 3).blk t).view.emb y) t y (by omega) (by omega) (by omega) (by omega) (by omega)).symm

/-- Those blocks cover it. -/
theorem covered3 : ∀ i : S1x2048x8x768.Idx, ∃ t, (cfg1.win 3).flush t = true ∧ i ∈ ((cfg1.win 3).blk t).view.set := by
  intro i
  have hi0 : (i 0).val < 1 := (i 0).isLt
  have hi1 : (i 1).val < 2048 := (i 1).isLt
  have hi2 : (i 2).val < 8 := (i 2).isLt
  have hi3 : (i 3).val < 768 := (i 3).isLt
  refine ⟨blkPt ((i 1).val / 256) (by omega), by first | exact (flush_facts _).1 | exact (flush_facts _).2.1 | exact (flush_facts _).2.2.1, ?_⟩
  obtain ⟨-, -, -, ⟨e0, e1, e2, e3⟩, -⟩ := index_facts (blkPt ((i 1).val / 256) (by omega))
  have h0 : win1_3.index (blkPt ((i 1).val / 256) (by omega)) (1 : Fin 4) = (i 1).val / 256 := e1
  unfold Pipeline.Window.blk
  rw [View.set_slice_whole, Rect.mem_set_unit]
  intro a
  match a with
  | ⟨0, _⟩ =>
    show win1_3.index _ (0 : Fin 4) * 1 ≤ (i 0).val ∧ (i 0).val < win1_3.index _ (0 : Fin 4) * 1 + 1
    omega
  | ⟨1, _⟩ =>
    show win1_3.index _ (1 : Fin 4) * 256 ≤ (i 1).val ∧ (i 1).val < win1_3.index _ (1 : Fin 4) * 256 + 256
    omega
  | ⟨2, _⟩ =>
    show win1_3.index _ (2 : Fin 4) * 8 ≤ (i 2).val ∧ (i 2).val < win1_3.index _ (2 : Fin 4) * 8 + 8
    omega
  | ⟨3, _⟩ =>
    show win1_3.index _ (3 : Fin 4) * 768 ≤ (i 3).val ∧ (i 3).val < win1_3.index _ (3 : Fin 4) * 768 + 768
    omega

/-- The second result's array is the array of the written blocks. -/
theorem arr3 : (dat V c).arrAt 3 cfg1.N = arrOf3 V c :=
  (dat V c).arrAt_eq_of_cover 3 _ (fun t _ => flushed3 V c t) covered3

/-! ## Window 4 -/

/-- The array of the combine weights: the entry in row `r` is what point `r / 256` leaves at row `r % 256`. -/
def arrOf4 : Vec F S1x2048x8x768 .f32 := fun i =>
  (outsAt V c (blkPt ((i 1).val / 256) (by have h : (i 1).val < 2048 := (i 1).isLt; omega)).val (blkPt _ _).isLt).2.2.1
    (ix4 (i 0 : Fin 1) ⟨(i 1).val % 256, Nat.mod_lt _ (by omega)⟩ (i 2 : Fin 8) (i 3 : Fin 768))

/-- An element of the third result, by the point that writes it. -/
theorem arrOf4_at (i : S1x2048x8x768.Idx) (t : Fin cfg1.N) (y : S1x256x8x768.Idx) (e : (i 1).val / 256 = t.val)
    (e0 : (i 0).val = (y 0).val) (e1 : (i 1).val % 256 = (y 1).val) (e2 : (i 2).val = (y 2).val) (e3 : (i 3).val = (y 3).val) : arrOf4 V c i = (outsAt V c t.val t.isLt).2.2.1 y := by
  have ep : ∀ (t' : Fin cfg1.N) (z : S1x256x8x768.Idx), t' = t → z = y → (outsAt V c t'.val t'.isLt).2.2.1 z = (outsAt V c t.val t.isLt).2.2.1 y := by
    rintro _ _ rfl rfl; rfl
  refine ep _ _ (Fin.ext e) (funext fun a => Fin.ext ?_)
  match a with
  | ⟨0, _⟩ => exact e0
  | ⟨1, _⟩ => exact e1
  | ⟨2, _⟩ => exact e2
  | ⟨3, _⟩ => exact e3

/-- Each point writes its block of that array. -/
theorem flushed4 (t : Fin cfg1.N) : (dat V c).flushed 4 t = ((cfg1.win 4).blk t).view.read (Elt F) (arrOf4 V c) := by
  obtain ⟨-, -, -, -, ⟨e0, e1, e2, e3⟩, -⟩ := index_facts t
  refine funext fun (y : S1x256x8x768.Idx) => ?_
  have hy0 : (y 0).val < 1 := (y 0).isLt
  have hy1 : (y 1).val < 256 := (y 1).isLt
  have hy2 : (y 2).val < 8 := (y 2).isLt
  have hy3 : (y 3).val < 768 := (y 3).isLt
  have hb0 : (((cfg1.win 4).blk t).view.emb y (0 : Fin 4)).val = win1_4.index t (0 : Fin 4) * 1 + 1 * (y 0).val := rfl
  rw [e0] at hb0
  have hb1 : (((cfg1.win 4).blk t).view.emb y (1 : Fin 4)).val = win1_4.index t (1 : Fin 4) * 256 + 1 * (y 1).val := rfl
  rw [e1] at hb1
  have hb2 : (((cfg1.win 4).blk t).view.emb y (2 : Fin 4)).val = win1_4.index t (2 : Fin 4) * 8 + 1 * (y 2).val := rfl
  rw [e2] at hb2
  have hb3 : (((cfg1.win 4).blk t).view.emb y (3 : Fin 4)).val = win1_4.index t (3 : Fin 4) * 768 + 1 * (y 3).val := rfl
  rw [e3] at hb3
  show (cfg1.win 4).cut (grid1.coords t) ((dat V c).after 4 t) y = arrOf4 V c (((cfg1.win 4).blk t).view.emb y)
  rw [after_4]
  exact (arrOf4_at V c (((cfg1.win 4).blk t).view.emb y) t y (by omega) (by omega) (by omega) (by omega) (by omega)).symm

/-- Those blocks cover it. -/
theorem covered4 : ∀ i : S1x2048x8x768.Idx, ∃ t, (cfg1.win 4).flush t = true ∧ i ∈ ((cfg1.win 4).blk t).view.set := by
  intro i
  have hi0 : (i 0).val < 1 := (i 0).isLt
  have hi1 : (i 1).val < 2048 := (i 1).isLt
  have hi2 : (i 2).val < 8 := (i 2).isLt
  have hi3 : (i 3).val < 768 := (i 3).isLt
  refine ⟨blkPt ((i 1).val / 256) (by omega), by first | exact (flush_facts _).1 | exact (flush_facts _).2.1 | exact (flush_facts _).2.2.1, ?_⟩
  obtain ⟨-, -, -, -, ⟨e0, e1, e2, e3⟩, -⟩ := index_facts (blkPt ((i 1).val / 256) (by omega))
  have h0 : win1_4.index (blkPt ((i 1).val / 256) (by omega)) (1 : Fin 4) = (i 1).val / 256 := e1
  unfold Pipeline.Window.blk
  rw [View.set_slice_whole, Rect.mem_set_unit]
  intro a
  match a with
  | ⟨0, _⟩ =>
    show win1_4.index _ (0 : Fin 4) * 1 ≤ (i 0).val ∧ (i 0).val < win1_4.index _ (0 : Fin 4) * 1 + 1
    omega
  | ⟨1, _⟩ =>
    show win1_4.index _ (1 : Fin 4) * 256 ≤ (i 1).val ∧ (i 1).val < win1_4.index _ (1 : Fin 4) * 256 + 256
    omega
  | ⟨2, _⟩ =>
    show win1_4.index _ (2 : Fin 4) * 8 ≤ (i 2).val ∧ (i 2).val < win1_4.index _ (2 : Fin 4) * 8 + 8
    omega
  | ⟨3, _⟩ =>
    show win1_4.index _ (3 : Fin 4) * 768 ≤ (i 3).val ∧ (i 3).val < win1_4.index _ (3 : Fin 4) * 768 + 768
    omega

/-- The third result's array is the array of the written blocks. -/
theorem arr4 : (dat V c).arrAt 4 cfg1.N = arrOf4 V c :=
  (dat V c).arrAt_eq_of_cover 4 _ (fun t _ => flushed4 V c t) covered4

/-! ## Window 5 -/

/-- The scalar result's array: what the last point leaves. -/
def arrOf5 : Vec F S1x1 .f32 := (outsAt V c (blkPt 7 (by decide)).val (blkPt 7 (by decide)).isLt).2.2.2.1

/-- What the last point writes back of the fourth result. -/
theorem flushed5 (t : Fin cfg1.N) (hf : (cfg1.win 5).flush t = true) :
    (dat V c).flushed 5 t = ((cfg1.win 5).blk t).view.read (Elt F) (arrOf5 V c) := by
  have h7 : t.val = 7 := (flush_facts t).2.2.2.1 hf
  obtain ⟨-, -, -, -, -, ⟨e0, e1⟩⟩ := index_facts t
  refine funext fun (y : S1x1.Idx) => ?_
  have hb0 : (((cfg1.win 5).blk t).view.emb y (0 : Fin 2)).val = win1_5.index t (0 : Fin 2) * 1 + 1 * (y 0).val := rfl
  have hb1 : (((cfg1.win 5).blk t).view.emb y (1 : Fin 2)).val = win1_5.index t (1 : Fin 2) * 1 + 1 * (y 1).val := rfl
  rw [e0] at hb0
  rw [e1] at hb1
  show (cfg1.win 5).cut (grid1.coords t) ((dat V c).after 5 t) y = arrOf5 V c (((cfg1.win 5).blk t).view.emb y)
  rw [after_5]
  have ep : ∀ (t' : Fin cfg1.N) (z : S1x1.Idx), t' = t → z = y → (outsAt V c t'.val t'.isLt).2.2.2.1 z = (outsAt V c t.val t.isLt).2.2.2.1 y := by
    rintro _ _ rfl rfl; rfl
  refine (ep (blkPt 7 (by decide)) (((cfg1.win 5).blk t).view.emb y) (Fin.ext h7.symm) (funext fun a => Fin.ext ?_)).symm
  match a with
  | ⟨0, _⟩ => show (((cfg1.win 5).blk t).view.emb y (0 : Fin 2)).val = (y 0).val; omega
  | ⟨1, _⟩ => show (((cfg1.win 5).blk t).view.emb y (1 : Fin 2)).val = (y 1).val; omega

/-- The last point writes the whole of the fourth result. -/
theorem covered5 : ∀ i : S1x1.Idx, ∃ t, (cfg1.win 5).flush t = true ∧ i ∈ ((cfg1.win 5).blk t).view.set := by
  intro i
  have hi0 : (i 0).val < 1 := (i 0).isLt
  have hi1 : (i 1).val < 1 := (i 1).isLt
  refine ⟨blkPt 7 (by decide), (flush_facts _).2.2.2.2 rfl, ?_⟩
  obtain ⟨-, -, -, -, -, ⟨e0, e1⟩⟩ := index_facts (blkPt 7 (by decide))
  unfold Pipeline.Window.blk
  rw [View.set_slice_whole, Rect.mem_set_unit]
  intro a
  match a with
  | ⟨0, _⟩ =>
    show win1_5.index _ (0 : Fin 2) * 1 ≤ (i 0).val ∧ (i 0).val < win1_5.index _ (0 : Fin 2) * 1 + 1
    omega
  | ⟨1, _⟩ =>
    show win1_5.index _ (1 : Fin 2) * 1 ≤ (i 1).val ∧ (i 1).val < win1_5.index _ (1 : Fin 2) * 1 + 1
    omega

/-- The fourth result's array is what the last point writes. -/
theorem arr5 : (dat V c).arrAt 5 cfg1.N = arrOf5 V c :=
  (dat V c).arrAt_eq_of_cover 5 _ (flushed5 V c) covered5

end Cert.KernelIdeal.Route
-- ==== Proof.KBlock.lean ====
/-
One block of the second call (`_route_kernel`) at the extended reals: from 256 rows of probabilities and the counts
carried in, the chosen experts, their queue positions, the blocks of the two results and the counts handed on.
-/
module

public import proofs.«01_k».proof.Proof.RouteStep
public import proofs.«01_k».proof.Proof.Words

@[expose] public section

set_option maxRecDepth 16384

noncomputable section

namespace Cert.KernelIdeal.Route

open Cert.KernelIdeal Cert.KernelIdeal.Gen Cert.Router
open Idealize.ShloMosaic

/-! ## The probabilities -/

/-- A row of the block holds the softmax of its eight logits, and zero on the lanes past them. -/
theorem pay5_eq (x0 : Vec Ideal S256x128 .f32) (x1 : Vec Ideal S1x128 .f32) (r : Fin 256) (L : Fin 8 → ℝ)
    (hL : ∀ e : Fin 8, x0 (ix2 r (lane e)) + x1 (ix2 0 (lane e)) = ((L e : ℝ) : EReal)) (l : Fin 128) :
    k1_pay5 x0 x1 (ix2 r l) = pad8 (fun e => ((sm L e : ℝ) : EReal)) l := by
  obtain ⟨c, hc⟩ := mask_real
  have hw : ∀ x : Fin 128, (if x.val < 8 then x0 (ix2 r x) + x1 (ix2 0 x) else Ideal.ofBits .f32 0xF149F2CA#32)
      = (((if h : x.val < 8 then L ⟨x.val, h⟩ else c : ℝ)) : EReal) := fun x => by
    by_cases h : x.val < 8
    · rw [if_pos h, dif_pos h]; exact hL ⟨x.val, h⟩
    · rw [if_neg h, dif_neg h, hc]
  obtain ⟨m, hm⟩ := foldMax_real (ι := Fin 128) _ _ hw
  pointwise [k1_pay5]
  have s8 : ∀ (x : Fin 128) (a b : EReal), Scalar.select (IntOp.cmpi CmpIPredicate.slt (BitVec.ofNat 32 x.val) 8#32) a b = if x.val < 8 then a else b :=
    fun x a b => select_slt x.val 8 (by omega) (by norm_num) a b
  simp only [s8, neg_inf]
  rw [hm]
  have hs : ∀ x : Fin 128, (if x.val < 8 then Ideal.exp ((if x.val < 8 then x0 (ix2 r x) + x1 (ix2 0 x) else Ideal.ofBits .f32 0xF149F2CA#32) - (m : EReal)) else 0)
      = pad8 (fun e => Ideal.exp ((L e : EReal) - (m : EReal))) x := fun x => by
    unfold pad8
    by_cases h : x.val < 8
    · rw [if_pos h, dif_pos h, hw, dif_pos h]
    · rw [if_neg h, dif_neg h]
  simp only [hs]
  rw [sum_pad8]
  unfold pad8
  by_cases h : l.val < 8
  · rw [dif_pos h, dif_pos h]; exact sm_ideal L m _
  · rw [dif_neg h, dif_neg h]
    simp only [← EReal.coe_sub, exp_coe]
    rw [esum, ← EReal.coe_zero, div_coe _ _ (expSum_pos fun e => L e - m).ne', zero_div]

/-! ## The choices -/

/-- Token `r` of block `b`. -/
def tok (b : ℕ) (hb : b < 8) (r : Fin 256) : Fin 2048 := ⟨b * 256 + r.val, by omega⟩

section Choice

variable (x0 : Vec Ideal S256x128 .f32) (x1 s : Vec Ideal S1x128 .f32) (P : Fin 2048 → Fin 8 → ℝ) (hP : ∀ n e, 0 < P n e)
  (b : ℕ) (hb : b < 8)

variable (hx : ∀ r l, k1_pay5 x0 x1 (ix2 r l) = pad8 (fun e => ((P (tok b hb r) e : ℝ) : EReal)) l)

include hx hP in
/-- The block's row maximum of the probabilities is the best expert's probability. -/
theorem pay6_eq (r : Fin 256) : k1_pay6 x0 x1 (ix2 r 0) = ((P (tok b hb r) (best (P (tok b hb r))) : ℝ) : EReal) := by
  pointwise [k1_pay6]
  rw [neg_inf]
  refine (foldMax_eq _ (lane (best (P (tok b hb r)))) fun k => ?_).trans ?_
  · simp only [hx, pad8_lane]
    unfold pad8
    split
    · exact EReal.coe_le_coe_iff.2 (le_best _ _)
    · exact EReal.coe_nonneg.2 (hP _ _).le
  · simp only [hx, pad8_lane]

include hx hP in
/-- The first choice of row `r` is the best expert. -/
theorem bI0_eq (r : Fin 256) : bI0 x0 x1 (ix2 r 0) = BitVec.ofNat 32 (best (P (tok b hb r))).val := by
  unfold bI0
  pointwise [k1_pay7]
  refine (foldMin_first _ (lane (best (P (tok b hb r)))) ?_ fun k hk => ?_)
  · rw [pay6_eq x0 x1 P hP b hb hx, hx, pad8_lane]
  · rw [pay6_eq x0 x1 P hP b hb hx, hx] at hk
    unfold pad8 at hk
    split at hk
    · rename_i h
      have hk' := EReal.coe_eq_coe_iff.1 hk
      by_cases q : (⟨k.val, h⟩ : Fin 8) = best (P (tok b hb r))
      · exact Fin.le_def.2 (by rw [← q]; exact le_refl _)
      · rcases (best_next (P (tok b hb r))).first _ q with p | ⟨-, p⟩
        · exact absurd hk' p.ne
        · exact Fin.le_def.2 (Fin.lt_def.1 p).le
    · exact absurd hk (EReal.coe_pos.2 (hP _ _)).ne

include hx hP in
/-- The masked probabilities: the best expert's lane holds -1, every other its probability. -/
theorem pay8_eq (r : Fin 256) (l : Fin 128) : k1_pay8 x0 x1 (ix2 r l)
    = if l = lane (best (P (tok b hb r))) then ((-1 : ℝ) : EReal) else pad8 (fun e => ((P (tok b hb r) e : ℝ) : EReal)) l := by
  have h0 := bI0_eq x0 x1 P hP b hb hx r
  unfold bI0 at h0
  pointwise [k1_pay8]
  rw [select_eq, h0, hx, minus_one]
  refine if_congr ?_ rfl rfl
  rw [ofNat_inj (by omega) (by omega)]
  exact ⟨fun q => Fin.ext q, fun q => congrArg Fin.val q⟩

include hx hP in
/-- The masked probabilities at the second best expert's lane. -/
theorem pay8_next (r : Fin 256) : k1_pay8 x0 x1 (ix2 r (lane (next (P (tok b hb r))))) = ((P (tok b hb r) (next (P (tok b hb r))) : ℝ) : EReal) := by
  rw [pay8_eq x0 x1 P hP b hb hx, if_neg (fun q => (best_next (P (tok b hb r))).ne (lane_inj.1 q)), pad8_lane]

include hx hP in
/-- The maximum of the masked probabilities is the second best expert's probability. -/
theorem pay9_eq (r : Fin 256) : k1_pay9 x0 x1 (ix1 r) = ((P (tok b hb r) (next (P (tok b hb r))) : ℝ) : EReal) := by
  pointwise [k1_pay9]
  rw [neg_inf]
  refine (foldMax_eq _ (lane (next (P (tok b hb r)))) fun k => ?_).trans (pay8_next x0 x1 P hP b hb hx r)
  rw [pay8_next x0 x1 P hP b hb hx, pay8_eq x0 x1 P hP b hb hx]
  have hn := hP (tok b hb r) (next (P (tok b hb r)))
  by_cases q : k = lane (best (P (tok b hb r)))
  · rw [if_pos q]
    exact EReal.coe_le_coe_iff.2 (by linarith)
  · rw [if_neg q]
    unfold pad8
    split
    · rename_i h
      exact EReal.coe_le_coe_iff.2 (le_next _ _ fun p => q (Fin.ext (show k.val = (best (P (tok b hb r))).val by rw [← p])))
    · exact EReal.coe_nonneg.2 hn.le

include hx hP in
/-- The second choice of row `r` is the second best expert. -/
theorem bI1_eq (r : Fin 256) : bI1 x0 x1 (ix2 r 0) = BitVec.ofNat 32 (next (P (tok b hb r))).val := by
  unfold bI1
  pointwise [k1_pay11, k1_pay10, lanes]
  refine (foldMin_first _ (lane (next (P (tok b hb r)))) ?_ fun k hk => ?_)
  · rw [pay9_eq x0 x1 P hP b hb hx, pay8_next x0 x1 P hP b hb hx]
  · have hn := hP (tok b hb r) (next (P (tok b hb r)))
    rw [pay9_eq x0 x1 P hP b hb hx, pay8_eq x0 x1 P hP b hb hx] at hk
    by_cases q : k = lane (best (P (tok b hb r)))
    · rw [if_pos q] at hk
      have hk' := EReal.coe_eq_coe_iff.1 hk
      linarith
    · rw [if_neg q] at hk
      unfold pad8 at hk
      split at hk
      · rename_i h
        have hk' := EReal.coe_eq_coe_iff.1 hk
        have hq : (⟨k.val, h⟩ : Fin 8) ≠ best (P (tok b hb r)) := fun p => q (Fin.ext (show k.val = (best (P (tok b hb r))).val by rw [← p]))
        by_cases q' : (⟨k.val, h⟩ : Fin 8) = next (P (tok b hb r))
        · exact Fin.le_def.2 (by rw [← q']; exact le_refl _)
        · rcases (best_next (P (tok b hb r))).second _ hq q' with p | ⟨-, p⟩
          · exact absurd hk' p.ne
          · exact Fin.le_def.2 (Fin.lt_def.1 p).le
      · exact absurd hk (EReal.coe_pos.2 hn).ne

/-! ## The queue positions -/

/-- The counts before token `n`, on the lanes. -/
def cntL (P : Fin 2048 → Fin 8 → ℝ) (n : ℕ) (l : Fin 128) : ℕ := pad8 (cnt P n) l

include hx hP in
/-- The one-hot row of the first choice. -/
theorem pay15_eq (r : Fin 256) (l : Fin 128) : k1_pay15 (F := Ideal) lanes (bI0 x0 x1) (ix2 r l) = if l = lane (best (P (tok b hb r))) then 1 else 0 := by
  have h0 := bI0_eq x0 x1 P hP b hb hx r
  pointwise [k1_pay15, lanes]
  rw [mask_eq, h0]
  refine if_congr ?_ rfl rfl
  rw [ofNat_inj (by omega) (by omega)]
  exact ⟨fun q => Fin.ext q, fun q => congrArg Fin.val q⟩

include hx hP in
/-- The one-hot row of the second choice. -/
theorem pay16_eq (r : Fin 256) (l : Fin 128) : k1_pay16 lanes (k1_pay8 x0 x1) (k1_pay9 x0 x1) (ix2 r l) = if l = lane (next (P (tok b hb r))) then 1 else 0 := by
  have h0 := bI1_eq x0 x1 P hP b hb hx r
  unfold bI1 at h0
  pointwise [k1_pay16]
  rw [mask_eq, h0]
  pointwise [lanes]
  refine if_congr ?_ rfl rfl
  rw [ofNat_inj (by omega) (by omega)]
  exact ⟨fun q => Fin.ext q, fun q => congrArg Fin.val q⟩

include hx hP in
/-- The sum of the two one-hot rows: how many of the token's choices each lane's expert is. -/
theorem pay17_eq (r : Fin 256) (l : Fin 128) : k1_pay17 lanes (bI0 x0 x1) (k1_pay8 x0 x1) (k1_pay9 x0 x1) (ix2 r l)
    = (((pad8 (uses P (b * 256 + r.val)) l : ℕ) : ℝ) : EReal) := by
  have h0 := pay15_eq x0 x1 P hP b hb hx r l
  have h1 := pay16_eq x0 x1 P hP b hb hx r l
  pointwise [k1_pay17]
  rw [h0, h1]
  unfold pad8
  by_cases h : l.val < 8
  · rw [dif_pos h]
    have hl : ∀ e, l = lane e ↔ e = ⟨l.val, h⟩ := fun e => ⟨fun q => Fin.ext (congrArg Fin.val q).symm, fun q => Fin.ext (congrArg Fin.val q).symm⟩
    unfold uses
    have ht : b * 256 + r.val < 2048 := (tok b hb r).isLt
    rw [dif_pos ht]
    simp only [hl]
    show (if best (P (tok b hb r)) = ⟨l.val, h⟩ then (1 : EReal) else 0) + (if next (P (tok b hb r)) = ⟨l.val, h⟩ then 1 else 0)
      = ((((if best (P (tok b hb r)) = ⟨l.val, h⟩ then 1 else 0) + (if next (P (tok b hb r)) = ⟨l.val, h⟩ then 1 else 0) : ℕ) : ℝ) : EReal)
    split <;> rename_i p0 <;> split <;> rename_i p1 <;> norm_num
    exact absurd (p1.trans p0.symm) (best_next (P (tok b hb r))).ne
  · rw [dif_neg h]
    have hl : ∀ e, l ≠ lane e := fun e q => h (by rw [q]; exact e.isLt)
    simp [hl]

variable (hs : ∀ l, s (ix2 0 l) = (((cntL P (b * 256) l : ℕ) : ℝ) : EReal))

/-- The lane counts of `n + k` tokens, split after the first `n`. -/
theorem cntL_add (n k : ℕ) (l : Fin 128) : cntL P (n + k) l = cntL P n l + ∑ i ∈ Finset.range k, pad8 (uses P (n + i)) l := by
  unfold cntL pad8
  split
  · exact cnt_add P n k _
  · simp

include hx hP hs in
/-- The counts before row `r`: the triangle's product with the block's rows, plus the counts carried in. -/
theorem pay18_eq (r : Fin 256) (l : Fin 128) : k1_pay18 lanes (bI0 x0 x1) (k1_pay8 x0 x1) (k1_pay9 x0 x1) s (ix2 r l)
    = (((cntL P (b * 256 + r.val) l : ℕ) : ℝ) : EReal) := by
  have h17 := fun x : Fin 256 => pay17_eq x0 x1 P hP b hb hx x l
  pointwise [k1_pay18]
  have e : ∀ x : Fin 256, (FloatOps.sitofp FTy.f32 (BitVec.setWidth 32 (IntOp.cmpi CmpIPredicate.slt (BitVec.ofNat 32 x.val) (BitVec.ofNat 32 r.val))) : Ideal .f32)
      * k1_pay17 lanes (bI0 x0 x1) (k1_pay8 x0 x1) (k1_pay9 x0 x1) (ix2 x l)
      = (((if x.val < r.val then pad8 (uses P (b * 256 + x.val)) l else 0 : ℕ) : ℝ) : EReal) := fun x => by
    rw [mask_slt _ _ (by omega) (by omega), h17]
    by_cases q : x.val < r.val
    · rw [if_pos q, if_pos q]; exact one_mul _
    · rw [if_neg q, if_neg q]; exact (zero_mul _).trans (by norm_num)
  simp only [e]
  rw [nsum, hs, sum_mask r.val r.isLt.le (fun i => pad8 (uses P (b * 256 + i)) l), cntL_add, ← EReal.coe_add, Nat.cast_add, add_comm]

/-- A queue position fits in a signed word. -/
theorem cnt_lt (n : ℕ) (hn : n ≤ 2048) (e : Fin 8) : cnt P n e < 2 ^ 31 := by
  have := cnt_le P n e
  omega

include hx hP hs in
/-- The first choice's queue position. -/
theorem bQ0_eq (r : Fin 256) : bQ0 x0 x1 s (ix2 r 0) = BitVec.ofNat 32 (cnt P (b * 256 + r.val) (best (P (tok b hb r)))) := by
  unfold bQ0
  have h15 := fun x => pay15_eq x0 x1 P hP b hb hx r x
  have h18 := fun x => pay18_eq x0 x1 s P hP b hb hx hs r x
  pointwise [k1_pay19]
  simp only [h15, h18, mul_ite, mul_one, mul_zero]
  rw [Finset.sum_ite_eq' Finset.univ, if_pos (Finset.mem_univ _)]
  unfold cntL
  rw [pad8_lane]
  exact fptosi_nat _ (cnt_lt P _ (by have := (tok b hb r).isLt; exact this.le) _)

include hx hP hs in
/-- The second choice's queue position. -/
theorem bQ1_eq (r : Fin 256) : bQ1 x0 x1 s (ix2 r 0) = BitVec.ofNat 32 (cnt P (b * 256 + r.val) (next (P (tok b hb r)))) := by
  unfold bQ1
  have h16 := fun x => pay16_eq x0 x1 P hP b hb hx r x
  have h18 := fun x => pay18_eq x0 x1 s P hP b hb hx hs r x
  pointwise [k1_pay20]
  simp only [h16, h18, mul_ite, mul_one, mul_zero]
  rw [Finset.sum_ite_eq' Finset.univ, if_pos (Finset.mem_univ _)]
  unfold cntL
  rw [pad8_lane]
  exact fptosi_nat _ (cnt_lt P _ (by have := (tok b hb r).isLt; exact this.le) _)

/-! ## What the block leaves -/

include hx hP hs in
/-- The counts handed on are those before the next block. -/
theorem bCarry_eq (l : Fin 128) : bCarry x0 x1 s (ix2 0 l) = (((cntL P ((b + 1) * 256) l : ℕ) : ℝ) : EReal) := by
  unfold bCarry
  have h17 := fun x : Fin 256 => pay17_eq x0 x1 P hP b hb hx x l
  pointwise [k1_pay21]
  simp only [h17]
  rw [nsum, hs, ← EReal.coe_add, ← Nat.cast_add, show (b + 1) * 256 = b * 256 + 256 by ring, cntL_add, Finset.sum_range]

/-- The probabilities of the first `n` tokens, summed. -/
def psumL (P : Fin 2048 → Fin 8 → ℝ) (n : ℕ) (l : Fin 128) : EReal :=
  ∑ i ∈ Finset.range n, if h : i < 2048 then pad8 (fun e => ((P ⟨i, h⟩ e : ℝ) : EReal)) l else 0

include hx in
/-- The sums of probabilities handed on. -/
theorem bPsum_eq (t : Vec Ideal S1x128 .f32) (ht : ∀ l, t (ix2 0 l) = psumL P (b * 256) l) (l : Fin 128) :
    bPsum x0 x1 t (ix2 0 l) = psumL P ((b + 1) * 256) l := by
  unfold bPsum
  pointwise [k1_pay22]
  simp only [hx]
  rw [ht]
  unfold psumL
  rw [show (b + 1) * 256 = b * 256 + 256 by ring, Finset.sum_range_add]
  refine congrArg _ ?_
  rw [Finset.sum_range]
  exact Finset.sum_congr rfl fun r _ => by rw [dif_pos (show b * 256 + r.val < 2048 from (tok b hb r).isLt)]; rfl

/-- Whether token `n` takes place `q` of expert `e`'s queue. -/
def taken (P : Fin 2048 → Fin 8 → ℝ) (n : Fin 2048) (e : Fin 8) (q : ℕ) : Prop :=
  (best (P n) = e ∨ next (P n) = e) ∧ cnt P n.val e = q

instance (P : Fin 2048 → Fin 8 → ℝ) (n : Fin 2048) (e : Fin 8) (q : ℕ) : Decidable (taken P n e q) := by unfold taken; infer_instance

include hx hP hs in
/-- The mask of the scattered results: set where the row's token takes place `q` of expert `e`'s queue. -/
theorem pay26_eq (r : Fin 256) (e : Fin 8) (q : Fin 768) :
    k1_pay26 (bI0 x0 x1) (bI1 x0 x1) (bQ0 x0 x1 s) (bQ1 x0 x1 s) (ix3 r e q) = if taken P (tok b hb r) e q.val then 1#1 else 0#1 := by
  have h0 := bI0_eq x0 x1 P hP b hb hx r
  have h1 := bI1_eq x0 x1 P hP b hb hx r
  have h2 := bQ0_eq x0 x1 s P hP b hb hx hs r
  have h3 := bQ1_eq x0 x1 s P hP b hb hx hs r
  have c0 := cnt_lt P (b * 256 + r.val) (tok b hb r).isLt.le (best (P (tok b hb r)))
  have c1 := cnt_lt P (b * 256 + r.val) (tok b hb r).isLt.le (next (P (tok b hb r)))
  have hne := (best_next (P (tok b hb r))).ne
  pointwise [k1_pay26, k1_pay23, k1_pay24]
  simp only [h0, h1, h2, h3, select_eq]
  have s768 : ∀ n : ℕ, n < 2 ^ 31 → Scalar.select (IntOp.cmpi CmpIPredicate.slt (BitVec.ofNat 32 n) 768#32) (BitVec.ofNat 32 n) 4294967295#32
      = if n < 768 then BitVec.ofNat 32 n else 4294967295#32 := fun n hn => select_slt n 768 hn (by norm_num) _ _
  rw [s768 _ c0, s768 _ c1]
  simp only [ofNat_inj (show e.val < 2 ^ 32 by omega) (show (best (P (tok b hb r))).val < 2 ^ 32 by omega),
    ofNat_inj (show e.val < 2 ^ 32 by omega) (show (next (P (tok b hb r))).val < 2 ^ 32 by omega)]
  have hcmp : ∀ y : BitVec 32, IntOp.cmpi CmpIPredicate.eq (BitVec.ofNat 32 q.val) y = if BitVec.ofNat 32 q.val = y then 1#1 else 0#1 := fun y => by
    by_cases h : BitVec.ofNat 32 q.val = y
    · simp [IntOp.cmpi, h]
    · rw [if_neg h]
      show BitVec.ofBool (BitVec.ofNat 32 q.val == y) = 0#1
      rw [beq_eq_false_iff_ne.2 h]
      rfl
  have hpos : ∀ n : ℕ, n < 2 ^ 31 → ((BitVec.ofNat 32 q.val = if n < 768 then BitVec.ofNat 32 n else 4294967295#32) ↔ n = q.val) := fun n hn => by
    by_cases h : n < 768
    · rw [if_pos h, ofNat_inj (by omega) (by omega)]; exact eq_comm
    · rw [if_neg h, show 4294967295#32 = BitVec.ofNat 32 4294967295 from rfl, ofNat_inj (by omega) (by norm_num)]
      constructor <;> intro _ <;> omega
  rw [hcmp]
  refine if_congr ?_ rfl rfl
  unfold taken
  by_cases e0 : e.val = (best (P (tok b hb r))).val
  · have e0' : best (P (tok b hb r)) = e := Fin.ext e0.symm
    rw [if_pos e0, hpos _ c0, e0']
    simp only [true_or, true_and]
    rfl
  · have e0' : ¬best (P (tok b hb r)) = e := fun p => e0 (congrArg Fin.val p).symm
    rw [if_neg e0]
    by_cases e1 : e.val = (next (P (tok b hb r))).val
    · have e1' : next (P (tok b hb r)) = e := Fin.ext e1.symm
      rw [if_pos e1, hpos _ c1, e1']
      simp only [or_true, true_and]
      rfl
    · have e1' : ¬next (P (tok b hb r)) = e := fun p => e1 (congrArg Fin.val p).symm
      rw [if_neg e1, show 4294967295#32 = BitVec.ofNat 32 4294967295 from rfl, ofNat_inj (by omega) (by norm_num)]
      simp only [e0', e1', or_self, false_and, iff_false]
      omega

include hx hP hs in
/-- The block of the dispatch mask: one at a token's place in each of its two queues. -/
theorem bDisp_eq (r : Fin 256) (e : Fin 8) (q : Fin 768) :
    bDisp x0 x1 s (ix4 0 r e q) = if taken P (tok b hb r) e q.val then (1 : EReal) else 0 := by
  have h := pay26_eq x0 x1 s P hP b hb hx hs r e q
  unfold bDisp
  pointwise [k1_pay27]
  rw [h]
  split
  · exact bit_one
  · exact bit_zero

/-- The weight of token `n` for its expert `e`. -/
def wgt (P : Fin 2048 → Fin 8 → ℝ) (n : Fin 2048) (e : Fin 8) : EReal :=
  Ideal.div (P n e : EReal) (((P n (best (P n)) : ℝ) : EReal) + ((P n (next (P n)) : ℝ) : EReal) + Ideal.ofBits .f32 0x322BCC77#32)

include hx hP hs in
/-- The block of the combine weights: a token's weight at its place in each of its two queues. -/
theorem bComb_eq (r : Fin 256) (e : Fin 8) (q : Fin 768) :
    bComb x0 x1 s (ix4 0 r e q) = if taken P (tok b hb r) e q.val then wgt P (tok b hb r) e else 0 := by
  have h := pay26_eq x0 x1 s P hP b hb hx hs r e q
  have h0 := bI0_eq x0 x1 P hP b hb hx r
  have h1 := bI1_eq x0 x1 P hP b hb hx r
  have h6 := pay6_eq x0 x1 P hP b hb hx r
  have h9 := pay9_eq x0 x1 P hP b hb hx r
  unfold bComb
  pointwise [k1_pay1, k1_pay25, k1_pay13, k1_pay14, k1_pay12, k1_pay10, k1_pay23, k1_pay24]
  simp only [h, h0, h1, h6, h9, select_eq]
  simp only [ofNat_inj (show e.val < 2 ^ 32 by omega) (show (best (P (tok b hb r))).val < 2 ^ 32 by omega),
    ofNat_inj (show e.val < 2 ^ 32 by omega) (show (next (P (tok b hb r))).val < 2 ^ 32 by omega)]
  by_cases ht : taken P (tok b hb r) e q.val
  · rw [if_pos ht, if_pos ht]
    refine (ValueIdx.select_one _ _).trans ?_
    unfold wgt
    obtain ⟨hor, -⟩ := ht
    by_cases e0 : e.val = (best (P (tok b hb r))).val
    · have e0' : best (P (tok b hb r)) = e := Fin.ext e0.symm
      rw [if_pos e0]
      rw [e0']
    · have e0' : ¬best (P (tok b hb r)) = e := fun p => e0 (congrArg Fin.val p).symm
      have e1' : next (P (tok b hb r)) = e := hor.resolve_left e0'
      rw [if_neg e0, if_pos (by rw [e1']), e1']
  · rw [if_neg ht, if_neg ht]
    exact ValueIdx.select_zero _ _

end Choice

end Cert.KernelIdeal.Route
-- ==== Proof.KRoute.lean ====
/-
The second call's four results at the extended reals, read at an entry, from the logits it is entered with.
-/
module

public import proofs.«01_k».proof.Proof.RouteArr
public import proofs.«01_k».proof.Proof.KBlock

@[expose] public section

set_option maxRecDepth 16384

noncomputable section

namespace Cert.KernelIdeal.Route

open Cert.KernelIdeal Cert.KernelIdeal.Gen Cert.Router
open Idealize.ShloMosaic Idealize.ShloMosaic.TcCoe

/-- The balance loss: eight times the sum over the experts of the mean probability times the share of the choices. -/
def auxv (P : Fin 2048 → Fin 8 → ℝ) : EReal :=
  (∑ e : Fin 8, Ideal.div (∑ n : Fin 2048, ((P n e : ℝ) : EReal)) (Ideal.ofBits .f32 0x45000000#32)
    * Ideal.div (((cnt P 2048 e : ℕ) : ℝ) : EReal) (Ideal.ofBits .f32 0x45800000#32)) * Ideal.ofBits .f32 0x41000000#32

/-- The last point's loss, from the counts and the sums of probabilities over all tokens. -/
theorem pay2_eq (P : Fin 2048 → Fin 8 → ℝ) (x s : Vec Ideal S1x128 .f32) (hx : ∀ l, x (ix2 0 l) = (((cntL P 2048 l : ℕ) : ℝ) : EReal))
    (hs : ∀ l, s (ix2 0 l) = psumL P 2048 l) : k1_pay2 x s (ix2 0 0) = auxv P := by
  pointwise [k1_pay2]
  unfold auxv
  refine congrArg₂ (· * ·) ?_ rfl
  have e : ∀ l : Fin 128, (Ideal.div (x (ix2 0 l)) (Ideal.ofBits .f32 0x45800000#32) * Ideal.div (s (ix2 0 l)) (Ideal.ofBits .f32 0x45000000#32) : EReal)
      = pad8 (fun e => Ideal.div (∑ n : Fin 2048, ((P n e : ℝ) : EReal)) (Ideal.ofBits .f32 0x45000000#32)
        * Ideal.div (((cnt P 2048 e : ℕ) : ℝ) : EReal) (Ideal.ofBits .f32 0x45800000#32)) l := fun l => by
    rw [hx, hs]
    unfold cntL psumL pad8
    by_cases h : l.val < 8
    · rw [dif_pos h, dif_pos h, Finset.sum_range, mul_comm]
      refine congrArg₂ (· * ·) (congrArg (Ideal.div · _) (Finset.sum_congr rfl fun n _ => ?_)) rfl
      rw [dif_pos n.isLt, dif_pos h]
    · rw [dif_neg h, dif_neg h, c4096, Nat.cast_zero, div_coe _ _ (by norm_num), zero_div]
      exact zero_mul _
  simp only [e]
  rw [Finset.sum_const, Finset.card_univ]
  rw [sum_pad8]
  exact one_nsmul _

variable (V : (c : Dev nD) → (b : Ref sig .tc) → Buf (Elt Ideal) ((c : Thread nD τ).loc b)) (c : Dev nD)

/-- The logits and the bias the call is entered with. -/
def inLogits : Vec Ideal S2048x128 .f32 := V c (Pipeline.arrRef spec1 0)
/-- The biases the call reads. -/
def inBias : Vec Ideal S1x128 .f32 := V c (Pipeline.arrRef spec1 1)

variable (L : Fin 2048 → Fin 8 → ℝ)
  (hL : ∀ n e, inLogits V c (ix2 n (lane e)) + inBias V c (ix2 0 (lane e)) = ((L n e : ℝ) : EReal))

/-- The router's probabilities from its logits. -/
def prob (L : Fin 2048 → Fin 8 → ℝ) (n : Fin 2048) (e : Fin 8) : ℝ := sm (L n) e
/-- A probability is positive. -/
theorem prob_pos (L : Fin 2048 → Fin 8 → ℝ) (n : Fin 2048) (e : Fin 8) : 0 < prob L n e := sm_pos _ _

include hL in
/-- The probabilities of block `b`: softmax in the first eight lanes and zero in the others. -/
theorem blk_pay5 (b : ℕ) (h : b < cfg1.N) (hb : b < 8) (r : Fin 256) (l : Fin 128) :
    k1_pay5 (iblk V c 0 ⟨b, h⟩) (iblk V c 1 ⟨b, h⟩) (ix2 r l) = pad8 (fun e => ((prob L (tok b hb r) e : ℝ) : EReal)) l := by
  refine pay5_eq _ _ r (L (tok b hb r)) (fun e => ?_) l
  rw [iblk_0, iblk_1]
  exact hL (tok b hb r) e

include hL in
/-- The carried rows before block `n`. -/
theorem car_eq : ∀ (n : ℕ) (h : n ≤ cfg1.N), (∀ l, (car V c n h).1 (ix2 0 l) = (((cntL (prob L) (n * 256) l : ℕ) : ℝ) : EReal))
    ∧ (∀ l, (car V c n h).2 (ix2 0 l) = psumL (prob L) (n * 256) l)
  | 0, h => by
    rw [car_zero]
    refine ⟨fun l => ?_, fun l => ?_⟩
    · pointwise [k1_pay3]
      unfold cntL pad8
      split <;> simp [cnt_zero]
    · pointwise [k1_pay4]
      unfold psumL
      simp
  | n + 1, h => by
    obtain ⟨i1, i2⟩ := car_eq n (Nat.le_of_succ_le h)
    have hb : n < 8 := by have := hN; omega
    rw [car_succ]
    exact ⟨bCarry_eq _ _ _ (prob L) (prob_pos L) n hb (blk_pay5 V c L hL n h hb) i1,
      bPsum_eq _ _ (prob L) n hb (blk_pay5 V c L hL n h hb) _ i2⟩

/-- A token is a row of its block. -/
theorem tok_split (n : Fin 2048) (h : n.val / 256 < 8) : tok (n.val / 256) h ⟨n.val % 256, Nat.mod_lt _ (by norm_num)⟩ = n :=
  Fin.ext (show n.val / 256 * 256 + n.val % 256 = n.val by omega)

include hL in
/-- The call's first result: the probabilities. -/
theorem arrOf2_eq (n : Fin 2048) (e : Fin 8) : arrOf2 V c (ix2 n (lane e)) = ((prob L n e : ℝ) : EReal) := by
  have h8 : n.val / 256 < 8 := by omega
  rw [arrOf2_at V c (ix2 n (lane e)) (blkPt (n.val / 256) h8) (ix2 ⟨n.val % 256, Nat.mod_lt _ (by norm_num)⟩ (lane e)) rfl rfl rfl]
  rw [(outsAt_eq V c _ _).1]
  refine (blk_pay5 V c L hL (n.val / 256) (blkPt _ h8).isLt h8 _ _).trans ?_
  rw [pad8_lane, tok_split]

include hL in
/-- The call's second result: the dispatch mask. -/
theorem arrOf3_eq (n : Fin 2048) (e : Fin 8) (q : Fin 768) : arrOf3 V c (ix4 0 n e q) = if taken (prob L) n e q.val then (1 : EReal) else 0 := by
  have h8 : n.val / 256 < 8 := by omega
  rw [arrOf3_at V c (ix4 0 n e q) (blkPt (n.val / 256) h8) (ix4 0 ⟨n.val % 256, Nat.mod_lt _ (by norm_num)⟩ e q) rfl rfl rfl rfl rfl]
  rw [(outsAt_eq V c _ _).2.1]
  refine (bDisp_eq _ _ _ (prob L) (prob_pos L) (n.val / 256) h8 (blk_pay5 V c L hL _ (blkPt _ h8).isLt h8) (car_eq V c L hL _ _).1 _ _ _).trans ?_
  rw [tok_split]

include hL in
/-- The call's third result: the combine weights. -/
theorem arrOf4_eq (n : Fin 2048) (e : Fin 8) (q : Fin 768) :
    arrOf4 V c (ix4 0 n e q) = if taken (prob L) n e q.val then wgt (prob L) n e else 0 := by
  have h8 : n.val / 256 < 8 := by omega
  rw [arrOf4_at V c (ix4 0 n e q) (blkPt (n.val / 256) h8) (ix4 0 ⟨n.val % 256, Nat.mod_lt _ (by norm_num)⟩ e q) rfl rfl rfl rfl rfl]
  rw [(outsAt_eq V c _ _).2.2.1]
  refine (bComb_eq _ _ _ (prob L) (prob_pos L) (n.val / 256) h8 (blk_pay5 V c L hL _ (blkPt _ h8).isLt h8) (car_eq V c L hL _ _).1 _ _ _).trans ?_
  rw [tok_split]

include hL in
/-- The call's fourth result: the balance loss. -/
theorem arrOf5_eq : arrOf5 V c (ix2 0 0) = auxv (prob L) := by
  unfold arrOf5
  rw [(outsAt_eq V c (blkPt 7 (by decide)).val _).2.2.2.2 rfl]
  exact pay2_eq (prob L) _ _ (car_eq V c L hL 8 _).1 (car_eq V c L hL 8 _).2

end Cert.KernelIdeal.Route
-- ==== Proof.KHost.lean ====
/-
The host operations round the two calls: what the calls are entered with, from the arguments.
-/
module

public import proofs.«01_k».proof.Proof.Run
public import proofs.«01_k».proof.Proof.KLogits
public import proofs.«01_k».proof.Proof.KRoute
public import Idealize.ShloMosaic.Lib.StableHlo.ReadAt

@[expose] public section

set_option maxRecDepth 16384

noncomputable section

namespace Cert.KernelIdeal.Run

open Cert.KernelIdeal Cert.KernelIdeal.Gen Cert.Router
open Idealize.ShloMosaic Idealize.ShloMosaic.TcCoe

variable (m : (ℓ : Loc nD τ sig) → Buf (Elt Ideal) ℓ) (c : Dev nD)

/-- The five arguments' entries. -/
def ax (n : Fin 2048) (k : Fin 4096) : EReal := (m ((c : Thread nD τ).loc main_arg0) : Vec Ideal S1x2048x4096 .f32) (ix3 0 n k)
/-- The first layer's weights. -/
def aw1 (k h : Fin 4096) : EReal := (m ((c : Thread nD τ).loc main_arg1) : Vec Ideal S4096x4096 .f32) (ix2 k h)
/-- The first layer's biases. -/
def ab1 (h : Fin 4096) : EReal := (m ((c : Thread nD τ).loc main_arg2) : Vec Ideal S4096 .f32) (ix1 h)
/-- The second layer's weights. -/
def aw2 (h : Fin 4096) (e : Fin 8) : EReal := (m ((c : Thread nD τ).loc main_arg3) : Vec Ideal S4096x8 .f32) (ix2 h e)
/-- The second layer's biases. -/
def ab2 (e : Fin 8) : EReal := (m ((c : Thread nD τ).loc main_arg4) : Vec Ideal S8 .f32) (ix1 e)

/-- The hidden states as the first call takes them: the argument without its batch axis. -/
theorem v0_at (n : Fin 2048) (k : Fin 4096) : (V5 m c (Proc.devRef .tc main_v0) : Vec Ideal S2048x4096 .f32) (ix2 n k) = ax m c n k := by
  unfold ax
  after_reads_at

/-- The first biases as the first call takes them: one row. -/
theorem v4_at (h : Fin 4096) : (V5 m c (Proc.devRef .tc main_v4) : Vec Ideal S1x4096 .f32) (ix2 0 h) = ab1 m c h := by
  unfold ab1
  after_reads_at

/-- The second weights as the first call takes them: padded to 128 lanes, the argument in the first eight. -/
theorem v1_at (h : Fin 4096) (e : Fin 8) : (V5 m c (Proc.devRef .tc main_v1) : Vec Ideal S4096x128 .f32) (ix2 h (lane e)) = aw2 m c h e := by
  unfold aw2
  after_reads_at
  rw [dif_pos (show (lane e).val < 8 from e.isLt)]
  rfl

/-- The second biases as the second call takes them: one row padded to 128 lanes. -/
theorem v3_at (e : Fin 8) : (V5 m c (Proc.devRef .tc main_v3) : Vec Ideal S1x128 .f32) (ix2 0 (lane e)) = ab2 m c e := by
  unfold ab2
  after_reads_at
  rw [dif_pos (show (lane e).val < 8 from e.isLt)]
  rfl

/-- What the first call is entered with. -/
theorem entry : Mm.Entry (X0 m) c (ax m c) (aw1 m c) (ab1 m c) (aw2 m c) where
  x n k := v0_at m c n k
  w1 k h := congrFun ((V5_of m c main_arg1 (by decide)).trans <| (V4_of m c main_arg1 (by decide)).trans <|
    (V3_of m c main_arg1 (by decide)).trans <| (V2_of m c main_arg1 (by decide)).trans <| (V1_of m c main_arg1 (by decide)).trans rfl) (ix2 k h)
  b1 h := v4_at m c h
  w2 h e := v1_at m c h e

/-- The logits the second call works with, bias added. -/
theorem logits_at (n : Fin 2048) (e : Fin 8) : Route.inLogits (X1 m) c (ix2 n (lane e)) + Route.inBias (X1 m) c (ix2 0 (lane e))
    = lg (ax m c) (aw1 m c) (ab1 m c) (aw2 m c) (ab2 m c) n e := by
  have e0 : Route.inLogits (X1 m) c = Mm.arrOf (X0 m) c := (W6_at m c).trans (Mm.arr4 (X0 m) c)
  have e1 : Route.inBias (X1 m) c = V5 m c (Proc.devRef .tc main_v3) := W6_of m c main_v3 (by decide)
  rw [e0, e1]
  exact congrArg₂ (· + ·) (Mm.arrOf_eq (X0 m) c _ _ _ _ (entry m c) n e) (v3_at m c e)

/-! ## The four results -/

variable (L : Fin 2048 → Fin 8 → ℝ) (hL : ∀ n e, lg (ax m c) (aw1 m c) (ab1 m c) (aw2 m c) (ab2 m c) n e = ((L n e : ℝ) : EReal))

include hL in
/-- The second call's two operands add up to the logits `L`. -/
theorem hL1 (n : Fin 2048) (e : Fin 8) : Route.inLogits (X1 m) c (ix2 n (lane e)) + Route.inBias (X1 m) c (ix2 0 (lane e)) = ((L n e : ℝ) : EReal) :=
  (logits_at m c n e).trans (hL n e)

include hL in
/-- The dispatch mask. -/
theorem disp_at (n : Fin 2048) (e : Fin 8) (q : Fin 768) : (W8 m c (Proc.devRef .tc main_v6_1) : Vec Ideal S1x2048x8x768 .f32) (ix4 0 n e q)
    = if Route.taken (Route.prob L) n e q.val then (1 : EReal) else 0 := by
  have e0 : W8 m c (Proc.devRef .tc main_v6_1) = Route.arrOf3 (X1 m) c :=
    (W8_of m c main_v6_1 (by decide)).trans ((W7_at_1 m c).trans (Route.arr3 (X1 m) c))
  rw [e0]
  exact Route.arrOf3_eq (X1 m) c L (hL1 m c L hL) n e q

include hL in
/-- The combine weights. -/
theorem comb_at (n : Fin 2048) (e : Fin 8) (q : Fin 768) : (W8 m c (Proc.devRef .tc main_v6_2) : Vec Ideal S1x2048x8x768 .f32) (ix4 0 n e q)
    = if Route.taken (Route.prob L) n e q.val then Route.wgt (Route.prob L) n e else 0 := by
  have e0 : W8 m c (Proc.devRef .tc main_v6_2) = Route.arrOf4 (X1 m) c :=
    (W8_of m c main_v6_2 (by decide)).trans ((W7_at_2 m c).trans (Route.arr4 (X1 m) c))
  rw [e0]
  exact Route.arrOf4_eq (X1 m) c L (hL1 m c L hL) n e q

include hL in
/-- The router's probabilities. -/
theorem probs_at (n : Fin 2048) (e : Fin 8) : (W8 m c (Proc.devRef .tc main_v8) : Vec Ideal S1x2048x8 .f32) (ix3 0 n e)
    = ((Route.prob L n e : ℝ) : EReal) := by
  have e0 : W7 m c (Proc.devRef .tc main_v6_0) = Route.arrOf2 (X1 m) c := (W7_at_0 m c).trans (Route.arr2 (X1 m) c)
  rw [← Route.arrOf2_eq (X1 m) c L (hL1 m c L hL) n e, ← e0]
  show (StableHlo.after hostOps2 (W7 m c) (Proc.devRef .tc main_v8) : Vec Ideal S1x2048x8 .f32) (ix3 0 n e) = _
  generalize W7 m c = W
  after_reads_at
  rfl

include hL in
/-- The balance loss. -/
theorem aux_at : (W8 m c (Proc.devRef .tc main_v9) : Vec Ideal S_ .f32) ix0 = Route.auxv (Route.prob L) := by
  have e0 : W7 m c (Proc.devRef .tc main_v6_3) = Route.arrOf5 (X1 m) c := (W7_at_3 m c).trans (Route.arr5 (X1 m) c)
  rw [← Route.arrOf5_eq (X1 m) c L (hL1 m c L hL), ← e0]
  show (StableHlo.after hostOps2 (W7 m c) (Proc.devRef .tc main_v9) : Vec Ideal S_ .f32) ix0 = _
  generalize W7 m c = W
  after_reads_at

end Cert.KernelIdeal.Run
-- ==== Proof.RefLogits.lean ====
/-
The reference's probabilities and choices, from the arguments.
-/
module

public import proofs.«01_k».proof.Proof.Gen.ReferenceIdeal.Run
public import proofs.«01_k».proof.Proof.Logits
public import proofs.«01_k».proof.Proof.Words

@[expose] public section

set_option maxRecDepth 16384

noncomputable section

namespace Cert.ReferenceIdeal.Value

open Cert.ReferenceIdeal Cert.Router
open Idealize.ShloMosaic Idealize.ShloMosaic.TcCoe

variable (V0 : Valuation τ sig (Elt Ideal))

/-- The five arguments' entries. -/
def rx (n : Fin 2048) (k : Fin 4096) : EReal := (V0 (Proc.devRef .tc main_arg0) : Vec Ideal S1x2048x4096 .f32) (ix3 0 n k)
/-- The first layer's weights. -/
def rw1 (k h : Fin 4096) : EReal := (V0 (Proc.devRef .tc main_arg1) : Vec Ideal S4096x4096 .f32) (ix2 k h)
/-- The first layer's biases. -/
def rb1 (h : Fin 4096) : EReal := (V0 (Proc.devRef .tc main_arg2) : Vec Ideal S4096 .f32) (ix1 h)
/-- The second layer's weights. -/
def rw2 (h : Fin 4096) (e : Fin 8) : EReal := (V0 (Proc.devRef .tc main_arg3) : Vec Ideal S4096x8 .f32) (ix2 h e)
/-- The second layer's biases. -/
def rb2 (e : Fin 8) : EReal := (V0 (Proc.devRef .tc main_arg4) : Vec Ideal S8 .f32) (ix1 e)

/-- The reference's logits. -/
theorem v9_at (n : Fin 2048) (e : Fin 8) : (res_main_v9 V0 : Vec Ideal S1x2048x8 .f32) (ix3 0 n e)
    = lg (rx V0) (rw1 V0) (rb1 V0) (rw2 V0) (rb2 V0) n e := by
  unfold lg hid rx rw1 rb1 rw2 rb2
  unfold res_main_v9
  pointwise

variable (L : Fin 2048 → Fin 8 → ℝ) (hL : ∀ n e, (res_main_v9 V0 : Vec Ideal S1x2048x8 .f32) (ix3 0 n e) = ((L n e : ℝ) : EReal))

/-- The softmax of real logits, as the reference composes it from an array of them. -/
theorem softmax_at (x : Vec Ideal S1x2048x8 .f32) (L : Fin 2048 → Fin 8 → ℝ) (hx : ∀ n e, x (ix3 0 n e) = ((L n e : ℝ) : EReal)) (M : Vec Ideal S1x2048 .f32)
    (hM : ∀ n, ∃ r : ℝ, M (ix2 0 n) = r) (n : Fin 2048) (e : Fin 8) :
    (Host.divf (F := Ideal) (φ := .f32) (Host.exp (F := Ideal) (φ := .f32) (subf (F := Ideal) (φ := .f32) x (broadcastInDim S1x2048x8 ![0, 1, 2] Gen.bcast_S1x2048x1_S1x2048x8_0_1_2 (broadcastInDim S1x2048x1 ![0, 1] Gen.bcast_S1x2048_S1x2048x1_0_1 M))))
      (broadcastInDim S1x2048x8 ![0, 1, 2] Gen.bcast_S1x2048x1_S1x2048x8_0_1_2 (broadcastInDim S1x2048x1 ![0, 1] Gen.bcast_S1x2048_S1x2048x1_0_1
        (Host.reduceAdd (F := Ideal) (Host.exp (F := Ideal) (φ := .f32) (subf (F := Ideal) (φ := .f32) x (broadcastInDim S1x2048x8 ![0, 1, 2] Gen.bcast_S1x2048x1_S1x2048x8_0_1_2 (broadcastInDim S1x2048x1 ![0, 1] Gen.bcast_S1x2048_S1x2048x1_0_1 M))))
          (constant S_ .f32 0x00000000#32) Gen.reducesTo_S1x2048x8_S1x2048_d2 Gen.h_S_)))) (ix3 0 n e) = ((sm (L n) e : ℝ) : EReal) := by
  obtain ⟨r, hr⟩ := hM n
  pointwise
  simp only [hx, hr]
  exact sm_ideal (L n) r e

/-- The maximum along a row of real logits is real. -/
theorem rowmax_real (x : Vec Ideal S1x2048x8 .f32) (L : Fin 2048 → Fin 8 → ℝ) (hx : ∀ n e, x (ix3 0 n e) = ((L n e : ℝ) : EReal)) (n : Fin 2048) :
    ∃ r : ℝ, maximumf (broadcastInDim S1x2048 ![] Gen.bcast_S_S1x2048 (constant (F := Ideal) S_ .f32 0xFF800000#32))
      (Host.reduce FloatOps.maximumf x (constant S_ .f32 0xFF800000#32) Gen.reducesTo_S1x2048x8_S1x2048_d2 Gen.h_S_) (ix2 0 n) = (r : EReal) := by
  pointwise
  have eb : Ideal.ofBits FTy.f32 4286578688#32 = ⊥ := neg_inf
  rw [eb]
  obtain ⟨r, hr⟩ := foldMax_real (fun e : Fin 8 => x (ix3 0 n e)) _ (hx n)
  exact ⟨r, (max_eq_right bot_le).trans hr⟩

include hL in
/-- The reference's probabilities are the softmax of its logits. -/
theorem v20_at (n : Fin 2048) (e : Fin 8) : (res_main_v20 V0 : Vec Ideal S1x2048x8 .f32) (ix3 0 n e) = ((sm (L n) e : ℝ) : EReal) :=
  softmax_at (res_main_v9 V0) L hL _ (rowmax_real (res_main_v9 V0) L hL) n e

/-! ## The two choices of each token -/

/-- The comparison of the sort, on real probabilities. -/
theorem gt_real (a b : ℝ) : (FloatOps.cmpfTotal (F := Ideal) (φ := .f32) .gt ((a : ℝ) : EReal) ((b : ℝ) : EReal) == 1#1) = true ↔ b < a := by
  show (BitVec.ofBool (decide ((b : EReal) < (a : EReal))) == 1#1) = true ↔ b < a
  by_cases h : b < a
  · simp [h]
  · simp [h]

/-- The token's two experts, by slot. -/
def pick (v : Fin 8 → ℝ) (k : Fin 2) : Fin 8 := if k.val = 0 then best v else next v

/-- The sort's first two places are the two choices. -/
theorem sorted_pick (v : Fin 8 → ℝ) (before : Fin 8 → Fin 8 → Bool) (hb : ∀ k k', before k k' = true ↔ v k' < v k) (k : Fin 2) :
    sortedFrom before ⟨k.val, by omega⟩ = pick v k := by
  obtain ⟨h0, h1⟩ := (top2_sorted v before hb).unique (best_next v)
  unfold pick
  match k with
  | ⟨0, _⟩ => exact h0
  | ⟨1, _⟩ => exact h1

/-- The sort of each token's probabilities, read at one of its first two places. -/
theorem sort_at (x : Vec Ideal S1x2048x8 .f32) (P : Fin 2048 → Fin 8 → ℝ) (hx : ∀ n e, x (ix3 0 n e) = ((P n e : ℝ) : EReal)) (idx : IVec S1x2048x8 32)
    (hi : ∀ n e, idx (ix3 0 n e) = BitVec.ofNat 32 e.val) (n : Fin 2048) (k : Fin 2) (j : S1x2048x8.Idx) (h1 : (j 1).val = n.val) (h2 : (j 2).val = k.val) :
    (Host.sort2 S1x2048x8 2 (fun l r => FloatOps.cmpfTotal (F := Ideal) (φ := .f32) .gt l.1 r.1) x idx).1 j = ((P n (pick (P n) k) : ℝ) : EReal)
    ∧ (Host.sort2 S1x2048x8 2 (fun l r => FloatOps.cmpfTotal (F := Ideal) (φ := .f32) .gt l.1 r.1) x idx).2 j = BitVec.ofNat 32 (pick (P n) k).val := by
  have ea : ∀ q : Fin 8, Shape.Idx.along j (2 : Fin 3) q = ix3 0 n q := fun q => funext fun a => by
    match a with
    | (0 : Fin 3) => exact Fin.ext (by have h : (j 0).val < 1 := (j 0).isLt; show (j 0).val = 0; omega)
    | (1 : Fin 3) => exact Fin.ext h1
    | (2 : Fin 3) => rfl
  have hs : sortedFrom (fun a b : Fin 8 => FloatOps.cmpfTotal (F := Ideal) (φ := .f32) .gt (x (Shape.Idx.along j (2 : Fin 3) a)) (x (Shape.Idx.along j (2 : Fin 3) b)) == 1#1)
      (j 2) = pick (P n) k := by
    rw [← sorted_pick (P n) _ (fun a b => ?_) k]
    · exact congrArg _ (Fin.ext h2)
    · rw [ea, ea, hx, hx]
      exact gt_real _ _
  unfold Host.sort2
  rw [dif_pos (show 2 < S1x2048x8.rank by decide)]
  dsimp only
  constructor
  · refine Eq.trans (congrArg (fun q => x (Shape.Idx.along j (2 : Fin 3) q)) hs) ?_
    rw [ea, hx]
  · refine Eq.trans (congrArg (fun q => idx (Shape.Idx.along j (2 : Fin 3) q)) hs) ?_
    rw [ea, hi]

variable (P : Fin 2048 → Fin 8 → ℝ) (hP : ∀ n e, (res_main_v20 V0 : Vec Ideal S1x2048x8 .f32) (ix3 0 n e) = ((P n e : ℝ) : EReal))

/-- The place of token `n`'s slot `k` in the sorted array. -/
def slot (n : Fin 2048) (k : Fin 2) : S1x2048x8.Idx := fun a =>
  ⟨0 + ((ix3 0 n k : S1x2048x2.Idx) (a.cast (rfl : (3 : ℕ) = 3))).val, Nat.lt_of_lt_of_le (Nat.add_lt_add_left (Fin.isLt _) _) (Gen.sliceFits_S1x2048x8_S1x2048x2.2 a)⟩

include hP in
/-- The chosen probabilities. -/
theorem values_at (n : Fin 2048) (k : Fin 2) : (res_main_values V0 : Vec Ideal S1x2048x2 .f32) (ix3 0 n k) = ((P n (pick (P n) k) : ℝ) : EReal) :=
  (sort_at (res_main_v20 V0) P hP (fun i => if hd : 2 < S1x2048x8.rank then iotaInDim S1x2048x8 32 ⟨2, hd⟩ i else 0#32) (fun n e => rfl) n k (slot n k)
    (Nat.zero_add _) (Nat.zero_add _)).1

include hP in
/-- The chosen experts. -/
theorem indices_at (n : Fin 2048) (k : Fin 2) : (res_main_indices V0 : IVec S1x2048x2 32) (ix3 0 n k) = BitVec.ofNat 32 (pick (P n) k).val :=
  (sort_at (res_main_v20 V0) P hP (fun i => if hd : 2 < S1x2048x8.rank then iotaInDim S1x2048x8 32 ⟨2, hd⟩ i else 0#32) (fun n e => rfl) n k (slot n k)
    (Nat.zero_add _) (Nat.zero_add _)).2

end Cert.ReferenceIdeal.Value
-- ==== Proof.RefSlots.lean ====
/-
The reference's flat list of choices: for each of the 4096 (token, slot) pairs its expert, its queue position and its
indices in the two scattered results.
-/
module

public import proofs.«01_k».proof.Proof.RefLogits
public import Idealize.ShloMosaic.Lib.Routing.OpsOne
public import Idealize.ShloMosaic.Lib.Pointwise.IndexBridge

@[expose] public section

set_option maxRecDepth 16384

noncomputable section

namespace Cert.ReferenceIdeal.Value

open Cert.ReferenceIdeal Cert.Router
open Idealize.ShloMosaic Idealize.ShloMosaic.TcCoe

/-- The token and the slot of entry `j` of the list. -/
def tk (j : Fin 4096) : Fin 2048 := ⟨j.val / 2, by omega⟩
/-- The slot of entry `j`. -/
def sl (j : Fin 4096) : Fin 2 := ⟨j.val % 2, by omega⟩

variable (V0 : Valuation τ sig (Elt Ideal))
variable (P : Fin 2048 → Fin 8 → ℝ) (hP : ∀ n e, (res_main_v20 V0 : Vec Ideal S1x2048x8 .f32) (ix3 0 n e) = ((P n e : ℝ) : EReal))

/-- The expert of entry `j`. -/
def ch (P : Fin 2048 → Fin 8 → ℝ) (j : Fin 4096) : Fin 8 := pick (P (tk j)) (sl j)

/-- The flat list at `j` is the array at `j`'s token and slot. -/
theorem flat_at {α : Type} (x : S1x2048x2.Idx → α) (j : Fin 4096) : shapeCast S4096 x Gen.shapeCasts_S1x2048x2_S4096 (ix1 j) = x (ix3 0 (tk j) (sl j)) := by
  pointwise
  rfl

include hP in
/-- Entry `j`'s expert as a word. -/
theorem v27_at (j : Fin 4096) : (res_main_v27 V0 : IVec S4096 32) (ix1 j) = BitVec.ofNat 32 (ch P j).val :=
  (flat_at (res_main_indices V0 : IVec S1x2048x2 32) j).trans (indices_at V0 P hP (tk j) (sl j))

/-- The one-hot matrix of a list of words. -/
theorem onehot_at (x : IVec S4096 32) (j : Fin 4096) (e : Fin 8) :
    (extui 32 (cmpi .eq (broadcastInDim S4096x8 ![0, 1] Gen.bcast_S4096x1_S4096x8_0_1 (broadcastInDim S4096x1 ![0] Gen.bcast_S4096_S4096x1_0 x)) (broadcastInDim S4096x8 ![0, 1] Gen.bcast_S1x8_S4096x8_0_1 (iotaInDim S1x8 32 1))) Gen.natLt_1_32 : IVec S4096x8 32) (ix2 j e)
    = BitVec.setWidth 32 (IntOp.cmpi .eq (x (ix1 j)) (BitVec.ofNat 32 e.val)) := by
  pointwise

/-- jnp's floor division of two words, as it prints. -/
def fdiv (x k : BitVec 32) : BitVec 32 :=
  Scalar.select
    (IntOp.andi (IntOp.cmpi .ne (if x = 0 then (0 : BitVec 32) else if x.msb = true then (-1 : BitVec 32) else (1 : BitVec 32))
        (if k = 0 then (0 : BitVec 32) else if k.msb = true then (-1 : BitVec 32) else (1 : BitVec 32)))
      (IntOp.cmpi .ne (IntOp.remsi .host x k) 0#32))
    (IntOp.subi (IntOp.divsi .host x k) 1#32) (IntOp.divsi .host x k)

/-- jnp's remainder of two words, as it prints. -/
def fmod (x k : BitVec 32) : BitVec 32 :=
  Scalar.select
    (IntOp.andi (IntOp.cmpi .ne (IntOp.cmpi .slt (IntOp.remsi .host x k) 0#32) (IntOp.cmpi .slt k 0#32))
      (IntOp.cmpi .ne (IntOp.remsi .host x k) 0#32))
    (IntOp.addi (IntOp.remsi .host x k) k) (IntOp.remsi .host x k)

/-- Floor division by 2 of the numbers below 4096. -/
theorem fdiv_two : ∀ a b : Fin 64, fdiv (BitVec.ofNat 32 (64 * a.val + b.val)) 2#32 = BitVec.ofNat 32 ((64 * a.val + b.val) / 2) := by decide +kernel

/-- Floor division by 2048 of the numbers below 2048 gives zero. -/
theorem fdiv_2048 : ∀ a : Fin 32, ∀ b : Fin 64, fdiv (BitVec.ofNat 32 (64 * a.val + b.val)) 2048#32 = 0#32 := by decide +kernel

/-- The remainder by 2048 of a number below 2048 is the number. -/
theorem fmod_2048 : ∀ a : Fin 32, ∀ b : Fin 64,
    fmod (BitVec.ofNat 32 (64 * a.val + b.val)) (Scalar.select (IntOp.cmpi .eq 2048#32 0#32) 1#32 2048#32) = BitVec.ofNat 32 (64 * a.val + b.val) := by decide +kernel

/-- A number by its quotient and remainder by 64. -/
theorem split64 (n : ℕ) : 64 * (n / 64) + n % 64 = n := by omega

/-- Entry `j`'s token as the reference computes it. -/
theorem v39_at (j : Fin 4096) : (res_main_v39 V0 : IVec S4096 32) (ix1 j) = BitVec.ofNat 32 (tk j).val := by
  have h := fdiv_two ⟨j.val / 64, by omega⟩ ⟨j.val % 64, by omega⟩
  simp only [split64] at h
  refine Eq.trans ?_ h
  pointwise [res_main_v39, res_main_call3_v2, res_main_v38, res_main_call3_v0]
  rfl

/-- Floor division of a list by a scalar, at an entry. -/
theorem fdiv_at (x : IVec S4096 32) (k : IVec S_ 32) (j : Fin 4096) :
    (select (andi (cmpi .ne (signi x) (broadcastInDim S4096 ![] Gen.bcast_S_S4096 (signi k))) (cmpi .ne (Host.remsi x (broadcastInDim S4096 ![] Gen.bcast_S_S4096 k)) (broadcastInDim S4096 ![] Gen.bcast_S_S4096 (constantI S_ 32 0#32)))) (subi (Host.divsi x (broadcastInDim S4096 ![] Gen.bcast_S_S4096 k)) (broadcastInDim S4096 ![] Gen.bcast_S_S4096 (constantI S_ 32 1#32))) (Host.divsi x (broadcastInDim S4096 ![] Gen.bcast_S_S4096 k)) : IVec S4096 32) (ix1 j)
    = fdiv (x (ix1 j)) (k ix0) := by
  pointwise
  rfl

/-- Remainder of a list by a scalar, at an entry. -/
theorem fmod_at (x : IVec S4096 32) (k : IVec S_ 32) (j : Fin 4096) :
    (select (andi (cmpi .ne (cmpi .slt (Host.remsi x (broadcastInDim S4096 ![] Gen.bcast_S_S4096 k)) (broadcastInDim S4096 ![] Gen.bcast_S_S4096 (constantI S_ 32 0#32))) (broadcastInDim S4096 ![] Gen.bcast_S_S4096 (cmpi .slt k (constantI S_ 32 0#32)))) (cmpi .ne (Host.remsi x (broadcastInDim S4096 ![] Gen.bcast_S_S4096 k)) (broadcastInDim S4096 ![] Gen.bcast_S_S4096 (constantI S_ 32 0#32)))) (addi (Host.remsi x (broadcastInDim S4096 ![] Gen.bcast_S_S4096 k)) (broadcastInDim S4096 ![] Gen.bcast_S_S4096 k)) (Host.remsi x (broadcastInDim S4096 ![] Gen.bcast_S_S4096 k)) : IVec S4096 32) (ix1 j)
    = fmod (x (ix1 j)) (k ix0) := by
  pointwise
  rfl

/-- Entry `j`'s batch as the reference computes it: the one batch. -/
theorem v40_at (j : Fin 4096) : (res_main_v40 V0 : IVec S4096 32) (ix1 j) = 0#32 := by
  have h := fdiv_2048 ⟨(tk j).val / 64, by omega⟩ ⟨(tk j).val % 64, by omega⟩
  simp only [split64] at h
  refine Eq.trans (fdiv_at (res_main_v39 V0 : IVec S4096 32) (res_main_call4_v0 V0 : IVec S_ 32) j) (Eq.trans ?_ h)
  rw [v39_at]
  rfl

/-- Entry `j`'s token within its batch as the reference computes it. -/
theorem v41_at (j : Fin 4096) : (res_main_v41 V0 : IVec S4096 32) (ix1 j) = BitVec.ofNat 32 (tk j).val := by
  have h := fmod_2048 ⟨(tk j).val / 64, by omega⟩ ⟨(tk j).val % 64, by omega⟩
  simp only [split64] at h
  refine Eq.trans (fmod_at (res_main_v39 V0 : IVec S4096 32) (res_main_call5_v2 V0 : IVec S_ 32) j) (Eq.trans ?_ h)
  rw [v39_at]
  rfl

/-- Comparing two experts' words, widened. -/
theorem word_onehot : ∀ a b : Fin 8, BitVec.setWidth 32 (IntOp.cmpi .eq (BitVec.ofNat 32 a.val) (BitVec.ofNat 32 b.val)) = BitVec.ofNat 32 (if a = b then 1 else 0) := by
  decide +kernel

include hP in
/-- Entry `j`'s row of the one-hot matrix. -/
theorem v29_at (j : Fin 4096) (e : Fin 8) : (res_main_v29 V0 : IVec S4096x8 32) (ix2 j e) = BitVec.ofNat 32 (if ch P j = e then 1 else 0) := by
  refine (onehot_at (res_main_v27 V0 : IVec S4096 32) j e).trans ?_
  rw [v27_at V0 P hP j]
  exact word_onehot _ _

/-- The row sums of a product of two matrices of words, less one. -/
theorem rowsum_at (x y : IVec S4096x8 32) (j : Fin 4096) :
    (subi (Host.reduce IntOp.addi (muli x y) (constantI S_ 32 0#32) Gen.reducesTo_S4096x8_S4096_d1 Gen.h_S_) (broadcastInDim S4096 ![] Gen.bcast_S_S4096 (constantI S_ 32 1#32)) : IVec S4096 32) (ix1 j)
    = (∑ e : Fin 8, x (ix2 j e) * y (ix2 j e)) - 1#32 := by
  pointwise
  rfl

/-- One where entry `i` of the list chose expert `c`. -/
def hit (P : Fin 2048 → Fin 8 → ℝ) (i c : ℕ) : ℕ := if h : i < 4096 then (if (ch P ⟨i, h⟩).val = c then 1 else 0) else 0

/-- The first slot of token `n` chose `e` when `e` is its best expert. -/
theorem hit_even (n : ℕ) (hn : n < 2048) (e : Fin 8) : hit P (2 * n) e.val = if best (P ⟨n, hn⟩) = e then 1 else 0 := by
  have h1 : tk ⟨2 * n, by omega⟩ = ⟨n, hn⟩ := Fin.ext (show 2 * n / 2 = n by omega)
  have h2 : (sl ⟨2 * n, by omega⟩).val = 0 := show 2 * n % 2 = 0 by omega
  unfold hit
  rw [dif_pos (show 2 * n < 4096 by omega)]
  unfold ch pick
  rw [h1, if_pos h2]
  simp only [Fin.ext_iff]

/-- The second slot of token `n` chose `e` when `e` is its second best expert. -/
theorem hit_odd (n : ℕ) (hn : n < 2048) (e : Fin 8) : hit P (2 * n + 1) e.val = if next (P ⟨n, hn⟩) = e then 1 else 0 := by
  have h1 : tk ⟨2 * n + 1, by omega⟩ = ⟨n, hn⟩ := Fin.ext (show (2 * n + 1) / 2 = n by omega)
  have h2 : ¬ (sl ⟨2 * n + 1, by omega⟩).val = 0 := show ¬ (2 * n + 1) % 2 = 0 by omega
  unfold hit
  rw [dif_pos (show 2 * n + 1 < 4096 by omega)]
  unfold ch pick
  rw [h1, if_neg h2]
  simp only [Fin.ext_iff]

/-- The entries of the tokens before `n` which chose `e`. -/
theorem hits_before (e : Fin 8) : ∀ n : ℕ, n ≤ 2048 → ∑ i ∈ Finset.range (2 * n), hit P i e.val = cnt P n e
  | 0, _ => rfl
  | n + 1, hn => by
    rw [show 2 * (n + 1) = 2 * n + 1 + 1 by omega, Finset.sum_range_succ, Finset.sum_range_succ, hits_before e n (by omega),
      hit_even P n (by omega), hit_odd P n (by omega), cnt_succ]
    unfold uses
    rw [dif_pos (show n < 2048 by omega), add_assoc]

/-- The entries up to and including `j` which chose `j`'s expert: one more than the queue position. -/
theorem hits_upto (j : Fin 4096) : ∑ i ∈ Finset.range (j.val + 1), hit P i (ch P j).val = cnt P (tk j).val (ch P j) + 1 := by
  have hself : hit P j.val (ch P j).val = 1 := by unfold hit; rw [dif_pos j.isLt, if_pos rfl]
  rw [Finset.sum_range_succ, hself]
  congr 1
  rcases Nat.mod_two_eq_zero_or_one j.val with h | h
  · rw [show j.val = 2 * (tk j).val from by show j.val = 2 * (j.val / 2); omega]
    exact hits_before P _ _ (tk j).isLt.le
  · rw [show j.val = 2 * (tk j).val + 1 from by show j.val = 2 * (j.val / 2) + 1; omega, Finset.sum_range_succ, hits_before P _ _ (tk j).isLt.le,
      hit_even P _ (tk j).isLt]
    have : ch P j = next (P (tk j)) := by unfold ch pick; exact if_neg (show ¬ j.val % 2 = 0 by omega)
    rw [this, if_neg (Ne.symm (best_next (P (tk j))).ne), add_zero]

/-- A sum over a list of numbers in order is the sum over the range. -/
theorem list_sum (f : ℕ → ℕ) : ∀ n : ℕ, ((List.range n).map f).sum = ∑ i ∈ Finset.range n, f i
  | 0 => rfl
  | n + 1 => by rw [List.range_succ, List.map_append, List.sum_append, list_sum f n, Finset.sum_range_succ]; simp

/-- The running counts. -/
theorem running_at (x : IVec S4096x8 32) (hx : ∀ j e, x (ix2 j e) = BitVec.ofNat 32 (if ch P j = e then 1 else 0)) (j : Fin 4096) (e : Fin 8) :
    (Host.reduceWindow IntOp.addi ![4096, 1] ![1, 1] ![4095, 0] ![0, 0] x (broadcastInDim S_ ![] Gen.bcast_S_S_ (constantI S_ 32 0#32))
      Gen.reduceWindows_S4096x8_S4096x8_w4096s1p4095_0_w1s1p0_0 Gen.h_S_ : IVec S4096x8 32) (ix2 j e)
    = BitVec.ofNat 32 (∑ i ∈ Finset.range (j.val + 1), hit P i e.val) := by
  rw [← list_sum, ix2_eq_valueIdx]
  refine Routing.cumsum_rows (R := 4096) (Rm1 := 4095) (C := 8) rfl x (hit P) (fun i c => ?_) _ rfl _ _ j e
  rw [← ix2_eq_valueIdx, hx]
  unfold hit
  rw [dif_pos i.isLt]
  simp only [Fin.ext_iff]

include hP in
/-- Entry `j`'s queue position before the capacity is applied. -/
theorem v34_at (j : Fin 4096) : (res_main_v34 V0 : IVec S4096 32) (ix1 j) = BitVec.ofNat 32 (cnt P (tk j).val (ch P j)) := by
  refine (rowsum_at _ (res_main_v29 V0 : IVec S4096x8 32) j).trans ?_
  have hx := v29_at V0 P hP
  rw [Finset.sum_eq_single (ch P j)]
  · rw [running_at P _ hx j (ch P j), hx, if_pos rfl, hits_upto, BitVec.ofNat_add]
    simp
  · intro e _ he
    rw [hx, if_neg he.symm]
    simp
  · intro h
    exact absurd (Finset.mem_univ _) h

/-- Replacing the entries not below 768 by 768, at an entry. -/
theorem clip_at (x : IVec S4096 32) (j : Fin 4096) :
    (select (cmpi .slt x (broadcastInDim S4096 ![] Gen.bcast_S_S4096 (constantI S_ 32 768#32))) x (broadcastInDim S4096 ![] Gen.bcast_S_S4096 (id (constantI S_ 32 768#32))) : IVec S4096 32) (ix1 j)
    = Scalar.select (IntOp.cmpi .slt (x (ix1 j)) 768#32) (x (ix1 j)) 768#32 := by
  pointwise
  rfl

include hP in
/-- Entry `j`'s queue position, past the end where the queue is full. -/
theorem v37_at (j : Fin 4096) : (res_main_v37 V0 : IVec S4096 32) (ix1 j) = BitVec.ofNat 32 (min (cnt P (tk j).val (ch P j)) 768) := by
  refine (clip_at (res_main_v34 V0 : IVec S4096 32) j).trans ?_
  rw [v34_at V0 P hP j]
  have hc := cnt_le P (tk j).val (ch P j)
  have ht := (tk j).isLt
  generalize cnt P (tk j).val (ch P j) = n at *
  rw [select_slt n 768 (by omega) (by norm_num)]
  by_cases h : n < 768
  · rw [if_pos h, min_eq_left h.le]
  · rw [if_neg h, min_eq_right (by omega)]

end Cert.ReferenceIdeal.Value
-- ==== Proof.RefScatter.lean ====
/-
The reference's two scatters: which entry of the list of choices writes an element of the results, and what the scattered
results hold.
-/
module

public import proofs.«01_k».proof.Proof.RefSlots
public import proofs.«01_k».proof.Proof.KRoute
public import Idealize.ShloMosaic.Lib.Routing.OpsSet
public import Idealize.ShloMosaic.Lib.Routing.OpsPair

@[expose] public section

set_option maxRecDepth 16384

noncomputable section

namespace Cert.ReferenceIdeal.Value

open Cert.ReferenceIdeal Cert.Router
open Idealize.ShloMosaic Idealize.ShloMosaic.TcCoe

/-- One column of the scatter's indices, as it prints: a word below zero counts from the end. -/
def wrapCol (x : IVec S4096 32) (N : BitVec 32) : IVec S4096x1 32 :=
  broadcastInDim S4096x1 ![0] Gen.bcast_S4096_S4096x1_0 (select (cmpi .slt x (broadcastInDim S4096 ![] Gen.bcast_S_S4096 (constantI S_ 32 0#32))) (addi x (broadcastInDim S4096 ![] Gen.bcast_S_S4096 (constantI S_ 32 N))) x)

/-- A column's entry that is not below zero is the word itself. -/
theorem wrapCol_at (x : IVec S4096 32) (N : BitVec 32) (j : Fin 4096) (n : ℕ) (hn : n < 2 ^ 31) (hx : x (ix1 j) = BitVec.ofNat 32 n) :
    wrapCol x N (ix2 j 0) = BitVec.ofNat 32 n := by
  have h : wrapCol x N (ix2 j 0) = Scalar.select (IntOp.cmpi .slt (x (ix1 j)) 0#32) (x (ix1 j) + N) (x (ix1 j)) := by
    unfold wrapCol
    pointwise
    rfl
  rw [h, hx]
  refine (select_slt n 0 hn (by norm_num) _ _).trans (if_neg (by omega))

/-- The scatter's indices: four columns. -/
def cols (b s e q : IVec S4096 32) : IVec S4096x4 32 :=
  concatenate S4096x4 1 [⟨S4096x1, wrapCol b 1#32⟩, ⟨S4096x1, wrapCol s 2048#32⟩, ⟨S4096x1, wrapCol e 8#32⟩, ⟨S4096x1, wrapCol q 768#32⟩]
    Gen.concatenates_S4096x1_S4096x1_S4096x1_S4096x1_S4096x4_d1

/-- The first column of the indices. -/
theorem cols_at0 (b s e q : IVec S4096 32) (j : Fin 4096) : cols b s e q (ix2 j 0) = wrapCol b 1#32 (ix2 j 0) := by
  unfold cols
  pointwise

/-- The second column. -/
theorem cols_at1 (b s e q : IVec S4096 32) (j : Fin 4096) : cols b s e q (ix2 j 1) = wrapCol s 2048#32 (ix2 j 0) := by
  unfold cols
  pointwise

/-- The third column. -/
theorem cols_at2 (b s e q : IVec S4096 32) (j : Fin 4096) : cols b s e q (ix2 j 2) = wrapCol e 8#32 (ix2 j 0) := by
  unfold cols
  pointwise

/-- The fourth column. -/
theorem cols_at3 (b s e q : IVec S4096 32) (j : Fin 4096) : cols b s e q (ix2 j 3) = wrapCol q 768#32 (ix2 j 0) := by
  unfold cols
  pointwise

/-- The dimension numbers of the two scatters: each entry of the list writes one element. -/
abbrev dn := scatter_S1x2048x8x768_S4096x4_S4096_n_0123_0123_1

/-- Entry `j` of the list writes at its four index words, read signed. -/
theorem start_at (idx : IVec S4096x4 32) (j : Fin 4096) (a : Fin 4) : dn.start (ix1 j) idx a = (idx (ix2 j a)).toInt := by
  have hm : a ∈ dn.scatterDimsToOperandDims := by revert a; decide
  unfold ScatterDims.start
  rw [dif_pos hm]
  congr 2
  funext b
  match a, b with
  | a, ⟨0, _⟩ =>
    rfl
  | a, ⟨1, _⟩ =>
    revert a; intro a hm
    match a with
    | 0 => rfl
    | 1 => rfl
    | 2 => rfl
    | 3 => rfl

/-- The scatter's windows are single elements. -/
theorem window_at (j : S4096.Idx) (a : Fin 4) : dn.window j a = 0 := by
  unfold ScatterDims.window
  rw [dif_neg (by revert a; decide)]

variable (P : Fin 2048 → Fin 8 → ℝ) (b s e' q' : IVec S4096 32)
variable (hb : ∀ j, b (ix1 j) = 0#32) (hs : ∀ j, s (ix1 j) = BitVec.ofNat 32 (tk j).val) (he : ∀ j, e' (ix1 j) = BitVec.ofNat 32 (ch P j).val)
variable (hq : ∀ j, q' (ix1 j) = BitVec.ofNat 32 (min (cnt P (tk j).val (ch P j)) 768))

include hb hs he hq in
/-- Entry `j` writes the element of its token, its expert and its queue position, and nothing where the queue is full. -/
theorem lands (j : Fin 4096) (n : Fin 2048) (e : Fin 8) (q : Fin 768) :
    dn.resultIdx? (ix1 j) (cols b s e' q') = some (ix4 0 n e q) ↔ tk j = n ∧ ch P j = e ∧ cnt P (tk j).val (ch P j) = q.val := by
  have ht := (tk j).isLt
  have hc := (ch P j).isLt
  have hq' := q.isLt
  have w0 : (cols b s e' q' (ix2 j 0)).toInt = 0 := by
    rw [cols_at0, wrapCol_at b _ j 0 (by norm_num) (hb j)]; rfl
  have w1 : (cols b s e' q' (ix2 j 1)).toInt = ((tk j).val : Int) := by
    rw [cols_at1, wrapCol_at s _ j _ (by omega) (hs j), toInt_ofNat (by omega)]
  have w2 : (cols b s e' q' (ix2 j 2)).toInt = ((ch P j).val : Int) := by
    rw [cols_at2, wrapCol_at e' _ j _ (by omega) (he j), toInt_ofNat (by omega)]
  have w3 : (cols b s e' q' (ix2 j 3)).toInt = ((min (cnt P (tk j).val (ch P j)) 768 : ℕ) : Int) := by
    rw [cols_at3, wrapCol_at q' _ j _ (by omega) (hq j), toInt_ofNat (by omega)]
  rw [Routing.resultIdx?_eq_some]
  have key : ∀ a : Fin 4, (dn.start (ix1 j) (cols b s e' q') a + (dn.window (ix1 j) a : Int) = (((ix4 (0 : Fin 1) n e q : S1x2048x8x768.Idx) a).val : Int))
      ↔ (cols b s e' q' (ix2 j a)).toInt = (((ix4 (0 : Fin 1) n e q : S1x2048x8x768.Idx) a).val : Int) := fun a => by
    rw [start_at, window_at]; simp
  constructor
  · intro h
    have h1 := (key 1).1 (h 1)
    have h2 := (key 2).1 (h 2)
    have h3 := (key 3).1 (h 3)
    rw [w1] at h1
    rw [w2] at h2
    rw [w3] at h3
    have h1' : ((tk j).val : Int) = n.val := h1
    have h2' : ((ch P j).val : Int) = e.val := h2
    have h3' : ((min (cnt P (tk j).val (ch P j)) 768 : ℕ) : Int) = q.val := h3
    refine ⟨Fin.ext (by omega), Fin.ext (by omega), by omega⟩
  · rintro ⟨h1, h2, h3⟩ a
    refine (key a).2 ?_
    match a with
    | (0 : Fin 4) => exact w0
    | (1 : Fin 4) => rw [w1, h1]; rfl
    | (2 : Fin 4) => rw [w2, h2]; rfl
    | (3 : Fin 4) =>
      rw [w3, h3, min_eq_left (by omega)]; rfl

open Cert.KernelIdeal.Route in
include hb hs he hq in
/-- A scattered result at an element: the update of the entry that takes the element's place in the queue, the operand's element where none does. -/
theorem scatter_at (x : Vec Ideal S1x2048x8x768 .f32) (upd : Vec Ideal S4096 .f32) (n : Fin 2048) (e : Fin 8) (q : Fin 768) (v z : EReal)
    (hv : ∀ j, tk j = n → ch P j = e → upd (ix1 j) = v) (hz : x (ix4 0 n e q) = z) :
    Host.scatter dn (fun _ b => b) x (cols b s e' q') upd (ix4 0 n e q) = if taken P n e q.val then v else z := by
  have hl := lands P b s e' q' hb hs he hq
  by_cases h : taken P n e q.val
  · rw [if_pos h]
    have hj : ∃ j, tk j = n ∧ ch P j = e := by
      rcases h.1 with h' | h'
      · refine ⟨⟨2 * n.val, by omega⟩, ?_⟩
        have h1 : tk ⟨2 * n.val, by omega⟩ = n := Fin.ext (show 2 * n.val / 2 = n.val by omega)
        have h2 : (sl ⟨2 * n.val, by omega⟩).val = 0 := show 2 * n.val % 2 = 0 by omega
        exact ⟨h1, by unfold ch pick; rw [h1, if_pos h2]; exact h'⟩
      · refine ⟨⟨2 * n.val + 1, by omega⟩, ?_⟩
        have h1 : tk ⟨2 * n.val + 1, by omega⟩ = n := Fin.ext (show (2 * n.val + 1) / 2 = n.val by omega)
        have h2 : ¬ (sl ⟨2 * n.val + 1, by omega⟩).val = 0 := show ¬ (2 * n.val + 1) % 2 = 0 by omega
        exact ⟨h1, by unfold ch pick; rw [h1, if_neg h2]; exact h'⟩
    obtain ⟨j, hjn, hje⟩ := hj
    refine Routing.scatter_set_hit dn x _ upd _ v (fun k hk => ?_) (ix1 j) ((hl j n e q).2 ⟨hjn, hje, by rw [hjn, hje]; exact h.2⟩)
    rw [eq_ix1 k] at hk ⊢
    obtain ⟨h1, h2, -⟩ := (hl _ n e q).1 hk
    exact hv _ h1 h2
  · rw [if_neg h, ← hz]
    refine Routing.scatter_set_miss dn x _ upd _ fun k hk => h ?_
    rw [eq_ix1 k] at hk
    obtain ⟨h1, h2, h3⟩ := (hl _ n e q).1 hk
    rw [h1, h2] at h3
    refine ⟨?_, h3⟩
    unfold ch pick at h2
    rw [h1] at h2
    split at h2
    · exact Or.inl h2
    · exact Or.inr h2

/-- The routing weights: a chosen probability over the sum of the two and the constant. -/
theorem weights_at (x : Vec Ideal S1x2048x2 .f32) (n : Fin 2048) (k : Fin 2) :
    (Host.divf (F := Ideal) (φ := .f32) x (broadcastInDim S1x2048x2 ![0, 1, 2] Gen.bcast_S1x2048x1_S1x2048x2_0_1_2 (addf (F := Ideal) (φ := .f32) (broadcastInDim S1x2048x1 ![0, 1] Gen.bcast_S1x2048_S1x2048x1_0_1 (Host.reduceAdd (F := Ideal) x (constant (F := Ideal) S_ .f32 0x00000000#32) Gen.reducesTo_S1x2048x2_S1x2048_d2 Gen.h_S_)) (broadcastInDim S1x2048x1 ![] Gen.bcast_S_S1x2048x1 (constant (F := Ideal) S_ .f32 0x322BCC77#32)))) : Vec Ideal S1x2048x2 .f32) (ix3 0 n k)
    = Ideal.div (x (ix3 0 n k)) ((∑ k : Fin 2, x (ix3 0 n k)) + Ideal.ofBits .f32 0x322BCC77#32) := by
  pointwise

/-- Summing a [1, 2048, 8] array over its tokens. -/
theorem sum_tokens (v : Vec Ideal S1x2048x8 .f32) (z : EReal) (e : Fin 8) :
    Ideal.hostReduceAdd Gen.reducesTo_S1x2048x8_S8_d0_1 v z (ix1 e) = z + ∑ n : Fin 2048, v (ix3 0 n e) := by
  refine congrArg (z + ·) (Finset.sum_filter_eq_sum_of_fiber _ (fun n : Fin 2048 => (ix3 (0 : Fin 1) n e : S1x2048x8.Idx)) (fun _ _ h => congrFun h 1) (fun i => ?_) v)
  constructor
  · intro h
    refine ⟨i 1, ?_⟩
    rw [eq_ix3 i]
    have h2 : (i 2).val = e.val := congrArg Fin.val (congrFun h 0)
    have h0 : i 0 = (0 : Fin 1) := Subsingleton.elim (α := Fin 1) _ _
    have h2' : (i 2 : Fin 8) = e := Fin.ext h2
    show ix3 (0 : Fin 1) (i 1 : Fin 2048) e = ix3 (i 0 : Fin 1) (i 1 : Fin 2048) (i 2 : Fin 8)
    rw [h0, h2']
    rfl
  · rintro ⟨n, rfl⟩
    funext b
    match b with
    | ⟨0, _⟩ => rfl

/-- Summing a [1, 2048, 2, 8] array over its tokens and slots. -/
theorem sum_choices (v : Vec Ideal S1x2048x2x8 .f32) (z : EReal) (e : Fin 8) :
    Ideal.hostReduceAdd Gen.reducesTo_S1x2048x2x8_S8_d0_1_2 v z (ix1 e) = z + ∑ n : Fin 2048, ∑ k : Fin 2, v (ix4 0 n k e) := by
  refine congrArg (z + ·) ((Finset.sum_filter_eq_sum_of_fiber _ (fun p : Fin 2048 × Fin 2 => (ix4 (0 : Fin 1) p.1 p.2 e : S1x2048x2x8.Idx))
    (fun _ _ h => Prod.ext (congrFun h 1) (congrFun h 2)) (fun i => ?_) v).trans (by simp only [Fintype.sum_prod_type]))
  constructor
  · intro h
    refine ⟨(i 1, i 2), ?_⟩
    rw [eq_ix4 i]
    have h3 : (i 3).val = e.val := congrArg Fin.val (congrFun h 0)
    have h0 : i 0 = (0 : Fin 1) := Subsingleton.elim (α := Fin 1) _ _
    have h3' : (i 3 : Fin 8) = e := Fin.ext h3
    show ix4 (0 : Fin 1) (i 1 : Fin 2048) (i 2 : Fin 2) e = ix4 (i 0 : Fin 1) (i 1 : Fin 2048) (i 2 : Fin 2) (i 3 : Fin 8)
    rw [h0, h3']
    rfl
  · rintro ⟨n, rfl⟩
    funext b
    match b with
    | ⟨0, _⟩ => rfl

/-- The one-hot array of the choices. -/
theorem choice_at (y : IVec S1x2048x2 32) (n : Fin 2048) (k : Fin 2) (e : Fin 8) :
    (uitofp (F := Ideal) .f32 (cmpi .eq (broadcastInDim S1x2048x2x8 ![0, 1, 2, 3] Gen.bcast_S1x2048x2x1_S1x2048x2x8_0_1_2_3 (broadcastInDim S1x2048x2x1 ![0, 1, 2] Gen.bcast_S1x2048x2_S1x2048x2x1_0_1_2 y)) (broadcastInDim S1x2048x2x8 ![0, 1, 2, 3] Gen.bcast_S1x1x1x8_S1x2048x2x8_0_1_2_3 (iotaInDim S1x1x1x8 32 3))) : Vec Ideal S1x2048x2x8 .f32) (ix4 0 n k e)
    = (((IntOp.cmpi .eq (y (ix3 0 n k)) (BitVec.ofNat 32 e.val)).toNat : ℝ) : EReal) := by
  pointwise
  rfl

/-- Comparing two experts' words, as a number. -/
theorem word_choice : ∀ a b : Fin 8, (IntOp.cmpi .eq (BitVec.ofNat 32 a.val) (BitVec.ofNat 32 b.val)).toNat = if a = b then 1 else 0 := by
  decide +kernel

/-- The choices of expert `e`, summed over all tokens: the length of its queue. -/
theorem uses_sum (e : Fin 8) : ∑ n : Fin 2048, ∑ k : Fin 2, (if pick (P n) k = e then 1 else 0) = cnt P 2048 e := by
  unfold cnt
  rw [Finset.sum_range]
  refine Finset.sum_congr rfl fun n _ => ?_
  rw [Fin.sum_univ_two]
  unfold uses pick
  rw [dif_pos n.isLt]
  rfl

/-- The auxiliary loss over any one-hot array. -/
theorem loss_at (x : Vec Ideal S1x2048x8 .f32) (w : Vec Ideal S1x2048x2x8 .f32) :
    (mulf (F := Ideal) (φ := .f32) (Host.reduceAdd (F := Ideal) (φ := .f32) (mulf (F := Ideal) (φ := .f32) (Host.divf (F := Ideal) (φ := .f32) (Host.reduceAdd (F := Ideal) (φ := .f32) x (constant (F := Ideal) S_ .f32 0x00000000#32) Gen.reducesTo_S1x2048x8_S8_d0_1 Gen.h_S_) (broadcastInDim S8 ![] Gen.bcast_S_S8 (constant (F := Ideal) S_ .f32 0x45000000#32))) (Host.divf (F := Ideal) (φ := .f32) (Host.reduceAdd (F := Ideal) (φ := .f32) w (constant (F := Ideal) S_ .f32 0x00000000#32) Gen.reducesTo_S1x2048x2x8_S8_d0_1_2 Gen.h_S_) (broadcastInDim S8 ![] Gen.bcast_S_S8 (constant (F := Ideal) S_ .f32 0x45800000#32)))) (constant (F := Ideal) S_ .f32 0x00000000#32) Gen.reducesTo_S8_S_d0 Gen.h_S_) (constant (F := Ideal) S_ .f32 0x41000000#32) : Vec Ideal S_ .f32) ix0
    = (∑ e : Fin 8, Ideal.div (∑ n : Fin 2048, x (ix3 0 n e)) (Ideal.ofBits .f32 0x45000000#32) * Ideal.div (∑ n : Fin 2048, ∑ k : Fin 2, w (ix4 0 n k e)) (Ideal.ofBits .f32 0x45800000#32)) * Ideal.ofBits .f32 0x41000000#32 := by
  pointwise
  simp only [sum_tokens, sum_choices, zero_add]

/-- The auxiliary loss of probabilities `x` and choices `y`. -/
theorem aux_at (x : Vec Ideal S1x2048x8 .f32) (y : IVec S1x2048x2 32) (hx : ∀ n e, x (ix3 0 n e) = ((P n e : ℝ) : EReal)) (hy : ∀ n k, y (ix3 0 n k) = BitVec.ofNat 32 (pick (P n) k).val) :
    (mulf (F := Ideal) (φ := .f32) (Host.reduceAdd (F := Ideal) (φ := .f32) (mulf (F := Ideal) (φ := .f32) (Host.divf (F := Ideal) (φ := .f32) (Host.reduceAdd (F := Ideal) (φ := .f32) x (constant (F := Ideal) S_ .f32 0x00000000#32) Gen.reducesTo_S1x2048x8_S8_d0_1 Gen.h_S_) (broadcastInDim S8 ![] Gen.bcast_S_S8 (constant (F := Ideal) S_ .f32 0x45000000#32))) (Host.divf (F := Ideal) (φ := .f32) (Host.reduceAdd (F := Ideal) (φ := .f32) (uitofp (F := Ideal) .f32 (cmpi .eq (broadcastInDim S1x2048x2x8 ![0, 1, 2, 3] Gen.bcast_S1x2048x2x1_S1x2048x2x8_0_1_2_3 (broadcastInDim S1x2048x2x1 ![0, 1, 2] Gen.bcast_S1x2048x2_S1x2048x2x1_0_1_2 y)) (broadcastInDim S1x2048x2x8 ![0, 1, 2, 3] Gen.bcast_S1x1x1x8_S1x2048x2x8_0_1_2_3 (iotaInDim S1x1x1x8 32 3)))) (constant (F := Ideal) S_ .f32 0x00000000#32) Gen.reducesTo_S1x2048x2x8_S8_d0_1_2 Gen.h_S_) (broadcastInDim S8 ![] Gen.bcast_S_S8 (constant (F := Ideal) S_ .f32 0x45800000#32)))) (constant (F := Ideal) S_ .f32 0x00000000#32) Gen.reducesTo_S8_S_d0 Gen.h_S_) (constant (F := Ideal) S_ .f32 0x41000000#32) : Vec Ideal S_ .f32) ix0
    = Cert.KernelIdeal.Route.auxv P := by
  have hc : ∀ e : Fin 8, ∑ n : Fin 2048, ∑ k : Fin 2, (((IntOp.cmpi .eq (y (ix3 0 n k)) (BitVec.ofNat 32 e.val)).toNat : ℝ) : EReal) = (((cnt P 2048 e : ℕ) : ℝ) : EReal) := fun e => by
    rw [← uses_sum]
    simp only [hy, word_choice, esum]
    norm_cast
  rw [loss_at]
  unfold Cert.KernelIdeal.Route.auxv
  refine congrArg₂ HMul.hMul (Finset.sum_congr rfl fun e _ => congrArg₂ HMul.hMul (congrArg₂ Ideal.div ?_ rfl) (congrArg₂ Ideal.div ?_ rfl)) rfl
  · exact Finset.sum_congr rfl fun n _ => hx n e
  · rw [← hc e]
    exact Finset.sum_congr rfl fun n _ => Finset.sum_congr rfl fun k _ => choice_at y n k e

end Cert.ReferenceIdeal.Value
-- ==== Proof.RefValue.lean ====
/-
The reference's four results at an index, in the terms of the router's specification.
-/
module

public import proofs.«01_k».proof.Proof.RefScatter

@[expose] public section

set_option maxRecDepth 16384

noncomputable section

namespace Cert.ReferenceIdeal.Value

open Cert.ReferenceIdeal Cert.Router
open Idealize.ShloMosaic Idealize.ShloMosaic.TcCoe
open Cert.KernelIdeal.Route (taken wgt auxv)

variable (V0 : Valuation τ sig (Elt Ideal))
variable (P : Fin 2048 → Fin 8 → ℝ) (hP : ∀ n e, (res_main_v20 V0 : Vec Ideal S1x2048x8 .f32) (ix3 0 n e) = ((P n e : ℝ) : EReal))

/-- The indices the reference scatters at. -/
abbrev places : IVec S4096x4 32 := cols (res_main_v40 V0) (res_main_v41 V0) (res_main_v27 V0) (res_main_v37 V0)

/-- The all-zero operand of the scatters. -/
def zeros : Vec Ideal S1x2048x8x768 .f32 := broadcastInDim S1x2048x8x768 ![] Gen.bcast_S_S1x2048x8x768 (constant (F := Ideal) S_ .f32 0x00000000#32)

/-- The scatters' operand is zero everywhere. -/
theorem zeros_at (n : Fin 2048) (e : Fin 8) (q : Fin 768) : zeros (ix4 0 n e q) = 0 := by
  unfold zeros
  pointwise

/-- The updates of the dispatch mask. -/
def ones : Vec Ideal S4096 .f32 := broadcastInDim S4096 ![] Gen.bcast_S_S4096 (constant (F := Ideal) S_ .f32 0x3F800000#32)

/-- The dispatch mask's updates are one everywhere. -/
theorem ones_at (j : Fin 4096) : ones (ix1 j) = 1 := by
  unfold ones
  pointwise

/-- The routing weights of values `x`, token by token. -/
def weights (x : Vec Ideal S1x2048x2 .f32) : Vec Ideal S1x2048x2 .f32 :=
  Host.divf (F := Ideal) (φ := .f32) x (broadcastInDim S1x2048x2 ![0, 1, 2] Gen.bcast_S1x2048x1_S1x2048x2_0_1_2 (addf (F := Ideal) (φ := .f32) (broadcastInDim S1x2048x1 ![0, 1] Gen.bcast_S1x2048_S1x2048x1_0_1 (Host.reduceAdd (F := Ideal) x (constant (F := Ideal) S_ .f32 0x00000000#32) Gen.reducesTo_S1x2048x2_S1x2048_d2 Gen.h_S_)) (broadcastInDim S1x2048x1 ![] Gen.bcast_S_S1x2048x1 (constant (F := Ideal) S_ .f32 0x322BCC77#32))))

/-- The updates of the combine weights. -/
def flatWeights (x : Vec Ideal S1x2048x2 .f32) : Vec Ideal S4096 .f32 := shapeCast S4096 (weights x) Gen.shapeCasts_S1x2048x2_S4096

/-- The update of entry `j` is the weight of its token and expert. -/
theorem flatWeights_at (x : Vec Ideal S1x2048x2 .f32) (hx : ∀ n k, x (ix3 0 n k) = ((P n (pick (P n) k) : ℝ) : EReal)) (j : Fin 4096) :
    flatWeights x (ix1 j) = wgt P (tk j) (ch P j) := by
  refine (flat_at (weights x) j).trans ((weights_at x (tk j) (sl j)).trans ?_)
  rw [Fin.sum_univ_two, hx, hx, hx]
  rfl

include hP in
/-- The dispatch mask: one where the token's expert has the token at that place of its queue. -/
theorem disp_at (n : Fin 2048) (e : Fin 8) (q : Fin 768) :
    Host.scatter dn (fun _ b => b) zeros (places V0) ones (ix4 0 n e q) = if taken P n e q.val then (1 : EReal) else 0 :=
  scatter_at P _ _ _ _ (v40_at V0) (v41_at V0) (v27_at V0 P hP) (v37_at V0 P hP) zeros ones n e q 1 0 (fun j _ _ => ones_at j) (zeros_at n e q)

include hP in
/-- The combine weights. -/
theorem comb_at (n : Fin 2048) (e : Fin 8) (q : Fin 768) :
    Host.scatter dn (fun _ b => b) zeros (places V0) (flatWeights (res_main_values V0)) (ix4 0 n e q) = if taken P n e q.val then wgt P n e else 0 :=
  scatter_at P _ _ _ _ (v40_at V0) (v41_at V0) (v27_at V0 P hP) (v37_at V0 P hP) zeros _ n e q (wgt P n e) 0
    (fun j hn he => by rw [flatWeights_at P _ (values_at V0 P hP) j, hn, he]) (zeros_at n e q)

end Cert.ReferenceIdeal.Value
-- ==== Proof.Value.lean ====
/-
The value claim: from arguments that are all finite, the kernel's four results are the reference's.
-/
module

public import proofs.«01_k».proof.Defs
public import proofs.«01_k».proof.Proof.Gen.Pre_finite
public import proofs.«01_k».proof.Proof.KHost
public import proofs.«01_k».proof.Proof.RefValue

@[expose] public section

set_option maxRecDepth 16384

noncomputable section

namespace Cert.Value

open Cert.Router
open Idealize.ShloMosaic Idealize.ShloMosaic.TcCoe Idealize.SL.Sem
open Cert.KernelIdeal.Run (W8 W8_arg run_all mem_uc ax aw1 ab1 aw2 ab2)
open Cert.KernelIdeal.Route (prob)

/-! ## Finite arguments are real -/

/-- A value whose absolute value is below infinity is a real. -/
theorem real_of_abs_lt (a : EReal) (h : BitVec.ofBool (decide (max a (-a) < Ideal.ofBits .f32 0x7F800000#32)) = 1#1) : ∃ r : ℝ, a = (r : EReal) := by
  rw [pos_inf] at h
  have h' : max a (-a) < ⊤ := by
    by_contra q
    rw [decide_eq_false q] at h
    exact absurd h (by decide)
  induction a with
  | bot => simp at h'
  | coe r => exact ⟨r, rfl⟩
  | top => simp at h'

variable (m : (ℓ : Loc Cert.KernelIdeal.nD Cert.KernelIdeal.τ Cert.KernelIdeal.sig) → Buf (Elt Ideal) ℓ)

/-- Under the precondition the logits are real. -/
theorem logits (hm : Pre_KernelIdeal_finite m) (c : Dev Cert.KernelIdeal.nD) :
    ∃ L : Fin 2048 → Fin 8 → ℝ, ∀ n e, lg (ax m c) (aw1 m c) (ab1 m c) (aw2 m c) (ab2 m c) n e = ((L n e : ℝ) : EReal) := by
  obtain ⟨h0, h1, h2, h3, h4⟩ := hm c
  exact lg_real _ _ _ _ _ (fun n k => real_of_abs_lt _ (congrFun h0 (ix3 0 n k))) (fun k h => real_of_abs_lt _ (congrFun h1 (ix2 k h)))
    (fun h => real_of_abs_lt _ (congrFun h2 (ix1 h))) (fun h e => real_of_abs_lt _ (congrFun h3 (ix2 h e))) (fun e => real_of_abs_lt _ (congrFun h4 (ix1 e)))

/-! ## The reference's results are the kernel's -/

variable (m' : (ℓ : Loc Cert.ReferenceIdeal.nD Cert.ReferenceIdeal.τ Cert.ReferenceIdeal.sig) → Buf (Elt Ideal) ℓ) (c : Dev Cert.KernelIdeal.nD)

/-- The two memories hold the same arguments on device `c`. -/
def Same : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)

/-- The reference's buffers before its run. -/
abbrev V0 : Valuation Cert.ReferenceIdeal.τ Cert.ReferenceIdeal.sig (Elt Ideal) := StableHlo.launchContents m' c

variable (hs : Same m m' c) (L : Fin 2048 → Fin 8 → ℝ)
variable (hL : ∀ n e, lg (ax m c) (aw1 m c) (ab1 m c) (aw2 m c) (ab2 m c) n e = ((L n e : ℝ) : EReal))

include hs hL in
/-- The reference's probabilities. -/
theorem refProb (n : Fin 2048) (e : Fin 8) :
    (Cert.ReferenceIdeal.Value.res_main_v20 (V0 m' c) : Vec Ideal Cert.ReferenceIdeal.S1x2048x8 .f32) (ix3 0 n e) = ((prob L n e : ℝ) : EReal) := by
  obtain ⟨e0, e1, e2, e3, e4⟩ := hs
  have h0 : Cert.ReferenceIdeal.Value.rx (V0 m' c) = ax m c := funext fun n => funext fun k => congrFun e0 (ix3 0 n k)
  have h1 : Cert.ReferenceIdeal.Value.rw1 (V0 m' c) = aw1 m c := funext fun k => funext fun h => congrFun e1 (ix2 k h)
  have h2 : Cert.ReferenceIdeal.Value.rb1 (V0 m' c) = ab1 m c := funext fun h => congrFun e2 (ix1 h)
  have h3 : Cert.ReferenceIdeal.Value.rw2 (V0 m' c) = aw2 m c := funext fun h => funext fun e => congrFun e3 (ix2 h e)
  have h4 : Cert.ReferenceIdeal.Value.rb2 (V0 m' c) = ab2 m c := funext fun e => congrFun e4 (ix1 e)
  refine Cert.ReferenceIdeal.Value.v20_at (V0 m' c) L (fun n e => ?_) n e
  rw [Cert.ReferenceIdeal.Value.v9_at, h0, h1, h2, h3, h4]
  exact hL n e

include hs hL in
/-- The dispatch masks agree. -/
theorem disp_eq : Host.scatter Cert.ReferenceIdeal.Value.dn (fun _ b => b) Cert.ReferenceIdeal.Value.zeros (Cert.ReferenceIdeal.Value.places (V0 m' c)) Cert.ReferenceIdeal.Value.ones
    = (W8 m c (Proc.devRef .tc Cert.KernelIdeal.main_v6_1) : Vec Ideal Cert.KernelIdeal.S1x2048x8x768 .f32) := by
  funext i
  obtain ⟨n, e, q, rfl⟩ : ∃ (n : Fin 2048) (e : Fin 8) (q : Fin 768), i = ix4 0 n e q := ⟨i 1, i 2, i 3, by
    rw [eq_ix4 i]
    have h0 : i 0 = (0 : Fin 1) := Subsingleton.elim (α := Fin 1) _ _
    rw [h0]; rfl⟩
  exact (Cert.ReferenceIdeal.Value.disp_at (V0 m' c) (prob L) (refProb m m' c hs L hL) n e q).trans (Cert.KernelIdeal.Run.disp_at m c L hL n e q).symm

include hs hL in
/-- The combine weights agree. -/
theorem comb_eq : Host.scatter Cert.ReferenceIdeal.Value.dn (fun _ b => b) Cert.ReferenceIdeal.Value.zeros (Cert.ReferenceIdeal.Value.places (V0 m' c))
      (Cert.ReferenceIdeal.Value.flatWeights (Cert.ReferenceIdeal.Value.res_main_values (V0 m' c)))
    = (W8 m c (Proc.devRef .tc Cert.KernelIdeal.main_v6_2) : Vec Ideal Cert.KernelIdeal.S1x2048x8x768 .f32) := by
  funext i
  obtain ⟨n, e, q, rfl⟩ : ∃ (n : Fin 2048) (e : Fin 8) (q : Fin 768), i = ix4 0 n e q := ⟨i 1, i 2, i 3, by
    rw [eq_ix4 i]
    have h0 : i 0 = (0 : Fin 1) := Subsingleton.elim (α := Fin 1) _ _
    rw [h0]; rfl⟩
  exact (Cert.ReferenceIdeal.Value.comb_at (V0 m' c) (prob L) (refProb m m' c hs L hL) n e q).trans (Cert.KernelIdeal.Run.comb_at m c L hL n e q).symm

include hs hL in
/-- The probabilities agree. -/
theorem probs_eq : (Cert.ReferenceIdeal.Value.res_main_v20 (V0 m' c) : Vec Ideal Cert.ReferenceIdeal.S1x2048x8 .f32)
    = (W8 m c (Proc.devRef .tc Cert.KernelIdeal.main_v8) : Vec Ideal Cert.KernelIdeal.S1x2048x8 .f32) := by
  funext i
  obtain ⟨n, e, rfl⟩ : ∃ (n : Fin 2048) (e : Fin 8), i = ix3 0 n e := ⟨i 1, i 2, by
    rw [eq_ix3 i]
    have h0 : i 0 = (0 : Fin 1) := Subsingleton.elim (α := Fin 1) _ _
    rw [h0]; rfl⟩
  exact (refProb m m' c hs L hL n e).trans (Cert.KernelIdeal.Run.probs_at m c L hL n e).symm

/-- The reference's results are the kernel's, on every device. -/
theorem algebraic : Cert.algebraic_KernelIdeal_ReferenceIdeal_pre_finite := by
  intro m g m' g' hm hs
  refine ⟨fun c => W8 m c (Proc.devRef .tc Cert.KernelIdeal.main_v6_1), fun c => W8 m c (Proc.devRef .tc Cert.KernelIdeal.main_v6_2),
    fun c => W8 m c (Proc.devRef .tc Cert.KernelIdeal.main_v8), fun c => W8 m c (Proc.devRef .tc Cert.KernelIdeal.main_v9), ?_, ?_⟩
  · refine (θ_run Cert.KernelIdeal.defs _ _).mono (fun r h c => ?_) (run_all (F := Ideal) m g)
    have at_ (b : Ref Cert.KernelIdeal.sig .tc) (hb : ¬ (Proc.devRef .tc b : DevRef Cert.KernelIdeal.τ Cert.KernelIdeal.sig).isScoped) :
        r.2.mem ((c.tc : Thread Cert.KernelIdeal.nD Cert.KernelIdeal.τ).loc b) = W8 m c (Proc.devRef .tc b) := h.1 c _ (mem_uc b hb)
    exact ⟨at_ _ (by decide), at_ _ (by decide), at_ _ (by decide), at_ _ (by decide),
      (at_ Cert.KernelIdeal.main_arg0 (by decide)).trans (W8_arg m c _ (by decide) (by decide) (by decide) (by decide) (by decide) (by decide) (by decide) (by decide) (by decide) (by decide) (by decide)),
      (at_ Cert.KernelIdeal.main_arg1 (by decide)).trans (W8_arg m c _ (by decide) (by decide) (by decide) (by decide) (by decide) (by decide) (by decide) (by decide) (by decide) (by decide) (by decide)),
      (at_ Cert.KernelIdeal.main_arg2 (by decide)).trans (W8_arg m c _ (by decide) (by decide) (by decide) (by decide) (by decide) (by decide) (by decide) (by decide) (by decide) (by decide) (by decide)),
      (at_ Cert.KernelIdeal.main_arg3 (by decide)).trans (W8_arg m c _ (by decide) (by decide) (by decide) (by decide) (by decide) (by decide) (by decide) (by decide) (by decide) (by decide) (by decide)),
      (at_ Cert.KernelIdeal.main_arg4 (by decide)).trans (W8_arg m c _ (by decide) (by decide) (by decide) (by decide) (by decide) (by decide) (by decide) (by decide) (by decide) (by decide) (by decide))⟩
  · refine (θ_run Cert.ReferenceIdeal.defs _ _).mono (fun r h c => ?_) (Cert.ReferenceIdeal.Value.run (F := Ideal) m' g')
    obtain ⟨L, hL⟩ := logits m hm c
    obtain ⟨r0, r1, r2, r3, rest⟩ := h c
    refine ⟨r0.trans (disp_eq m m' c (hs c) L hL), r1.trans (comb_eq m m' c (hs c) L hL), r2.trans (probs_eq m m' c (hs c) L hL), r3.trans ?_, rest⟩
    funext i
    have hP := refProb m m' c (hs c) L hL
    rw [show i = ix0 from funext fun a => a.elim0]
    exact (Cert.ReferenceIdeal.Value.aux_at (prob L) _ _ hP (Cert.ReferenceIdeal.Value.indices_at (V0 m' c) (prob L) hP)).trans (Cert.KernelIdeal.Run.aux_at m c L hL).symm

end Cert.Value
-- ==== Proof.lean ====
/-
The certificate's claim: the kernel, its idealisation and the reference run and leave their arguments and their counters
as they found them, and from finite arguments the idealised kernel's four results are the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts, Cert.Pre_finite.Gen.facts,
  Cert.Frames.kernel, Cert.Frames.kernelIdeal, fun m g _ => Cert.Frames.kernelIdeal m g trivial,
  Cert.Frames.reference, fun m g _ => Cert.Frames.reference m g trivial, trivial, Cert.Value.algebraic⟩

end Cert.Proof

end
